-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Kernel33Ideal_finite_rows [hPre_finite_rows : Cert.Pre_finite_rows.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_finite_rows.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_finite_rows [hPre_finite_rows : Cert.Pre_finite_rows.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_finite_rows.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2))) = (fun _ => 1#1)

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite_loss [hPre_finite_loss : Cert.Pre_finite_loss.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite_loss.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite_loss [hPre_finite_loss : Cert.Pre_finite_loss.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite_loss.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7)
      ∧ r.2.mem ((c.tc : Thread Cert.Kernel22.nD Cert.Kernel22.τ).loc Cert.Kernel22.main_arg8) = m ((c.tc : Thread Cert.Kernel22.nD Cert.Kernel22.τ).loc Cert.Kernel22.main_arg8))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
      ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7)
      ∧ r.2.mem ((c.tc : Thread Cert.Reference22Ideal.nD Cert.Reference22Ideal.τ).loc Cert.Reference22Ideal.main_arg8) = m ((c.tc : Thread Cert.Reference22Ideal.nD Cert.Reference22Ideal.τ).loc Cert.Reference22Ideal.main_arg8))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Kernel33Ideal_pre_finite_rows [hKernel33Ideal : Cert.Kernel33Ideal.Facts] [hPre_finite_rows : Cert.Pre_finite_rows.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal_finite_rows m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Reference33Ideal_pre_finite_rows [hReference33Ideal : Cert.Reference33Ideal.Facts] [hPre_finite_rows : Cert.Pre_finite_rows.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_finite_rows m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Kernel34Ideal_pre_finite_loss [hKernel34Ideal : Cert.Kernel34Ideal.Facts] [hPre_finite_loss : Cert.Pre_finite_loss.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite_loss m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Reference34Ideal_pre_finite_loss [hReference34Ideal : Cert.Reference34Ideal.Facts] [hPre_finite_loss : Cert.Pre_finite_loss.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite_loss m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v25) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v9) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)) (v3 : (c : Dev Cert.Kernel13Ideal.nD) → Buf (Elt Ideal) ((c.tc : Thread Cert.Kernel13Ideal.nD Cert.Kernel13Ideal.τ).loc Cert.Kernel13Ideal.main_v1_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_v1_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_v28) = v1 c
          ∧ r.2.mem ((c.tc : Thread Cert.Reference13Ideal.nD Cert.Reference13Ideal.τ).loc Cert.Reference13Ideal.main_v9) = v2 c
          ∧ r.2.mem ((c.tc : Thread Cert.Reference13Ideal.nD Cert.Reference13Ideal.τ).loc Cert.Reference13Ideal.main_v15) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)) (v2 : (c : Dev Cert.Kernel14Ideal.nD) → Buf (Elt Ideal) ((c.tc : Thread Cert.Kernel14Ideal.nD Cert.Kernel14Ideal.τ).loc Cert.Kernel14Ideal.main_v1_2)) (v3 : (c : Dev Cert.Kernel14Ideal.nD) → Buf (Elt Ideal) ((c.tc : Thread Cert.Kernel14Ideal.nD Cert.Kernel14Ideal.τ).loc Cert.Kernel14Ideal.main_v1_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_v1_2) = v2 c
          ∧ r.2.mem ((c.tc : Thread Cert.Kernel14Ideal.nD Cert.Kernel14Ideal.τ).loc Cert.Kernel14Ideal.main_v1_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_v28) = v1 c
          ∧ r.2.mem ((c.tc : Thread Cert.Reference14Ideal.nD Cert.Reference14Ideal.τ).loc Cert.Reference14Ideal.main_v9) = v2 c
          ∧ r.2.mem ((c.tc : Thread Cert.Reference14Ideal.nD Cert.Reference14Ideal.τ).loc Cert.Reference14Ideal.main_v15) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)) (v2 : (c : Dev Cert.Kernel15Ideal.nD) → Buf (Elt Ideal) ((c.tc : Thread Cert.Kernel15Ideal.nD Cert.Kernel15Ideal.τ).loc Cert.Kernel15Ideal.main_v1_2)) (v3 : (c : Dev Cert.Kernel15Ideal.nD) → Buf (Elt Ideal) ((c.tc : Thread Cert.Kernel15Ideal.nD Cert.Kernel15Ideal.τ).loc Cert.Kernel15Ideal.main_v1_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_v1_2) = v2 c
          ∧ r.2.mem ((c.tc : Thread Cert.Kernel15Ideal.nD Cert.Kernel15Ideal.τ).loc Cert.Kernel15Ideal.main_v1_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v3)) (v1 : (c : Dev Cert.Kernel16Ideal.nD) → Buf (Elt Ideal) ((c.tc : Thread Cert.Kernel16Ideal.nD Cert.Kernel16Ideal.τ).loc Cert.Kernel16Ideal.main_v5)) (v2 : (c : Dev Cert.Kernel16Ideal.nD) → Buf (Elt Ideal) ((c.tc : Thread Cert.Kernel16Ideal.nD Cert.Kernel16Ideal.τ).loc Cert.Kernel16Ideal.main_v7)) (v3 : (c : Dev Cert.Kernel16Ideal.nD) → Buf (Elt Ideal) ((c.tc : Thread Cert.Kernel16Ideal.nD Cert.Kernel16Ideal.τ).loc Cert.Kernel16Ideal.main_v9)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_v5) = v1 c
          ∧ r.2.mem ((c.tc : Thread Cert.Kernel16Ideal.nD Cert.Kernel16Ideal.τ).loc Cert.Kernel16Ideal.main_v7) = v2 c
          ∧ r.2.mem ((c.tc : Thread Cert.Kernel16Ideal.nD Cert.Kernel16Ideal.τ).loc Cert.Kernel16Ideal.main_v9) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v10) = v0 c
          ∧ r.2.mem ((c.tc : Thread Cert.Reference16Ideal.nD Cert.Reference16Ideal.τ).loc Cert.Reference16Ideal.main_v34) = v1 c
          ∧ r.2.mem ((c.tc : Thread Cert.Reference16Ideal.nD Cert.Reference16Ideal.τ).loc Cert.Reference16Ideal.main_v15) = v2 c
          ∧ r.2.mem ((c.tc : Thread Cert.Reference16Ideal.nD Cert.Reference16Ideal.τ).loc Cert.Reference16Ideal.main_v21) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v39) = v0 c
          ∧ r.2.mem ((c.tc : Thread Cert.Reference17Ideal.nD Cert.Reference17Ideal.τ).loc Cert.Reference17Ideal.main_v44) = v1 c
          ∧ r.2.mem ((c.tc : Thread Cert.Reference17Ideal.nD Cert.Reference17Ideal.τ).loc Cert.Reference17Ideal.main_v49) = v2 c
          ∧ r.2.mem ((c.tc : Thread Cert.Reference17Ideal.nD Cert.Reference17Ideal.τ).loc Cert.Reference17Ideal.main_v54) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)) (v2 : (c : Dev Cert.Kernel18Ideal.nD) → Buf (Elt Ideal) ((c.tc : Thread Cert.Kernel18Ideal.nD Cert.Kernel18Ideal.τ).loc Cert.Kernel18Ideal.main_v1_2)) (v3 : (c : Dev Cert.Kernel18Ideal.nD) → Buf (Elt Ideal) ((c.tc : Thread Cert.Kernel18Ideal.nD Cert.Kernel18Ideal.τ).loc Cert.Kernel18Ideal.main_v1_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_v1_2) = v2 c
          ∧ r.2.mem ((c.tc : Thread Cert.Kernel18Ideal.nD Cert.Kernel18Ideal.τ).loc Cert.Kernel18Ideal.main_v1_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg0) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v3)) (v1 : (c : Dev Cert.Kernel21Ideal.nD) → Buf (Elt Ideal) ((c.tc : Thread Cert.Kernel21Ideal.nD Cert.Kernel21Ideal.τ).loc Cert.Kernel21Ideal.main_v5)) (v2 : (c : Dev Cert.Kernel21Ideal.nD) → Buf (Elt Ideal) ((c.tc : Thread Cert.Kernel21Ideal.nD Cert.Kernel21Ideal.τ).loc Cert.Kernel21Ideal.main_v7)) (v3 : (c : Dev Cert.Kernel21Ideal.nD) → Buf (Elt Ideal) ((c.tc : Thread Cert.Kernel21Ideal.nD Cert.Kernel21Ideal.τ).loc Cert.Kernel21Ideal.main_v9)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_v5) = v1 c
          ∧ r.2.mem ((c.tc : Thread Cert.Kernel21Ideal.nD Cert.Kernel21Ideal.τ).loc Cert.Kernel21Ideal.main_v7) = v2 c
          ∧ r.2.mem ((c.tc : Thread Cert.Kernel21Ideal.nD Cert.Kernel21Ideal.τ).loc Cert.Kernel21Ideal.main_v9) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v10) = v0 c
          ∧ r.2.mem ((c.tc : Thread Cert.Reference21Ideal.nD Cert.Reference21Ideal.τ).loc Cert.Reference21Ideal.main_v34) = v1 c
          ∧ r.2.mem ((c.tc : Thread Cert.Reference21Ideal.nD Cert.Reference21Ideal.τ).loc Cert.Reference21Ideal.main_v15) = v2 c
          ∧ r.2.mem ((c.tc : Thread Cert.Reference21Ideal.nD Cert.Reference21Ideal.τ).loc Cert.Reference21Ideal.main_v21) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)
      ∧ m' ((c.tc : Thread Cert.Reference22Ideal.nD Cert.Reference22Ideal.τ).loc Cert.Reference22Ideal.main_arg8) = m ((c.tc : Thread Cert.Kernel22Ideal.nD Cert.Kernel22Ideal.τ).loc Cert.Kernel22Ideal.main_arg8)) →
    ∃ (v0 : (c : Dev Cert.Kernel22Ideal.nD) → Buf (Elt Ideal) ((c.tc : Thread Cert.Kernel22Ideal.nD Cert.Kernel22Ideal.τ).loc Cert.Kernel22Ideal.main_v1_0)) (v1 : (c : Dev Cert.Kernel22Ideal.nD) → Buf (Elt Ideal) ((c.tc : Thread Cert.Kernel22Ideal.nD Cert.Kernel22Ideal.τ).loc Cert.Kernel22Ideal.main_v1_1)) (v2 : (c : Dev Cert.Kernel22Ideal.nD) → Buf (Elt Ideal) ((c.tc : Thread Cert.Kernel22Ideal.nD Cert.Kernel22Ideal.τ).loc Cert.Kernel22Ideal.main_v1_2)) (v3 : (c : Dev Cert.Kernel22Ideal.nD) → Buf (Elt Ideal) ((c.tc : Thread Cert.Kernel22Ideal.nD Cert.Kernel22Ideal.τ).loc Cert.Kernel22Ideal.main_v1_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1_0) = v0 c
          ∧ r.2.mem ((c.tc : Thread Cert.Kernel22Ideal.nD Cert.Kernel22Ideal.τ).loc Cert.Kernel22Ideal.main_v1_1) = v1 c
          ∧ r.2.mem ((c.tc : Thread Cert.Kernel22Ideal.nD Cert.Kernel22Ideal.τ).loc Cert.Kernel22Ideal.main_v1_2) = v2 c
          ∧ r.2.mem ((c.tc : Thread Cert.Kernel22Ideal.nD Cert.Kernel22Ideal.τ).loc Cert.Kernel22Ideal.main_v1_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7)
          ∧ r.2.mem ((c.tc : Thread Cert.Kernel22Ideal.nD Cert.Kernel22Ideal.τ).loc Cert.Kernel22Ideal.main_arg8) = m ((c.tc : Thread Cert.Kernel22Ideal.nD Cert.Kernel22Ideal.τ).loc Cert.Kernel22Ideal.main_arg8))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v39) = v0 c
          ∧ r.2.mem ((c.tc : Thread Cert.Reference22Ideal.nD Cert.Reference22Ideal.τ).loc Cert.Reference22Ideal.main_v44) = v1 c
          ∧ r.2.mem ((c.tc : Thread Cert.Reference22Ideal.nD Cert.Reference22Ideal.τ).loc Cert.Reference22Ideal.main_v49) = v2 c
          ∧ r.2.mem ((c.tc : Thread Cert.Reference22Ideal.nD Cert.Reference22Ideal.τ).loc Cert.Reference22Ideal.main_v54) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7)
          ∧ r.2.mem ((c.tc : Thread Cert.Reference22Ideal.nD Cert.Reference22Ideal.τ).loc Cert.Reference22Ideal.main_arg8) = m' ((c.tc : Thread Cert.Reference22Ideal.nD Cert.Reference22Ideal.τ).loc Cert.Reference22Ideal.main_arg8))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v33) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v9) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v11) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_v31) = v1 c
          ∧ r.2.mem ((c.tc : Thread Cert.Reference28Ideal.nD Cert.Reference28Ideal.τ).loc Cert.Reference28Ideal.main_v32) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v25) = v0 c
          ∧ r.2.mem ((c.tc : Thread Cert.Reference29Ideal.nD Cert.Reference29Ideal.τ).loc Cert.Reference29Ideal.main_v26) = v1 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v0_2)) (v1 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_2) = v0 c
          ∧ r.2.mem ((c.tc : Thread Cert.Kernel30Ideal.nD Cert.Kernel30Ideal.τ).loc Cert.Kernel30Ideal.main_v0_3) = v1 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v36) = v0 c
          ∧ r.2.mem ((c.tc : Thread Cert.Reference30Ideal.nD Cert.Reference30Ideal.τ).loc Cert.Reference30Ideal.main_v35) = v1 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_3)) (v1 : (c : Dev Cert.Kernel31Ideal.nD) → Buf (Elt Ideal) ((c.tc : Thread Cert.Kernel31Ideal.nD Cert.Kernel31Ideal.τ).loc Cert.Kernel31Ideal.main_v0_4)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_3) = v0 c
          ∧ r.2.mem ((c.tc : Thread Cert.Kernel31Ideal.nD Cert.Kernel31Ideal.τ).loc Cert.Kernel31Ideal.main_v0_4) = v1 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v52) = v0 c
          ∧ r.2.mem ((c.tc : Thread Cert.Reference31Ideal.nD Cert.Reference31Ideal.τ).loc Cert.Reference31Ideal.main_v51) = v1 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0))

def preserves_Kernel33_Kernel33Ideal : Prop :=
  True

def algebraic_Kernel33Ideal_Reference33Ideal_pre_finite_rows [hKernel33Ideal : Cert.Kernel33Ideal.Facts] [hReference33Ideal : Cert.Reference33Ideal.Facts] [hPre_finite_rows : Cert.Pre_finite_rows.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal_finite_rows m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v56) = v0 c
          ∧ r.2.mem ((c.tc : Thread Cert.Reference33Ideal.nD Cert.Reference33Ideal.τ).loc Cert.Reference33Ideal.main_v57) = v1 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal_pre_finite_loss [hKernel34Ideal : Cert.Kernel34Ideal.Facts] [hReference34Ideal : Cert.Reference34Ideal.Facts] [hPre_finite_loss : Cert.Pre_finite_loss.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite_loss m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_1)) (v1 : (c : Dev Cert.Kernel34Ideal.nD) → Buf (Elt Ideal) ((c.tc : Thread Cert.Kernel34Ideal.nD Cert.Kernel34Ideal.τ).loc Cert.Kernel34Ideal.main_v0_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_1) = v0 c
          ∧ r.2.mem ((c.tc : Thread Cert.Kernel34Ideal.nD Cert.Kernel34Ideal.τ).loc Cert.Kernel34Ideal.main_v0_2) = v1 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v74) = v0 c
          ∧ r.2.mem ((c.tc : Thread Cert.Reference34Ideal.nD Cert.Reference34Ideal.τ).loc Cert.Reference34Ideal.main_v75) = v1 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hPre_finite : Cert.Pre_finite.Facts) (hPre_finite_rows : Cert.Pre_finite_rows.Facts) (hPre_finite_loss : Cert.Pre_finite_loss.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Kernel33Ideal_pre_finite_rows (hKernel33Ideal := hKernel33Ideal) (hPre_finite_rows := hPre_finite_rows)
    ∧ quiescent_Reference33Ideal (hReference33Ideal := hReference33Ideal)
    ∧ quiescent_Reference33Ideal_pre_finite_rows (hReference33Ideal := hReference33Ideal) (hPre_finite_rows := hPre_finite_rows)
    ∧ quiescent_Kernel34 (hKernel34 := hKernel34)
    ∧ quiescent_Kernel34Ideal (hKernel34Ideal := hKernel34Ideal)
    ∧ quiescent_Kernel34Ideal_pre_finite_loss (hKernel34Ideal := hKernel34Ideal) (hPre_finite_loss := hPre_finite_loss)
    ∧ quiescent_Reference34Ideal (hReference34Ideal := hReference34Ideal)
    ∧ quiescent_Reference34Ideal_pre_finite_loss (hReference34Ideal := hReference34Ideal) (hPre_finite_loss := hPre_finite_loss)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal_pre_finite_rows (hKernel33Ideal := hKernel33Ideal) (hReference33Ideal := hReference33Ideal) (hPre_finite_rows := hPre_finite_rows)
    ∧ preserves_Kernel34_Kernel34Ideal
    ∧ algebraic_Kernel34Ideal_Reference34Ideal_pre_finite_loss (hKernel34Ideal := hKernel34Ideal) (hReference34Ideal := hReference34Ideal) (hPre_finite_loss := hPre_finite_loss)
-- ==== Pre_finite.lean ====
abbrev S4x4096x2048 : Shape := ⟨3, ![4, 4096, 2048]⟩
abbrev S1x2048 : Shape := ⟨2, ![1, 2048]⟩
abbrev S4096x2048 : Shape := ⟨2, ![4096, 2048]⟩
abbrev S64x2048 : Shape := ⟨2, ![64, 2048]⟩
abbrev S_ : Shape := ⟨0, ![]⟩
abbrev S2x4096x2048 : Shape := ⟨3, ![2, 4096, 2048]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  slices_S4x4096x2048_S2x4096x2048_0_0_0 : S4x4096x2048.Slices ![0, 0, 0] S2x4096x2048
  bcast_S_S2x4096x2048 : S_.BroadcastsInDim S2x4096x2048 (![] : Fin 0 → Fin S2x4096x2048.rank)
  reducesTo_S2x4096x2048_S_d0_1_2 : S2x4096x2048.ReducesTo [0, 1, 2] S_
  bcast_S_S4096x2048 : S_.BroadcastsInDim S4096x2048 (![] : Fin 0 → Fin S4096x2048.rank)
  reducesTo_S4096x2048_S_d0_1 : S4096x2048.ReducesTo [0, 1] S_
  bcast_S_S64x2048 : S_.BroadcastsInDim S64x2048 (![] : Fin 0 → Fin S64x2048.rank)
  reducesTo_S64x2048_S_d0_1 : S64x2048.ReducesTo [0, 1] S_

variable [Facts]

def fn_part1 {F : FTy → Type} [FloatOps F] (main_arg3 : FVec F S4096x2048 .f32) (main_arg4 : FVec F S4096x2048 .f32) (main_arg7 : FVec F S64x2048 .f32) (main_v16 : IVec S_ 1) : IVec S_ 1 :=
  let main_v17 : FVec F S4096x2048 .f32 := Host.absf main_arg3
  let main_cst_5 : FVec F S_ .f32 := constant S_ .f32 0x7F800000#32
  let main_v18 : FVec F S4096x2048 .f32 := broadcastInDim S4096x2048 ![] bcast_S_S4096x2048 main_cst_5
  let main_v19 : IVec S4096x2048 1 := cmpf .olt main_v17 main_v18
  let main_c_6 : IVec S_ 1 := constantI S_ 1 1#1
  let main_v20 : IVec S_ 1 := (fun x v => Host.reduce IntOp.andi x v reducesTo_S4096x2048_S_d0_1 h_S_) main_v19 main_c_6
  let main_v21 : IVec S_ 1 := andi main_v16 main_v20
  let main_v22 : FVec F S4096x2048 .f32 := Host.absf main_arg4
  let main_cst_7 : FVec F S_ .f32 := constant S_ .f32 0x7F800000#32
  let main_v23 : FVec F S4096x2048 .f32 := broadcastInDim S4096x2048 ![] bcast_S_S4096x2048 main_cst_7
  let main_v24 : IVec S4096x2048 1 := cmpf .olt main_v22 main_v23
  let main_c_8 : IVec S_ 1 := constantI S_ 1 1#1
  let main_v25 : IVec S_ 1 := (fun x v => Host.reduce IntOp.andi x v reducesTo_S4096x2048_S_d0_1 h_S_) main_v24 main_c_8
  let main_v26 : IVec S_ 1 := andi main_v21 main_v25
  let main_v27 : FVec F S64x2048 .f32 := Host.absf main_arg7
  let main_cst_9 : FVec F S_ .f32 := constant S_ .f32 0x7F800000#32
  let main_v28 : FVec F S64x2048 .f32 := broadcastInDim S64x2048 ![] bcast_S_S64x2048 main_cst_9
  let main_v29 : IVec S64x2048 1 := cmpf .olt main_v27 main_v28
  let main_c_10 : IVec S_ 1 := constantI S_ 1 1#1
  let main_v30 : IVec S_ 1 := (fun x v => Host.reduce IntOp.andi x v reducesTo_S64x2048_S_d0_1 h_S_) main_v29 main_c_10
  let main_v31 : IVec S_ 1 := andi main_v26 main_v30
  main_v31

def fn {F : FTy → Type} [FloatOps F] (main_arg0 : FVec F S4x4096x2048 .f32) (main_arg1 : FVec F S1x2048 .f32) (main_arg2 : FVec F S4096x2048 .f32) (main_arg3 : FVec F S4096x2048 .f32) (main_arg4 : FVec F S4096x2048 .f32) (main_arg5 : FVec F S4096x2048 .bf16) (main_arg6 : FVec F S4096x2048 .bf16) (main_arg7 : FVec F S64x2048 .f32) : IVec S_ 1 :=
  let main_cst : FVec F S_ .f32 := constant S_ .f32 0x00000000#32
  let main_v0 : FVec F S1x2048 .f32 := broadcastInDim S1x2048 ![] bcast_S_S1x2048 main_cst
  let main_v1 : IVec S1x2048 1 := cmpf .oge main_arg1 main_v0
  let main_cst_0 : FVec F S_ .f32 := constant S_ .f32 0x3F800000#32
  let main_v2 : FVec F S1x2048 .f32 := broadcastInDim S1x2048 ![] bcast_S_S1x2048 main_cst_0
  let main_v3 : IVec S1x2048 1 := cmpf .ole main_arg1 main_v2
  let main_v4 : IVec S1x2048 1 := andi main_v1 main_v3
  let main_c : IVec S_ 1 := constantI S_ 1 1#1
  let main_v5 : IVec S_ 1 := (fun x v => Host.reduce IntOp.andi x v reducesTo_S1x2048_S_d0_1 h_S_) main_v4 main_c
  let main_v6 : FVec F S2x4096x2048 .f32 := (extractStridedSlice S2x4096x2048 ![0, 0, 0] · slices_S4x4096x2048_S2x4096x2048_0_0_0) main_arg0
  let main_v7 : FVec F S2x4096x2048 .f32 := Host.absf main_v6
  let main_cst_1 : FVec F S_ .f32 := constant S_ .f32 0x7F800000#32
  let main_v8 : FVec F S2x4096x2048 .f32 := broadcastInDim S2x4096x2048 ![] bcast_S_S2x4096x2048 main_cst_1
  let main_v9 : IVec S2x4096x2048 1 := cmpf .olt main_v7 main_v8
  let main_c_2 : IVec S_ 1 := constantI S_ 1 1#1
  let main_v10 : IVec S_ 1 := (fun x v => Host.reduce IntOp.andi x v reducesTo_S2x4096x2048_S_d0_1_2 h_S_) main_v9 main_c_2
  let main_v11 : IVec S_ 1 := andi main_v5 main_v10
  let main_v12 : FVec F S4096x2048 .f32 := Host.absf main_arg2
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_c_4 : IVec S_ 1 := constantI S_ 1 1#1
  let main_v15 : IVec S_ 1 := (fun x v => Host.reduce IntOp.andi x v reducesTo_S4096x2048_S_d0_1 h_S_) main_v14 main_c_4
  let main_v16 : IVec S_ 1 := andi main_v11 main_v15
  fn_part1 (F := F) main_arg3 main_arg4 main_arg7 main_v16
-- ==== Pre_finite_loss.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S4096x2048 .f32) (main_arg1 : FVec F S1x2048 .f32) (main_arg2 : FVec F S1x2048 .f32) (main_arg3 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S1x2048 .f32 := Host.absf main_arg2
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Pre_finite_rows.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn {F : FTy → Type} [FloatOps F] (main_arg0 : FVec F S4096x2048 .f32) (main_arg1 : FVec F S1x2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S1x2048 .f32 := Host.absf main_arg1
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4x4096x2048 : Shape := ⟨3, ![4, 4096, 2048]⟩
abbrev S1x2048 : Shape := ⟨2, ![1, 2048]⟩
abbrev S4096x2048 : Shape := ⟨2, ![4096, 2048]⟩
abbrev S64x2048 : Shape := ⟨2, ![64, 2048]⟩
abbrev S1x512x256 : Shape := ⟨3, ![1, 512, 256]⟩
abbrev S1x256 : Shape := ⟨2, ![1, 256]⟩
abbrev S512x256 : Shape := ⟨2, ![512, 256]⟩
abbrev S8x256 : Shape := ⟨2, ![8, 256]⟩
abbrev S4x512x256 : Shape := ⟨3, ![4, 512, 256]⟩
abbrev S512x1 : Shape := ⟨2, ![512, 1]⟩
abbrev S8x64x256 : Shape := ⟨3, ![8, 64, 256]⟩
abbrev S8x1x256 : Shape := ⟨3, ![8, 1, 256]⟩
abbrev S256 : Shape := ⟨1, ![256]⟩

abbrev nBuf : Space → Nat
  | .hbm => 10
  | .vmem => 22
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S64x2048, .f32⟩
  | .hbm, ⟨8, _⟩ => ⟨S4x4096x2048, .bf16⟩
  | .hbm, ⟨9, _⟩ => ⟨S1x2048, .f32⟩
  | .local _ .vmem, ⟨0, _⟩ => ⟨S1x512x256, .f32⟩
  | .local _ .vmem, ⟨1, _⟩ => ⟨S1x512x256, .f32⟩
  | .local _ .vmem, ⟨2, _⟩ => ⟨S1x512x256, .f32⟩
  | .local _ .vmem, ⟨3, _⟩ => ⟨S1x512x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S8x256, .f32⟩
  | .local _ .vmem, ⟨17, _⟩ => ⟨S8x256, .f32⟩
  | .local _ .vmem, ⟨18, _⟩ => ⟨S4x512x256, .bf16⟩
  | .local _ .vmem, ⟨19, _⟩ => ⟨S4x512x256, .bf16⟩
  | .local _ .vmem, ⟨20, _⟩ => ⟨S1x256, .f32⟩
  | .local _ .vmem, ⟨21, _⟩ => ⟨S1x256, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S4x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S4x4096x2048 : Shape := ⟨3, ![4, 4096, 2048]⟩
abbrev S1x2048 : Shape := ⟨2, ![1, 2048]⟩
abbrev S4096x2048 : Shape := ⟨2, ![4096, 2048]⟩
abbrev S64x2048 : Shape := ⟨2, ![64, 2048]⟩
abbrev S1x4096x2048 : Shape := ⟨3, ![1, 4096, 2048]⟩
abbrev S_ : Shape := ⟨0, ![]⟩
abbrev S64x64x2048 : Shape := ⟨3, ![64, 64, 2048]⟩
abbrev S64x1x2048 : Shape := ⟨3, ![64, 1, 2048]⟩
abbrev S2048 : Shape := ⟨1, ![2048]⟩

abbrev nBuf : Space → Nat
  | .hbm => 139
  | .vmem => 0
  | .smem => 0
  | _ => 0

abbrev hbmTy0_0 (i : Nat) : BufTy := match i % 128 with
  | 0 => ⟨S4x4096x2048, .f32⟩
  | 1 => ⟨S1x2048, .f32⟩
  | 2 => ⟨S4096x2048, .f32⟩
  | 3 => ⟨S4096x2048, .f32⟩
  | 4 => ⟨S4096x2048, .f32⟩
  | 5 => ⟨S4096x2048, .bf16⟩
  | 6 => ⟨S4096x2048, .bf16⟩
  | 7 => ⟨S64x2048, .f32⟩
  | 8 => ⟨S1x4096x2048, .f32⟩
  | 9 => ⟨S4096x2048, .f32⟩
  | 10 => ⟨S1x4096x2048, .f32⟩
  | 11 => ⟨S4096x2048, .f32⟩
  | 12 => ⟨S1x4096x2048, .f32⟩
  | 13 => ⟨S4096x2048, .f32⟩
  | 14 => ⟨S1x4096x2048, .f32⟩
  | 15 => ⟨S4096x2048, .f32⟩
  | 16 => ⟨S_, .f32⟩
  | 17 => ⟨S1x2048, .f32⟩
  | 18 => ⟨S1x2048, .f32⟩
  | 19 => ⟨S4096x2048, .f32⟩
  | 20 => ⟨S4096x2048, .f32⟩
  | 21 => ⟨S_, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096x2048, .f32⟩
  | 29 => ⟨S4096x2048, .f32⟩
  | 30 => ⟨S4096x2048, .f32⟩
  | 31 => ⟨S4096x2048, .f32⟩
  | 32 => ⟨S4096x2048, .f32⟩
  | 33 => ⟨S4096x2048, .f32⟩
  | 34 => ⟨S4096x2048, .f32⟩
  | 35 => ⟨S4096x2048, .f32⟩
  | 36 => ⟨S4096x2048, .f32⟩
  | 37 => ⟨S_, .f32⟩
  | 38 => ⟨S4096x2048, .f32⟩
  | 39 => ⟨S4096x2048, .f32⟩
  | 40 => ⟨S_, .f32⟩
  | 41 => ⟨S4096x2048, .f32⟩
  | 42 => ⟨S4096x2048, .f32⟩
  | 43 => ⟨S_, .f32⟩
  | 44 => ⟨S4096x2048, .f32⟩
  | 45 => ⟨S4096x2048, .f32⟩
  | 46 => ⟨S4096x2048, .f32⟩
  | 47 => ⟨S4096x2048, .f32⟩
  | 48 => ⟨S64x64x2048, .f32⟩
  | 49 => ⟨S_, .f32⟩
  | 50 => ⟨S4096x2048, .f32⟩
  | 51 => ⟨S4096x2048, .f32⟩
  | 52 => ⟨S64x64x2048, .f32⟩
  | 53 => ⟨S4096x2048, .f32⟩
  | 54 => ⟨S64x64x2048, .f32⟩
  | 55 => ⟨S_, .f32⟩
  | 56 => ⟨S_, .f32⟩
  | 57 => ⟨S64x64x2048, .f32⟩
  | 58 => ⟨S64x1x2048, .f32⟩
  | 59 => ⟨S64x64x2048, .f32⟩
  | 60 => ⟨S64x64x2048, .f32⟩
  | 61 => ⟨S64x64x2048, .f32⟩
  | 62 => ⟨S64x64x2048, .f32⟩
  | 63 => ⟨S64x64x2048, .f32⟩
  | 64 => ⟨S64x64x2048, .f32⟩
  | 65 => ⟨S64x64x2048, .f32⟩
  | 66 => ⟨S64x64x2048, .f32⟩
  | 67 => ⟨S64x64x2048, .f32⟩
  | 68 => ⟨S64x2048, .f32⟩
  | 69 => ⟨S64x2048, .f32⟩
  | 70 => ⟨S64x64x2048, .f32⟩
  | 71 => ⟨S64x64x2048, .f32⟩
  | 72 => ⟨S64x64x2048, .f32⟩
  | 73 => ⟨S4096x2048, .f32⟩
  | 74 => ⟨S4096x2048, .f32⟩
  | 75 => ⟨S64x2048, .f32⟩
  | 76 => ⟨S64x1x2048, .f32⟩
  | 77 => ⟨S64x64x2048, .f32⟩
  | 78 => ⟨S64x64x2048, .f32⟩
  | 79 => ⟨S64x64x2048, .f32⟩
  | 80 => ⟨S_, .f32⟩
  | 81 => ⟨S64x2048, .f32⟩
  | 82 => ⟨S64x1x2048, .f32⟩
  | 83 => ⟨S64x64x2048, .f32⟩
  | 84 => ⟨S64x1x2048, .f32⟩
  | 85 => ⟨S64x64x2048, .f32⟩
  | 86 => ⟨S64x64x2048, .f32⟩
  | 87 => ⟨S64x64x2048, .f32⟩
  | 88 => ⟨S64x64x2048, .f32⟩
  | 89 => ⟨S64x64x2048, .f32⟩
  | 90 => ⟨S64x64x2048, .f32⟩
  | 91 => ⟨S64x64x2048, .f32⟩
  | 92 => ⟨S64x64x2048, .f32⟩
  | 93 => ⟨S64x64x2048, .f32⟩
  | 94 => ⟨S64x64x2048, .f32⟩
  | 95 => ⟨S_, .f32⟩
  | 96 => ⟨S64x64x2048, .f32⟩
  | 97 => ⟨S64x64x2048, .f32⟩
  | 98 => ⟨S_, .f32⟩
  | 99 => ⟨S_, .f32⟩
  | 100 => ⟨S64x64x2048, .f32⟩
  | 101 => ⟨S4096x2048, .f32⟩
  | 102 => ⟨S4096x2048, .f32⟩
  | 103 => ⟨S4096x2048, .f32⟩
  | 104 => ⟨S4096x2048, .f32⟩
  | 105 => ⟨S4096x2048, .f32⟩
  | 106 => ⟨S4096x2048, .f32⟩
  | 107 => ⟨S4096x2048, .f32⟩
  | 108 => ⟨S4096x2048, .f32⟩
  | 109 => ⟨S4096x2048, .f32⟩
  | 110 => ⟨S4096x2048, .f32⟩
  | 111 => ⟨S_, .f32⟩
  | 112 => ⟨S2048, .f32⟩
  | 113 => ⟨S1x2048, .f32⟩
  | 114 => ⟨S4096x2048, .f32⟩
  | 115 => ⟨S4096x2048, .f32⟩
  | 116 => ⟨S4096x2048, .f32⟩
  | 117 => ⟨S_, .f32⟩
  | 118 => ⟨S2048, .f32⟩
  | 119 => ⟨S1x2048, .f32⟩
  | 120 => ⟨S4096x2048, .f32⟩
  | 121 => ⟨S1x2048, .f32⟩
  | 122 => ⟨S1x2048, .f32⟩
  | 123 => ⟨S1x4096x2048, .f32⟩
  | 124 => ⟨S_, .f32⟩
  | 125 => ⟨S4x4096x2048, .f32⟩
  | 126 => ⟨S1x4096x2048, .f32⟩
  | 127 => ⟨S_, .f32⟩
  | _ => ⟨S4x4096x2048, .f32⟩

abbrev hbmTy0_1 (i : Nat) : BufTy := match i % 128 with
  | 0 => ⟨S4x4096x2048, .f32⟩
  | 1 => ⟨S4x4096x2048, .f32⟩
  | 2 => ⟨S1x4096x2048, .f32⟩
  | 3 => ⟨S_, .f32⟩
  | 4 => ⟨S4x4096x2048, .f32⟩
  | 5 => ⟨S4x4096x2048, .f32⟩
  | 6 => ⟨S1x4096x2048, .f32⟩
  | 7 => ⟨S_, .f32⟩
  | 8 => ⟨S4x4096x2048, .f32⟩
  | 9 => ⟨S4x4096x2048, .f32⟩
  | 10 => ⟨S4x4096x2048, .bf16⟩
  | _ => ⟨S4x4096x2048, .f32⟩

abbrev hbmTy (i : Nat) : BufTy := match i / 128 with
  | 0 => hbmTy0_0 i
  | 1 => hbmTy0_1 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_v23_2 : Ref sig .tc := ⟨.hbm, 42, rfl⟩
abbrev main_call0_cst_1 : Ref sig .tc := ⟨.hbm, 43, rfl⟩
abbrev main_call0_v6 : Ref sig .tc := ⟨.hbm, 44, rfl⟩
abbrev main_call0_v7 : Ref sig .tc := ⟨.hbm, 45, rfl⟩
abbrev main_v23_1 : Ref sig .tc := ⟨.hbm, 46, rfl⟩
abbrev main_v23_0 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_call1_call0_cst : Ref sig .tc := ⟨.hbm, 55, rfl⟩
abbrev main_call1_call0_v0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_4 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_5 : Ref sig .tc := ⟨.hbm, 95, rfl⟩
abbrev main_v67 : Ref sig .tc := ⟨.hbm, 96, rfl⟩
abbrev main_v68 : Ref sig .tc := ⟨.hbm, 97, rfl⟩
abbrev main_call2_call0_cst : Ref sig .tc := ⟨.hbm, 98, rfl⟩
abbrev main_call2_call0_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_call3_v0 : Ref sig .tc := ⟨.hbm, 107, rfl⟩
abbrev main_call3_v1 : Ref sig .tc := ⟨.hbm, 108, rfl⟩
abbrev main_call3_v2 : Ref sig .tc := ⟨.hbm, 109, rfl⟩
abbrev main_v76 : Ref sig .tc := ⟨.hbm, 110, rfl⟩
abbrev main_cst_6 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_7 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_8 : Ref sig .tc := ⟨.hbm, 124, rfl⟩
abbrev main_v88 : Ref sig .tc := ⟨.hbm, 125, rfl⟩
abbrev main_v89 : Ref sig .tc := ⟨.hbm, 126, rfl⟩
abbrev main_cst_9 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_cst_10 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_cst_11 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩

abbrev nD : Nat := 1
abbrev τ : Topo := Topo.v7x

variable {F : FTy → Type} [FloatOps F]
-- ==== Kernel2.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S5632x2048 : Shape := ⟨2, ![5632, 2048]⟩
abbrev S4096x5632 : Shape := ⟨2, ![4096, 5632]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S5632x2048 : Shape := ⟨2, ![5632, 2048]⟩
abbrev S_ : Shape := ⟨0, ![]⟩
abbrev S4096x5632 : Shape := ⟨2, ![4096, 5632]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S_, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | .hbm, ⟨7, _⟩ => ⟨S4096x5632, .f32⟩
  | .hbm, ⟨8, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S4096x2048 : Shape := ⟨2, ![4096, 2048]⟩
abbrev S2x4096x5632 : Shape := ⟨3, ![2, 4096, 5632]⟩
abbrev S2048x11264 : Shape := ⟨2, ![2048, 11264]⟩
abbrev S4096x1024 : Shape := ⟨2, ![4096, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S2048x11264, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S2x4096x5632 : Shape := ⟨3, ![2, 4096, 5632]⟩
abbrev S_ : Shape := ⟨0, ![]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S11264x2048 : Shape := ⟨2, ![11264, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x4096x5632, .bf16⟩
  | .hbm, ⟨2, _⟩ => ⟨S_, .f32⟩
  | .hbm, ⟨3, _⟩ => ⟨S2048x11264, .f32⟩
  | .hbm, ⟨4, _⟩ => ⟨S4096x2048, .f32⟩
  | .hbm, ⟨5, _⟩ => ⟨S4096x11264, .f32⟩
  | .hbm, ⟨6, _⟩ => ⟨S4096x5632, .f32⟩
  | .hbm, ⟨7, _⟩ => ⟨S4096x5632, .f32⟩
  | .hbm, ⟨8, _⟩ => ⟨S1x4096x5632, .bf16⟩
  | .hbm, ⟨9, _⟩ => ⟨S4096x5632, .bf16⟩
  | .hbm, ⟨10, _⟩ => ⟨S4096x5632, .f32⟩
  | .hbm, ⟨11, _⟩ => ⟨S1x4096x5632, .bf16⟩
  | .hbm, ⟨12, _⟩ => ⟨S4096x5632, .bf16⟩
  | .hbm, ⟨13, _⟩ => ⟨S4096x5632, .f32⟩
  | .hbm, ⟨14, _⟩ => ⟨S4096x11264, .f32⟩
  | .hbm, ⟨15, _⟩ => ⟨S11264x2048, .f32⟩
  | .hbm, ⟨16, _⟩ => ⟨S2048x11264, .f32⟩
  | .hbm, ⟨17, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S2x4096x5632 : Shape := ⟨3, ![2, 4096, 5632]⟩
abbrev S2048x11264 : Shape := ⟨2, ![2048, 11264]⟩
abbrev S4096x2048 : Shape := ⟨2, ![4096, 2048]⟩
abbrev S1x1024x2816 : Shape := ⟨3, ![1, 1024, 2816]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .hbm, ⟨3, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S2x4096x5632 : Shape := ⟨3, ![2, 4096, 5632]⟩
abbrev S2048x11264 : Shape := ⟨2, ![2048, 11264]⟩
abbrev S4096x2048 : Shape := ⟨2, ![4096, 2048]⟩
abbrev S_ : Shape := ⟨0, ![]⟩
abbrev S4096x11264 : Shape := ⟨2, ![4096, 11264]⟩
abbrev S4096x5632 : Shape := ⟨2, ![4096, 5632]⟩
abbrev S1x4096x5632 : Shape := ⟨3, ![1, 4096, 5632]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x5632, .bf16⟩
  | .hbm, ⟨1, _⟩ => ⟨S2048x11264, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x11264, .f32⟩
  | .hbm, ⟨9, _⟩ => ⟨S4096x11264, .f32⟩
  | .hbm, ⟨10, _⟩ => ⟨S4096x5632, .f32⟩
  | .hbm, ⟨11, _⟩ => ⟨S4096x5632, .f32⟩
  | .hbm, ⟨12, _⟩ => ⟨S1x4096x5632, .bf16⟩
  | .hbm, ⟨13, _⟩ => ⟨S4096x5632, .bf16⟩
  | .hbm, ⟨14, _⟩ => ⟨S4096x5632, .f32⟩
  | .hbm, ⟨15, _⟩ => ⟨S1x4096x5632, .bf16⟩
  | .hbm, ⟨16, _⟩ => ⟨S4096x5632, .bf16⟩
  | .hbm, ⟨17, _⟩ => ⟨S4096x5632, .f32⟩
  | .hbm, ⟨18, _⟩ => ⟨S4096x11264, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | _, _ => ⟨S2x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S4096x2048 : Shape := ⟨2, ![4096, 2048]⟩
abbrev S4x4096x2048 : Shape := ⟨3, ![4, 4096, 2048]⟩
abbrev S2048x8192 : Shape := ⟨2, ![2048, 8192]⟩
abbrev S4096x1024 : Shape := ⟨2, ![4096, 1024]⟩
abbrev S1x4096x1024 : Shape := ⟨3, ![1, 4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S2048x8192, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4x4096x2048 : Shape := ⟨3, ![4, 4096, 2048]⟩
abbrev S_ : Shape := ⟨0, ![]⟩
abbrev S2048x8192 : Shape := ⟨2, ![2048, 8192]⟩
abbrev S4096x8192 : Shape := ⟨2, ![4096, 8192]⟩
abbrev S1x4096x2048 : Shape := ⟨3, ![1, 4096, 2048]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x4096x2048, .bf16⟩
  | .hbm, ⟨2, _⟩ => ⟨S_, .f32⟩
  | .hbm, ⟨3, _⟩ => ⟨S2048x8192, .f32⟩
  | .hbm, ⟨4, _⟩ => ⟨S4096x2048, .f32⟩
  | .hbm, ⟨5, _⟩ => ⟨S4096x8192, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x4096x2048, .bf16⟩
  | .hbm, ⟨11, _⟩ => ⟨S4096x2048, .bf16⟩
  | .hbm, ⟨12, _⟩ => ⟨S4096x2048, .f32⟩
  | .hbm, ⟨13, _⟩ => ⟨S1x4096x2048, .bf16⟩
  | .hbm, ⟨14, _⟩ => ⟨S4096x2048, .bf16⟩
  | .hbm, ⟨15, _⟩ => ⟨S4096x2048, .f32⟩
  | .hbm, ⟨16, _⟩ => ⟨S1x4096x2048, .bf16⟩
  | .hbm, ⟨17, _⟩ => ⟨S4096x2048, .bf16⟩
  | .hbm, ⟨18, _⟩ => ⟨S4096x2048, .f32⟩
  | .hbm, ⟨19, _⟩ => ⟨S1x4096x2048, .bf16⟩
  | .hbm, ⟨20, _⟩ => ⟨S4096x2048, .bf16⟩
  | .hbm, ⟨21, _⟩ => ⟨S4096x2048, .f32⟩
  | .hbm, ⟨22, _⟩ => ⟨S4096x8192, .f32⟩
  | .hbm, ⟨23, _⟩ => ⟨S8192x2048, .f32⟩
  | .hbm, ⟨24, _⟩ => ⟨S2048x8192, .f32⟩
  | .hbm, ⟨25, _⟩ => ⟨S2048x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩

abbrev nD : Nat := 1
abbrev τ : Topo := Topo.v7x

variable {F : FTy → Type} [FloatOps F]
-- ==== Kernel9.lean ====
abbrev S4x4096x2048 : Shape := ⟨3, ![4, 4096, 2048]⟩
abbrev S2048x8192 : Shape := ⟨2, ![2048, 8192]⟩
abbrev S4096x2048 : Shape := ⟨2, ![4096, 2048]⟩
abbrev S1x1024x2048 : Shape := ⟨3, ![1, 1024, 2048]⟩
abbrev S512x2048 : Shape := ⟨2, ![512, 2048]⟩
abbrev S1024x512 : Shape := ⟨2, ![1024, 512]⟩
abbrev S1024x2048 : Shape := ⟨2, ![1024, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S4096x2048, .f32⟩
  | .hbm, ⟨3, _⟩ => ⟨S4096x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S4x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4x4096x2048 : Shape := ⟨3, ![4, 4096, 2048]⟩
abbrev S2048x8192 : Shape := ⟨2, ![2048, 8192]⟩
abbrev S4096x2048 : Shape := ⟨2, ![4096, 2048]⟩
abbrev S_ : Shape := ⟨0, ![]⟩
abbrev S4096x8192 : Shape := ⟨2, ![4096, 8192]⟩
abbrev S1x4096x2048 : Shape := ⟨3, ![1, 4096, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x2048, .bf16⟩
  | .hbm, ⟨1, _⟩ => ⟨S2048x8192, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x8192, .f32⟩
  | .hbm, ⟨9, _⟩ => ⟨S4096x8192, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S1x4096x2048, .bf16⟩
  | .hbm, ⟨15, _⟩ => ⟨S4096x2048, .bf16⟩
  | .hbm, ⟨16, _⟩ => ⟨S4096x2048, .f32⟩
  | .hbm, ⟨17, _⟩ => ⟨S1x4096x2048, .bf16⟩
  | .hbm, ⟨18, _⟩ => ⟨S4096x2048, .bf16⟩
  | .hbm, ⟨19, _⟩ => ⟨S4096x2048, .f32⟩
  | .hbm, ⟨20, _⟩ => ⟨S1x4096x2048, .bf16⟩
  | .hbm, ⟨21, _⟩ => ⟨S4096x2048, .bf16⟩
  | .hbm, ⟨22, _⟩ => ⟨S4096x2048, .f32⟩
  | .hbm, ⟨23, _⟩ => ⟨S1x4096x2048, .bf16⟩
  | .hbm, ⟨24, _⟩ => ⟨S4096x2048, .bf16⟩
  | .hbm, ⟨25, _⟩ => ⟨S4096x2048, .f32⟩
  | .hbm, ⟨26, _⟩ => ⟨S4096x8192, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S4096x2048, .f32⟩
  | _, _ => ⟨S4x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel10.lean ====
abbrev S4096x2048 : Shape := ⟨2, ![4096, 2048]⟩
abbrev S4096x3072 : Shape := ⟨2, ![4096, 3072]⟩
abbrev S2048x3072 : Shape := ⟨2, ![2048, 3072]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S2048x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .f32⟩
  | .hbm, ⟨3, _⟩ => ⟨S2048x3072, .f32⟩
  | .hbm, ⟨4, _⟩ => ⟨S4096x2048, .f32⟩
  | .hbm, ⟨5, _⟩ => ⟨S4096x3072, .f32⟩
  | .hbm, ⟨6, _⟩ => ⟨S4096x3072, .f32⟩
  | .hbm, ⟨7, _⟩ => ⟨S3072x2048, .f32⟩
  | .hbm, ⟨8, _⟩ => ⟨S2048x3072, .f32⟩
  | .hbm, ⟨9, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x3072 : Shape := ⟨2, ![4096, 3072]⟩
abbrev S2048x3072 : Shape := ⟨2, ![2048, 3072]⟩
abbrev S4096x2048 : Shape := ⟨2, ![4096, 2048]⟩
abbrev S1024x3072 : Shape := ⟨2, ![1024, 3072]⟩
abbrev S512x3072 : Shape := ⟨2, ![512, 3072]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S4096x2048, .f32⟩
  | .local _ .vmem, ⟨0, _⟩ => ⟨S1024x3072, .bf16⟩
  | .local _ .vmem, ⟨1, _⟩ => ⟨S1024x3072, .bf16⟩
  | .local _ .vmem, ⟨2, _⟩ => ⟨S512x3072, .bf16⟩
  | .local _ .vmem, ⟨3, _⟩ => ⟨S512x3072, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x3072 : Shape := ⟨2, ![4096, 3072]⟩
abbrev S2048x3072 : Shape := ⟨2, ![2048, 3072]⟩
abbrev S4096x2048 : Shape := ⟨2, ![4096, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S2048x3072, .f32⟩
  | .hbm, ⟨9, _⟩ => ⟨S4096x3072, .f32⟩
  | .hbm, ⟨10, _⟩ => ⟨S4096x3072, .f32⟩
  | .hbm, ⟨11, _⟩ => ⟨S4096x2048, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Kernel12.lean ====
abbrev S4096x2048 : Shape := ⟨2, ![4096, 2048]⟩
abbrev S2048x11264 : Shape := ⟨2, ![2048, 11264]⟩
abbrev S2x4096x5632 : Shape := ⟨3, ![2, 4096, 5632]⟩
abbrev S2048x2048 : Shape := ⟨2, ![2048, 2048]⟩
abbrev S2048x512 : Shape := ⟨2, ![2048, 512]⟩
abbrev S1x2048x512 : Shape := ⟨3, ![1, 2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2x4096x5632, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S1x2048x512, .f32⟩
  | .local _ .vmem, ⟨5, _⟩ => ⟨S1x2048x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S1x4096x5632 : Shape := ⟨3, ![1, 4096, 5632]⟩
abbrev S2x4096x5632 : Shape := ⟨3, ![2, 4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S1x4096x5632, .f32⟩
  | .hbm, ⟨8, _⟩ => ⟨S1x4096x5632, .f32⟩
  | .hbm, ⟨9, _⟩ => ⟨S2x4096x5632, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel13.lean ====
abbrev S2048x2048 : Shape := ⟨2, ![2048, 2048]⟩
abbrev S7x256x2048 : Shape := ⟨3, ![7, 256, 2048]⟩
abbrev S256x2048 : Shape := ⟨2, ![256, 2048]⟩
abbrev S_ : Shape := ⟨0, ![]⟩
abbrev S1 : Shape := ⟨1, ![1]⟩
abbrev S1x256x2048 : Shape := ⟨3, ![1, 256, 2048]⟩

abbrev nBuf : Space → Nat
  | .hbm => 10
  | .vmem => 9
  | .smem => 1
  | _ => 0

abbrev bufTy : (tb : Table) → Fin (tcTables nBuf tb) → BufTy
  | .hbm, ⟨0, _⟩ => ⟨S2048x2048, .bf16⟩
  | .hbm, ⟨1, _⟩ => ⟨S7x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S_, .i32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .local _ .vmem, ⟨0, _⟩ => ⟨S256x2048, .bf16⟩
  | .local _ .vmem, ⟨1, _⟩ => ⟨S7x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .smem, ⟨0, _⟩ => ⟨S1, .i32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S2048x2048 : Shape := ⟨2, ![2048, 2048]⟩
abbrev S7x256x2048 : Shape := ⟨3, ![7, 256, 2048]⟩
abbrev S256x2048 : Shape := ⟨2, ![256, 2048]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S7x256x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .bf16⟩
  | .hbm, ⟨6, _⟩ => ⟨S256x2048, .f32⟩
  | .hbm, ⟨7, _⟩ => ⟨S7x256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S_, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel14.lean ====
abbrev S2048x8192 : Shape := ⟨2, ![2048, 8192]⟩
abbrev S7x2048x1024 : Shape := ⟨3, ![7, 2048, 1024]⟩
abbrev S2048x1024 : Shape := ⟨2, ![2048, 1024]⟩
abbrev S_ : Shape := ⟨0, ![]⟩
abbrev S1 : Shape := ⟨1, ![1]⟩
abbrev S256x1024 : Shape := ⟨2, ![256, 1024]⟩
abbrev S7x256x1024 : Shape := ⟨3, ![7, 256, 1024]⟩
abbrev S1x256x1024 : Shape := ⟨3, ![1, 256, 1024]⟩

abbrev nBuf : Space → Nat
  | .hbm => 10
  | .vmem => 18
  | .smem => 1
  | _ => 0

abbrev bufTy : (tb : Table) → Fin (tcTables nBuf tb) → BufTy
  | .hbm, ⟨0, _⟩ => ⟨S2048x8192, .bf16⟩
  | .hbm, ⟨1, _⟩ => ⟨S7x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S_, .i32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .local _ .vmem, ⟨0, _⟩ => ⟨S256x1024, .bf16⟩
  | .local _ .vmem, ⟨1, _⟩ => ⟨S256x1024, .bf16⟩
  | .local _ .vmem, ⟨2, _⟩ => ⟨S7x256x1024, .bf16⟩
  | .local _ .vmem, ⟨3, _⟩ => ⟨S7x256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .smem, ⟨0, _⟩ => ⟨S1, .i32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S2048x8192 : Shape := ⟨2, ![2048, 8192]⟩
abbrev S7x2048x1024 : Shape := ⟨3, ![7, 2048, 1024]⟩
abbrev S2048x1024 : Shape := ⟨2, ![2048, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S7x2048x1024, .bf16⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S2048x1024, .f32⟩
  | .hbm, ⟨7, _⟩ => ⟨S7x2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel15.lean ====
abbrev S2048x3072 : Shape := ⟨2, ![2048, 3072]⟩
abbrev S7x2048x384 : Shape := ⟨3, ![7, 2048, 384]⟩
abbrev S2048x384 : Shape := ⟨2, ![2048, 384]⟩
abbrev S_ : Shape := ⟨0, ![]⟩
abbrev S1 : Shape := ⟨1, ![1]⟩
abbrev S256x384 : Shape := ⟨2, ![256, 384]⟩
abbrev S7x256x384 : Shape := ⟨3, ![7, 256, 384]⟩
abbrev S1x256x384 : Shape := ⟨3, ![1, 256, 384]⟩

abbrev nBuf : Space → Nat
  | .hbm => 10
  | .vmem => 18
  | .smem => 1
  | _ => 0

abbrev bufTy : (tb : Table) → Fin (tcTables nBuf tb) → BufTy
  | .hbm, ⟨0, _⟩ => ⟨S2048x3072, .bf16⟩
  | .hbm, ⟨1, _⟩ => ⟨S7x2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S_, .i32⟩
  | .hbm, ⟨6, _⟩ => ⟨S2048x384, .f32⟩
  | .hbm, ⟨7, _⟩ => ⟨S2048x384, .f32⟩
  | .hbm, ⟨8, _⟩ => ⟨S2048x384, .f32⟩
  | .hbm, ⟨9, _⟩ => ⟨S2048x384, .f32⟩
  | .local _ .vmem, ⟨0, _⟩ => ⟨S256x384, .bf16⟩
  | .local _ .vmem, ⟨1, _⟩ => ⟨S256x384, .bf16⟩
  | .local _ .vmem, ⟨2, _⟩ => ⟨S7x256x384, .bf16⟩
  | .local _ .vmem, ⟨3, _⟩ => ⟨S7x256x384, .bf16⟩
  | .local _ .vmem, ⟨4, _⟩ => ⟨S256x384, .f32⟩
  | .local _ .vmem, ⟨5, _⟩ => ⟨S256x384, .f32⟩
  | .local _ .vmem, ⟨6, _⟩ => ⟨S256x384, .f32⟩
  | .local _ .vmem, ⟨7, _⟩ => ⟨S256x384, .f32⟩
  | .local _ .vmem, ⟨8, _⟩ => ⟨S256x384, .f32⟩
  | .local _ .vmem, ⟨9, _⟩ => ⟨S256x384, .f32⟩
  | .local _ .vmem, ⟨10, _⟩ => ⟨S256x384, .f32⟩
  | .local _ .vmem, ⟨11, _⟩ => ⟨S256x384, .f32⟩
  | .local _ .vmem, ⟨12, _⟩ => ⟨S256x384, .f32⟩
  | .local _ .vmem, ⟨13, _⟩ => ⟨S256x384, .f32⟩
  | .local _ .vmem, ⟨14, _⟩ => ⟨S256x384, .f32⟩
  | .local _ .vmem, ⟨15, _⟩ => ⟨S256x384, .f32⟩
  | .local _ .vmem, ⟨16, _⟩ => ⟨S256x384, .f32⟩
  | .local _ .vmem, ⟨17, _⟩ => ⟨S256x384, .f32⟩
  | .local _ .smem, ⟨0, _⟩ => ⟨S1, .i32⟩
  | _, _ => ⟨S2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference15Ideal.lean ====
abbrev S2048x3072 : Shape := ⟨2, ![2048, 3072]⟩
abbrev S7x2048x384 : Shape := ⟨3, ![7, 2048, 384]⟩
abbrev S2048x384 : Shape := ⟨2, ![2048, 384]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x3072, .bf16⟩
  | .hbm, ⟨1, _⟩ => ⟨S7x2048x384, .bf16⟩
  | .hbm, ⟨2, _⟩ => ⟨S2048x384, .f32⟩
  | .hbm, ⟨3, _⟩ => ⟨S2048x384, .f32⟩
  | .hbm, ⟨4, _⟩ => ⟨S2048x384, .f32⟩
  | .hbm, ⟨5, _⟩ => ⟨S2048x384, .bf16⟩
  | .hbm, ⟨6, _⟩ => ⟨S2048x384, .f32⟩
  | .hbm, ⟨7, _⟩ => ⟨S7x2048x384, .f32⟩
  | .hbm, ⟨8, _⟩ => ⟨S_, .f32⟩
  | .hbm, ⟨9, _⟩ => ⟨S2048x384, .f32⟩
  | .hbm, ⟨10, _⟩ => ⟨S2048x384, .f32⟩
  | .hbm, ⟨11, _⟩ => ⟨S_, .f32⟩
  | .hbm, ⟨12, _⟩ => ⟨S2048x384, .f32⟩
  | .hbm, ⟨13, _⟩ => ⟨S2048x384, .f32⟩
  | .hbm, ⟨14, _⟩ => ⟨S_, .f32⟩
  | .hbm, ⟨15, _⟩ => ⟨S2048x384, .f32⟩
  | .hbm, ⟨16, _⟩ => ⟨S2048x384, .f32⟩
  | .hbm, ⟨17, _⟩ => ⟨S2048x384, .f32⟩
  | .hbm, ⟨18, _⟩ => ⟨S_, .f32⟩
  | .hbm, ⟨19, _⟩ => ⟨S2048x384, .f32⟩
  | .hbm, ⟨20, _⟩ => ⟨S2048x384, .f32⟩
  | .hbm, ⟨21, _⟩ => ⟨S2048x384, .f32⟩
  | .hbm, ⟨22, _⟩ => ⟨S_, .f32⟩
  | .hbm, ⟨23, _⟩ => ⟨S2048x384, .f32⟩
  | .hbm, ⟨24, _⟩ => ⟨S2048x384, .f32⟩
  | .hbm, ⟨25, _⟩ => ⟨S2048x384, .f32⟩
  | .hbm, ⟨26, _⟩ => ⟨S_, .f32⟩
  | .hbm, ⟨27, _⟩ => ⟨S2048x384, .f32⟩
  | .hbm, ⟨28, _⟩ => ⟨S2048x384, .f32⟩
  | .hbm, ⟨29, _⟩ => ⟨S_, .f32⟩
  | .hbm, ⟨30, _⟩ => ⟨S2048x384, .f32⟩
  | .hbm, ⟨31, _⟩ => ⟨S2048x384, .f32⟩
  | .hbm, ⟨32, _⟩ => ⟨S2048x384, .f32⟩
  | .hbm, ⟨33, _⟩ => ⟨S_, .f32⟩
  | .hbm, ⟨34, _⟩ => ⟨S2048x384, .f32⟩
  | .hbm, ⟨35, _⟩ => ⟨S2048x384, .f32⟩
  | .hbm, ⟨36, _⟩ => ⟨S2048x384, .f32⟩
  | .hbm, ⟨37, _⟩ => ⟨S_, .f32⟩
  | .hbm, ⟨38, _⟩ => ⟨S2048x384, .f32⟩
  | .hbm, ⟨39, _⟩ => ⟨S2048x384, .f32⟩
  | .hbm, ⟨40, _⟩ => ⟨S2048x384, .f32⟩
  | .hbm, ⟨41, _⟩ => ⟨S_, .f32⟩
  | .hbm, ⟨42, _⟩ => ⟨S2048x384, .f32⟩
  | .hbm, ⟨43, _⟩ => ⟨S2048x384, .f32⟩
  | _, _ => ⟨S2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel16.lean ====
abbrev S5632x2048 : Shape := ⟨2, ![5632, 2048]⟩
abbrev S7x704x2048 : Shape := ⟨3, ![7, 704, 2048]⟩
abbrev S2x704x2048 : Shape := ⟨3, ![2, 704, 2048]⟩
abbrev S_ : Shape := ⟨0, ![]⟩
abbrev S1 : Shape := ⟨1, ![1]⟩
abbrev S176x2048 : Shape := ⟨2, ![176, 2048]⟩
abbrev S7x176x2048 : Shape := ⟨3, ![7, 176, 2048]⟩
abbrev S1x176x2048 : Shape := ⟨3, ![1, 176, 2048]⟩
abbrev S1x704x2048 : Shape := ⟨3, ![1, 704, 2048]⟩
abbrev S704x2048 : Shape := ⟨2, ![704, 2048]⟩

abbrev nBuf : Space → Nat
  | .hbm => 18
  | .vmem => 18
  | .smem => 1
  | _ => 0

abbrev bufTy : (tb : Table) → Fin (tcTables nBuf tb) → BufTy
  | .hbm, ⟨0, _⟩ => ⟨S5632x2048, .bf16⟩
  | .hbm, ⟨1, _⟩ => ⟨S7x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S_, .i32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S2x704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S1x704x2048, .f32⟩
  | .hbm, ⟨15, _⟩ => ⟨S704x2048, .f32⟩
  | .hbm, ⟨16, _⟩ => ⟨S1x704x2048, .f32⟩
  | .hbm, ⟨17, _⟩ => ⟨S704x2048, .f32⟩
  | .local _ .vmem, ⟨0, _⟩ => ⟨S176x2048, .bf16⟩
  | .local _ .vmem, ⟨1, _⟩ => ⟨S176x2048, .bf16⟩
  | .local _ .vmem, ⟨2, _⟩ => ⟨S7x176x2048, .bf16⟩
  | .local _ .vmem, ⟨3, _⟩ => ⟨S7x176x2048, .bf16⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .smem, ⟨0, _⟩ => ⟨S1, .i32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S5632x2048 : Shape := ⟨2, ![5632, 2048]⟩
abbrev S7x704x2048 : Shape := ⟨3, ![7, 704, 2048]⟩
abbrev S2x704x2048 : Shape := ⟨3, ![2, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S7x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S1x704x2048, .f32⟩
  | .hbm, ⟨6, _⟩ => ⟨S704x2048, .f32⟩
  | .hbm, ⟨7, _⟩ => ⟨S1x704x2048, .f32⟩
  | .hbm, ⟨8, _⟩ => ⟨S704x2048, .f32⟩
  | .hbm, ⟨9, _⟩ => ⟨S1x704x2048, .f32⟩
  | .hbm, ⟨10, _⟩ => ⟨S704x2048, .f32⟩
  | .hbm, ⟨11, _⟩ => ⟨S704x2048, .bf16⟩
  | .hbm, ⟨12, _⟩ => ⟨S704x2048, .f32⟩
  | .hbm, ⟨13, _⟩ => ⟨S7x704x2048, .f32⟩
  | .hbm, ⟨14, _⟩ => ⟨S_, .f32⟩
  | .hbm, ⟨15, _⟩ => ⟨S704x2048, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel17.lean ====
abbrev S5632x2048 : Shape := ⟨2, ![5632, 2048]⟩
abbrev S7x704x2048 : Shape := ⟨3, ![7, 704, 2048]⟩
abbrev S2x704x2048 : Shape := ⟨3, ![2, 704, 2048]⟩
abbrev S_ : Shape := ⟨0, ![]⟩
abbrev S1 : Shape := ⟨1, ![1]⟩
abbrev S176x2048 : Shape := ⟨2, ![176, 2048]⟩
abbrev S7x176x2048 : Shape := ⟨3, ![7, 176, 2048]⟩
abbrev S1x176x2048 : Shape := ⟨3, ![1, 176, 2048]⟩

abbrev nBuf : Space → Nat
  | .hbm => 14
  | .vmem => 18
  | .smem => 1
  | _ => 0

abbrev bufTy : (tb : Table) → Fin (tcTables nBuf tb) → BufTy
  | .hbm, ⟨0, _⟩ => ⟨S5632x2048, .bf16⟩
  | .hbm, ⟨1, _⟩ => ⟨S7x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S_, .i32⟩
  | .hbm, ⟨10, _⟩ => ⟨S2x704x2048, .f32⟩
  | .hbm, ⟨11, _⟩ => ⟨S2x704x2048, .f32⟩
  | .hbm, ⟨12, _⟩ => ⟨S2x704x2048, .f32⟩
  | .hbm, ⟨13, _⟩ => ⟨S2x704x2048, .f32⟩
  | .local _ .vmem, ⟨0, _⟩ => ⟨S176x2048, .bf16⟩
  | .local _ .vmem, ⟨1, _⟩ => ⟨S176x2048, .bf16⟩
  | .local _ .vmem, ⟨2, _⟩ => ⟨S7x176x2048, .bf16⟩
  | .local _ .vmem, ⟨3, _⟩ => ⟨S7x176x2048, .bf16⟩
  | .local _ .vmem, ⟨4, _⟩ => ⟨S1x176x2048, .f32⟩
  | .local _ .vmem, ⟨5, _⟩ => ⟨S1x176x2048, .f32⟩
  | .local _ .vmem, ⟨6, _⟩ => ⟨S1x176x2048, .f32⟩
  | .local _ .vmem, ⟨7, _⟩ => ⟨S1x176x2048, .f32⟩
  | .local _ .vmem, ⟨8, _⟩ => ⟨S1x176x2048, .f32⟩
  | .local _ .vmem, ⟨9, _⟩ => ⟨S1x176x2048, .f32⟩
  | .local _ .vmem, ⟨10, _⟩ => ⟨S1x176x2048, .f32⟩
  | .local _ .vmem, ⟨11, _⟩ => ⟨S1x176x2048, .f32⟩
  | .local _ .vmem, ⟨12, _⟩ => ⟨S1x176x2048, .f32⟩
  | .local _ .vmem, ⟨13, _⟩ => ⟨S1x176x2048, .f32⟩
  | .local _ .vmem, ⟨14, _⟩ => ⟨S1x176x2048, .f32⟩
  | .local _ .vmem, ⟨15, _⟩ => ⟨S1x176x2048, .f32⟩
  | .local _ .vmem, ⟨16, _⟩ => ⟨S1x176x2048, .f32⟩
  | .local _ .vmem, ⟨17, _⟩ => ⟨S1x176x2048, .f32⟩
  | .local _ .smem, ⟨0, _⟩ => ⟨S1, .i32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S176x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S5632x2048 : Shape := ⟨2, ![5632, 2048]⟩
abbrev S7x704x2048 : Shape := ⟨3, ![7, 704, 2048]⟩
abbrev S2x704x2048 : Shape := ⟨3, ![2, 704, 2048]⟩
abbrev S1x704x2048 : Shape := ⟨3, ![1, 704, 2048]⟩
abbrev S704x2048 : Shape := ⟨2, ![704, 2048]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S7x704x2048, .bf16⟩
  | .hbm, ⟨2, _⟩ => ⟨S2x704x2048, .f32⟩
  | .hbm, ⟨3, _⟩ => ⟨S2x704x2048, .f32⟩
  | .hbm, ⟨4, _⟩ => ⟨S2x704x2048, .f32⟩
  | .hbm, ⟨5, _⟩ => ⟨S2x704x2048, .f32⟩
  | .hbm, ⟨6, _⟩ => ⟨S2x704x2048, .f32⟩
  | .hbm, ⟨7, _⟩ => ⟨S2x704x2048, .f32⟩
  | .hbm, ⟨8, _⟩ => ⟨S2x704x2048, .f32⟩
  | .hbm, ⟨9, _⟩ => ⟨S1x704x2048, .f32⟩
  | .hbm, ⟨10, _⟩ => ⟨S704x2048, .f32⟩
  | .hbm, ⟨11, _⟩ => ⟨S1x704x2048, .f32⟩
  | .hbm, ⟨12, _⟩ => ⟨S704x2048, .f32⟩
  | .hbm, ⟨13, _⟩ => ⟨S1x704x2048, .f32⟩
  | .hbm, ⟨14, _⟩ => ⟨S704x2048, .f32⟩
  | .hbm, ⟨15, _⟩ => ⟨S704x2048, .bf16⟩
  | .hbm, ⟨16, _⟩ => ⟨S704x2048, .f32⟩
  | .hbm, ⟨17, _⟩ => ⟨S7x704x2048, .f32⟩
  | .hbm, ⟨18, _⟩ => ⟨S_, .f32⟩
  | .hbm, ⟨19, _⟩ => ⟨S704x2048, .f32⟩
  | .hbm, ⟨20, _⟩ => ⟨S704x2048, .f32⟩
  | .hbm, ⟨21, _⟩ => ⟨S_, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S704x2048, .f32⟩
  | .hbm, ⟨36, _⟩ => ⟨S_, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S704x2048, .f32⟩
  | .hbm, ⟨51, _⟩ => ⟨S_, .f32⟩
  | .hbm, ⟨52, _⟩ => ⟨S704x2048, .f32⟩
  | .hbm, ⟨53, _⟩ => ⟨S704x2048, .f32⟩
  | .hbm, ⟨54, _⟩ => ⟨S1x704x2048, .f32⟩
  | .hbm, ⟨55, _⟩ => ⟨S704x2048, .f32⟩
  | .hbm, ⟨56, _⟩ => ⟨S1x704x2048, .f32⟩
  | .hbm, ⟨57, _⟩ => ⟨S1x704x2048, .f32⟩
  | .hbm, ⟨58, _⟩ => ⟨S2x704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S1x704x2048, .f32⟩
  | .hbm, ⟨63, _⟩ => ⟨S2x704x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S1x704x2048, .f32⟩
  | .hbm, ⟨68, _⟩ => ⟨S2x704x2048, .f32⟩
  | .hbm, ⟨69, _⟩ => ⟨S1x704x2048, .f32⟩
  | .hbm, ⟨70, _⟩ => ⟨S704x2048, .f32⟩
  | .hbm, ⟨71, _⟩ => ⟨S1x704x2048, .f32⟩
  | .hbm, ⟨72, _⟩ => ⟨S1x704x2048, .f32⟩
  | .hbm, ⟨73, _⟩ => ⟨S2x704x2048, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel18.lean ====
abbrev S1792x128 : Shape := ⟨2, ![1792, 128]⟩
abbrev S1x1792x128 : Shape := ⟨3, ![1, 1792, 128]⟩
abbrev S1x128x128 : Shape := ⟨3, ![1, 128, 128]⟩
abbrev S128x128 : Shape := ⟨2, ![128, 128]⟩

abbrev nBuf : Space → Nat
  | .hbm => 9
  | .vmem => 16
  | .smem => 0
  | _ => 0

abbrev bufTy : (tb : Table) → Fin (tcTables nBuf tb) → BufTy
  | .hbm, ⟨0, _⟩ => ⟨S1792x128, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S1x1792x128, .f32⟩
  | .hbm, ⟨5, _⟩ => ⟨S1792x128, .f32⟩
  | .hbm, ⟨6, _⟩ => ⟨S1792x128, .f32⟩
  | .hbm, ⟨7, _⟩ => ⟨S1792x128, .f32⟩
  | .hbm, ⟨8, _⟩ => ⟨S1792x128, .f32⟩
  | .local _ .vmem, ⟨0, _⟩ => ⟨S1x128x128, .f32⟩
  | .local _ .vmem, ⟨1, _⟩ => ⟨S1x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S1792x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![14], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S1792x128 : Shape := ⟨2, ![1792, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1792x128, .f32⟩
  | .hbm, ⟨1, _⟩ => ⟨S1792x128, .f32⟩
  | .hbm, ⟨2, _⟩ => ⟨S1792x128, .f32⟩
  | .hbm, ⟨3, _⟩ => ⟨S1792x128, .f32⟩
  | .hbm, ⟨4, _⟩ => ⟨S_, .f32⟩
  | .hbm, ⟨5, _⟩ => ⟨S1792x128, .f32⟩
  | .hbm, ⟨6, _⟩ => ⟨S1792x128, .f32⟩
  | .hbm, ⟨7, _⟩ => ⟨S_, .f32⟩
  | .hbm, ⟨8, _⟩ => ⟨S1792x128, .f32⟩
  | .hbm, ⟨9, _⟩ => ⟨S1792x128, .f32⟩
  | .hbm, ⟨10, _⟩ => ⟨S1792x128, .f32⟩
  | .hbm, ⟨11, _⟩ => ⟨S_, .f32⟩
  | .hbm, ⟨12, _⟩ => ⟨S1792x128, .f32⟩
  | .hbm, ⟨13, _⟩ => ⟨S1792x128, .f32⟩
  | .hbm, ⟨14, _⟩ => ⟨S1792x128, .f32⟩
  | .hbm, ⟨15, _⟩ => ⟨S_, .f32⟩
  | .hbm, ⟨16, _⟩ => ⟨S1792x128, .f32⟩
  | .hbm, ⟨17, _⟩ => ⟨S1792x128, .f32⟩
  | .hbm, ⟨18, _⟩ => ⟨S1792x128, .f32⟩
  | .hbm, ⟨19, _⟩ => ⟨S_, .f32⟩
  | .hbm, ⟨20, _⟩ => ⟨S1792x128, .f32⟩
  | .hbm, ⟨21, _⟩ => ⟨S1792x128, .f32⟩
  | .hbm, ⟨22, _⟩ => ⟨S_, .f32⟩
  | .hbm, ⟨23, _⟩ => ⟨S1792x128, .f32⟩
  | .hbm, ⟨24, _⟩ => ⟨S1792x128, .f32⟩
  | .hbm, ⟨25, _⟩ => ⟨S1792x128, .f32⟩
  | .hbm, ⟨26, _⟩ => ⟨S_, .f32⟩
  | .hbm, ⟨27, _⟩ => ⟨S1792x128, .f32⟩
  | .hbm, ⟨28, _⟩ => ⟨S1792x128, .f32⟩
  | .hbm, ⟨29, _⟩ => ⟨S1792x128, .f32⟩
  | .hbm, ⟨30, _⟩ => ⟨S_, .f32⟩
  | .hbm, ⟨31, _⟩ => ⟨S1792x128, .f32⟩
  | .hbm, ⟨32, _⟩ => ⟨S1792x128, .f32⟩
  | .hbm, ⟨33, _⟩ => ⟨S1792x128, .f32⟩
  | .hbm, ⟨34, _⟩ => ⟨S_, .f32⟩
  | .hbm, ⟨35, _⟩ => ⟨S1792x128, .f32⟩
  | .hbm, ⟨36, _⟩ => ⟨S1792x128, .f32⟩
  | _, _ => ⟨S1792x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1408x128 : Shape := ⟨2, ![1408, 128]⟩
abbrev S7x1408x128 : Shape := ⟨3, ![7, 1408, 128]⟩
abbrev S_ : Shape := ⟨0, ![]⟩
abbrev S1 : Shape := ⟨1, ![1]⟩
abbrev S128x128 : Shape := ⟨2, ![128, 128]⟩
abbrev S7x128x128 : Shape := ⟨3, ![7, 128, 128]⟩
abbrev S1x128x128 : Shape := ⟨3, ![1, 128, 128]⟩

abbrev nBuf : Space → Nat
  | .hbm => 4
  | .vmem => 6
  | .smem => 1
  | _ => 0

abbrev bufTy : (tb : Table) → Fin (tcTables nBuf tb) → BufTy
  | .hbm, ⟨0, _⟩ => ⟨S1408x128, .f32⟩
  | .hbm, ⟨1, _⟩ => ⟨S7x1408x128, .f32⟩
  | .hbm, ⟨2, _⟩ => ⟨S_, .i32⟩
  | .hbm, ⟨3, _⟩ => ⟨S1408x128, .f32⟩
  | .local _ .vmem, ⟨0, _⟩ => ⟨S128x128, .f32⟩
  | .local _ .vmem, ⟨1, _⟩ => ⟨S128x128, .f32⟩
  | .local _ .vmem, ⟨2, _⟩ => ⟨S7x128x128, .f32⟩
  | .local _ .vmem, ⟨3, _⟩ => ⟨S7x128x128, .f32⟩
  | .local _ .vmem, ⟨4, _⟩ => ⟨S128x128, .f32⟩
  | .local _ .vmem, ⟨5, _⟩ => ⟨S128x128, .f32⟩
  | .local _ .smem, ⟨0, _⟩ => ⟨S1, .i32⟩
  | _, _ => ⟨S1408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) (c0_i32 : BitVec 32) : Fin 3 → Nat :=
  let v1 : BitVec 32 := Scalar.xori v0 c0_i32
  let c1_i32 : BitVec 32 := 1#32
  let v2 : BitVec 32 := Scalar.subi v1 c1_i32
  let c0_i32_0 : BitVec 32 := 0#32
  let v3 : BitVec 32 := Scalar.maxsi v2 c0_i32_0
  let v6 : Index := Scalar.indexCast v3
  let c0_4 : Index := 0#32
  let c0_5 : Index := 0#32
  ![v6.toNat, 0, 0]

def k0_chk1 (v0 : BitVec 32) : Prop :=
  (∀ (r : Fin 8), ∀ a, (k0_off1 v0 (BitVec.ofNat 32 r.val)) a + S1x128x128.size a ≤ S7x128x128.size a)
theorem k0_off1_inb : ∀ (v0 : BitVec 32) (k0_hw1 : k0_chk1 v0), ∀ (r : Fin 8), ∀ a, (k0_off1 v0 (BitVec.ofNat 32 r.val)) a + S1x128x128.size a ≤ S7x128x128.size a := fun v0 k0_hw1 r => k0_hw1 r

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Kernel19Ideal.lean ====
abbrev S1408x128 : Shape := ⟨2, ![1408, 128]⟩
abbrev S7x1408x128 : Shape := ⟨3, ![7, 1408, 128]⟩
abbrev S_ : Shape := ⟨0, ![]⟩
abbrev S1 : Shape := ⟨1, ![1]⟩
abbrev S128x128 : Shape := ⟨2, ![128, 128]⟩
abbrev S7x128x128 : Shape := ⟨3, ![7, 128, 128]⟩
abbrev S1x128x128 : Shape := ⟨3, ![1, 128, 128]⟩

abbrev nBuf : Space → Nat
  | .hbm => 4
  | .vmem => 6
  | .smem => 1
  | _ => 0

abbrev bufTy : (tb : Table) → Fin (tcTables nBuf tb) → BufTy
  | .hbm, ⟨0, _⟩ => ⟨S1408x128, .f32⟩
  | .hbm, ⟨1, _⟩ => ⟨S7x1408x128, .f32⟩
  | .hbm, ⟨2, _⟩ => ⟨S_, .i32⟩
  | .hbm, ⟨3, _⟩ => ⟨S1408x128, .f32⟩
  | .local _ .vmem, ⟨0, _⟩ => ⟨S128x128, .f32⟩
  | .local _ .vmem, ⟨1, _⟩ => ⟨S128x128, .f32⟩
  | .local _ .vmem, ⟨2, _⟩ => ⟨S7x128x128, .f32⟩
  | .local _ .vmem, ⟨3, _⟩ => ⟨S7x128x128, .f32⟩
  | .local _ .vmem, ⟨4, _⟩ => ⟨S128x128, .f32⟩
  | .local _ .vmem, ⟨5, _⟩ => ⟨S128x128, .f32⟩
  | .local _ .smem, ⟨0, _⟩ => ⟨S1, .i32⟩
  | _, _ => ⟨S1408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) (c0_i32 : BitVec 32) : Fin 3 → Nat :=
  let v1 : BitVec 32 := Scalar.xori v0 c0_i32
  let c1_i32 : BitVec 32 := 1#32
  let v2 : BitVec 32 := Scalar.subi v1 c1_i32
  let c0_i32_0 : BitVec 32 := 0#32
  let v3 : BitVec 32 := Scalar.maxsi v2 c0_i32_0
  let v6 : Index := Scalar.indexCast v3
  let c0_4 : Index := 0#32
  let c0_5 : Index := 0#32
  ![v6.toNat, 0, 0]

def k0_chk1 (v0 : BitVec 32) : Prop :=
  (∀ (r : Fin 8), ∀ a, (k0_off1 v0 (BitVec.ofNat 32 r.val)) a + S1x128x128.size a ≤ S7x128x128.size a)
theorem k0_off1_inb : ∀ (v0 : BitVec 32) (k0_hw1 : k0_chk1 v0), ∀ (r : Fin 8), ∀ a, (k0_off1 v0 (BitVec.ofNat 32 r.val)) a + S1x128x128.size a ≤ S7x128x128.size a := fun v0 k0_hw1 r => k0_hw1 r

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S1408x128 : Shape := ⟨2, ![1408, 128]⟩
abbrev S7x1408x128 : Shape := ⟨3, ![7, 1408, 128]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S1408x128, .f32⟩
  | .hbm, ⟨1, _⟩ => ⟨S7x1408x128, .f32⟩
  | .hbm, ⟨2, _⟩ => ⟨S_, .f32⟩
  | .hbm, ⟨3, _⟩ => ⟨S1408x128, .f32⟩
  | .hbm, ⟨4, _⟩ => ⟨S1408x128, .f32⟩
  | _, _ => ⟨S1408x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S384x128 : Shape := ⟨2, ![384, 128]⟩
abbrev S7x384x128 : Shape := ⟨3, ![7, 384, 128]⟩
abbrev S_ : Shape := ⟨0, ![]⟩
abbrev S1 : Shape := ⟨1, ![1]⟩
abbrev S128x128 : Shape := ⟨2, ![128, 128]⟩
abbrev S7x128x128 : Shape := ⟨3, ![7, 128, 128]⟩
abbrev S1x128x128 : Shape := ⟨3, ![1, 128, 128]⟩

abbrev nBuf : Space → Nat
  | .hbm => 4
  | .vmem => 6
  | .smem => 1
  | _ => 0

abbrev bufTy : (tb : Table) → Fin (tcTables nBuf tb) → BufTy
  | .hbm, ⟨0, _⟩ => ⟨S384x128, .f32⟩
  | .hbm, ⟨1, _⟩ => ⟨S7x384x128, .f32⟩
  | .hbm, ⟨2, _⟩ => ⟨S_, .i32⟩
  | .hbm, ⟨3, _⟩ => ⟨S384x128, .f32⟩
  | .local _ .vmem, ⟨0, _⟩ => ⟨S128x128, .f32⟩
  | .local _ .vmem, ⟨1, _⟩ => ⟨S128x128, .f32⟩
  | .local _ .vmem, ⟨2, _⟩ => ⟨S7x128x128, .f32⟩
  | .local _ .vmem, ⟨3, _⟩ => ⟨S7x128x128, .f32⟩
  | .local _ .vmem, ⟨4, _⟩ => ⟨S128x128, .f32⟩
  | .local _ .vmem, ⟨5, _⟩ => ⟨S128x128, .f32⟩
  | .local _ .smem, ⟨0, _⟩ => ⟨S1, .i32⟩
  | _, _ => ⟨S384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (v0 : BitVec 32) (c0_i32 : BitVec 32) : Fin 3 → Nat :=
  let v1 : BitVec 32 := Scalar.xori v0 c0_i32
  let c1_i32 : BitVec 32 := 1#32
  let v2 : BitVec 32 := Scalar.subi v1 c1_i32
  let c0_i32_0 : BitVec 32 := 0#32
  let v3 : BitVec 32 := Scalar.maxsi v2 c0_i32_0
  let v6 : Index := Scalar.indexCast v3
  let c0_4 : Index := 0#32
  let c0_5 : Index := 0#32
  ![v6.toNat, 0, 0]

def k0_chk1 (v0 : BitVec 32) : Prop :=
  (∀ (r : Fin 8), ∀ a, (k0_off1 v0 (BitVec.ofNat 32 r.val)) a + S1x128x128.size a ≤ S7x128x128.size a)
theorem k0_off1_inb : ∀ (v0 : BitVec 32) (k0_hw1 : k0_chk1 v0), ∀ (r : Fin 8), ∀ a, (k0_off1 v0 (BitVec.ofNat 32 r.val)) a + S1x128x128.size a ≤ S7x128x128.size a := fun v0 k0_hw1 r => k0_hw1 r

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference20Ideal.lean ====
abbrev S384x128 : Shape := ⟨2, ![384, 128]⟩
abbrev S7x384x128 : Shape := ⟨3, ![7, 384, 128]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S384x128, .f32⟩
  | .hbm, ⟨1, _⟩ => ⟨S7x384x128, .f32⟩
  | .hbm, ⟨2, _⟩ => ⟨S_, .f32⟩
  | .hbm, ⟨3, _⟩ => ⟨S384x128, .f32⟩
  | .hbm, ⟨4, _⟩ => ⟨S384x128, .f32⟩
  | _, _ => ⟨S384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel21.lean ====
abbrev S2048x11264 : Shape := ⟨2, ![2048, 11264]⟩
abbrev S7x2048x1408 : Shape := ⟨3, ![7, 2048, 1408]⟩
abbrev S2x2048x1408 : Shape := ⟨3, ![2, 2048, 1408]⟩
abbrev S_ : Shape := ⟨0, ![]⟩
abbrev S1 : Shape := ⟨1, ![1]⟩
abbrev S256x1408 : Shape := ⟨2, ![256, 1408]⟩
abbrev S7x256x1408 : Shape := ⟨3, ![7, 256, 1408]⟩
abbrev S1x256x1408 : Shape := ⟨3, ![1, 256, 1408]⟩
abbrev S1x2048x1408 : Shape := ⟨3, ![1, 2048, 1408]⟩
abbrev S2048x1408 : Shape := ⟨2, ![2048, 1408]⟩

abbrev nBuf : Space → Nat
  | .hbm => 18
  | .vmem => 18
  | .smem => 1
  | _ => 0

abbrev bufTy : (tb : Table) → Fin (tcTables nBuf tb) → BufTy
  | .hbm, ⟨0, _⟩ => ⟨S2048x11264, .bf16⟩
  | .hbm, ⟨1, _⟩ => ⟨S7x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S_, .i32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S2x2048x1408, .f32⟩
  | .hbm, ⟨10, _⟩ => ⟨S1x2048x1408, .f32⟩
  | .hbm, ⟨11, _⟩ => ⟨S2048x1408, .f32⟩
  | .hbm, ⟨12, _⟩ => ⟨S1x2048x1408, .f32⟩
  | .hbm, ⟨13, _⟩ => ⟨S2048x1408, .f32⟩
  | .hbm, ⟨14, _⟩ => ⟨S1x2048x1408, .f32⟩
  | .hbm, ⟨15, _⟩ => ⟨S2048x1408, .f32⟩
  | .hbm, ⟨16, _⟩ => ⟨S1x2048x1408, .f32⟩
  | .hbm, ⟨17, _⟩ => ⟨S2048x1408, .f32⟩
  | .local _ .vmem, ⟨0, _⟩ => ⟨S256x1408, .bf16⟩
  | .local _ .vmem, ⟨1, _⟩ => ⟨S256x1408, .bf16⟩
  | .local _ .vmem, ⟨2, _⟩ => ⟨S7x256x1408, .bf16⟩
  | .local _ .vmem, ⟨3, _⟩ => ⟨S7x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S2048x11264 : Shape := ⟨2, ![2048, 11264]⟩
abbrev S7x2048x1408 : Shape := ⟨3, ![7, 2048, 1408]⟩
abbrev S2x2048x1408 : Shape := ⟨3, ![2, 2048, 1408]⟩
abbrev S1x2048x1408 : Shape := ⟨3, ![1, 2048, 1408]⟩
abbrev S2048x1408 : Shape := ⟨2, ![2048, 1408]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S7x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S1x2048x1408, .f32⟩
  | .hbm, ⟨6, _⟩ => ⟨S2048x1408, .f32⟩
  | .hbm, ⟨7, _⟩ => ⟨S1x2048x1408, .f32⟩
  | .hbm, ⟨8, _⟩ => ⟨S2048x1408, .f32⟩
  | .hbm, ⟨9, _⟩ => ⟨S1x2048x1408, .f32⟩
  | .hbm, ⟨10, _⟩ => ⟨S2048x1408, .f32⟩
  | .hbm, ⟨11, _⟩ => ⟨S2048x1408, .bf16⟩
  | .hbm, ⟨12, _⟩ => ⟨S2048x1408, .f32⟩
  | .hbm, ⟨13, _⟩ => ⟨S7x2048x1408, .f32⟩
  | .hbm, ⟨14, _⟩ => ⟨S_, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Kernel22.lean ====
abbrev S2048x11264 : Shape := ⟨2, ![2048, 11264]⟩
abbrev S7x2048x1408 : Shape := ⟨3, ![7, 2048, 1408]⟩
abbrev S2x2048x1408 : Shape := ⟨3, ![2, 2048, 1408]⟩
abbrev S_ : Shape := ⟨0, ![]⟩
abbrev S1 : Shape := ⟨1, ![1]⟩
abbrev S256x1408 : Shape := ⟨2, ![256, 1408]⟩
abbrev S7x256x1408 : Shape := ⟨3, ![7, 256, 1408]⟩
abbrev S1x256x1408 : Shape := ⟨3, ![1, 256, 1408]⟩

abbrev nBuf : Space → Nat
  | .hbm => 14
  | .vmem => 18
  | .smem => 1
  | _ => 0

abbrev bufTy : (tb : Table) → Fin (tcTables nBuf tb) → BufTy
  | .hbm, ⟨0, _⟩ => ⟨S2048x11264, .bf16⟩
  | .hbm, ⟨1, _⟩ => ⟨S7x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S_, .i32⟩
  | .hbm, ⟨10, _⟩ => ⟨S2x2048x1408, .f32⟩
  | .hbm, ⟨11, _⟩ => ⟨S2x2048x1408, .f32⟩
  | .hbm, ⟨12, _⟩ => ⟨S2x2048x1408, .f32⟩
  | .hbm, ⟨13, _⟩ => ⟨S2x2048x1408, .f32⟩
  | .local _ .vmem, ⟨0, _⟩ => ⟨S256x1408, .bf16⟩
  | .local _ .vmem, ⟨1, _⟩ => ⟨S256x1408, .bf16⟩
  | .local _ .vmem, ⟨2, _⟩ => ⟨S7x256x1408, .bf16⟩
  | .local _ .vmem, ⟨3, _⟩ => ⟨S7x256x1408, .bf16⟩
  | .local _ .vmem, ⟨4, _⟩ => ⟨S1x256x1408, .f32⟩
  | .local _ .vmem, ⟨5, _⟩ => ⟨S1x256x1408, .f32⟩
  | .local _ .vmem, ⟨6, _⟩ => ⟨S1x256x1408, .f32⟩
  | .local _ .vmem, ⟨7, _⟩ => ⟨S1x256x1408, .f32⟩
  | .local _ .vmem, ⟨8, _⟩ => ⟨S1x256x1408, .f32⟩
  | .local _ .vmem, ⟨9, _⟩ => ⟨S1x256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .smem, ⟨0, _⟩ => ⟨S1, .i32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  ![arg0.toNat, v0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference22Ideal.lean ====
abbrev S2048x11264 : Shape := ⟨2, ![2048, 11264]⟩
abbrev S7x2048x1408 : Shape := ⟨3, ![7, 2048, 1408]⟩
abbrev S2x2048x1408 : Shape := ⟨3, ![2, 2048, 1408]⟩
abbrev S1x2048x1408 : Shape := ⟨3, ![1, 2048, 1408]⟩
abbrev S2048x1408 : Shape := ⟨2, ![2048, 1408]⟩
abbrev S_ : Shape := ⟨0, ![]⟩

abbrev nBuf : Space → Nat
  | .hbm => 74
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S7x2048x1408, .bf16⟩
  | .hbm, ⟨2, _⟩ => ⟨S2x2048x1408, .f32⟩
  | .hbm, ⟨3, _⟩ => ⟨S2x2048x1408, .f32⟩
  | .hbm, ⟨4, _⟩ => ⟨S2x2048x1408, .f32⟩
  | .hbm, ⟨5, _⟩ => ⟨S2x2048x1408, .f32⟩
  | .hbm, ⟨6, _⟩ => ⟨S2x2048x1408, .f32⟩
  | .hbm, ⟨7, _⟩ => ⟨S2x2048x1408, .f32⟩
  | .hbm, ⟨8, _⟩ => ⟨S2x2048x1408, .f32⟩
  | .hbm, ⟨9, _⟩ => ⟨S1x2048x1408, .f32⟩
  | .hbm, ⟨10, _⟩ => ⟨S2048x1408, .f32⟩
  | .hbm, ⟨11, _⟩ => ⟨S1x2048x1408, .f32⟩
  | .hbm, ⟨12, _⟩ => ⟨S2048x1408, .f32⟩
  | .hbm, ⟨13, _⟩ => ⟨S1x2048x1408, .f32⟩
  | .hbm, ⟨14, _⟩ => ⟨S2048x1408, .f32⟩
  | .hbm, ⟨15, _⟩ => ⟨S2048x1408, .bf16⟩
  | .hbm, ⟨16, _⟩ => ⟨S2048x1408, .f32⟩
  | .hbm, ⟨17, _⟩ => ⟨S7x2048x1408, .f32⟩
  | .hbm, ⟨18, _⟩ => ⟨S_, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | .hbm, ⟨39, _⟩ => ⟨S_, .f32⟩
  | .hbm, ⟨40, _⟩ => ⟨S2048x1408, .f32⟩
  | .hbm, ⟨41, _⟩ => ⟨S2048x1408, .f32⟩
  | .hbm, ⟨42, _⟩ => ⟨S2048x1408, .f32⟩
  | .hbm, ⟨43, _⟩ => ⟨S_, .f32⟩
  | .hbm, ⟨44, _⟩ => ⟨S2048x1408, .f32⟩
  | .hbm, ⟨45, _⟩ => ⟨S2048x1408, .f32⟩
  | .hbm, ⟨46, _⟩ => ⟨S2048x1408, .f32⟩
  | .hbm, ⟨47, _⟩ => ⟨S_, .f32⟩
  | .hbm, ⟨48, _⟩ => ⟨S2048x1408, .f32⟩
  | .hbm, ⟨49, _⟩ => ⟨S2048x1408, .f32⟩
  | .hbm, ⟨50, _⟩ => ⟨S2048x1408, .f32⟩
  | .hbm, ⟨51, _⟩ => ⟨S_, .f32⟩
  | .hbm, ⟨52, _⟩ => ⟨S2048x1408, .f32⟩
  | .hbm, ⟨53, _⟩ => ⟨S2048x1408, .f32⟩
  | .hbm, ⟨54, _⟩ => ⟨S1x2048x1408, .f32⟩
  | .hbm, ⟨55, _⟩ => ⟨S2048x1408, .f32⟩
  | .hbm, ⟨56, _⟩ => ⟨S1x2048x1408, .f32⟩
  | .hbm, ⟨57, _⟩ => ⟨S1x2048x1408, .f32⟩
  | .hbm, ⟨58, _⟩ => ⟨S2x2048x1408, .f32⟩
  | .hbm, ⟨59, _⟩ => ⟨S1x2048x1408, .f32⟩
  | .hbm, ⟨60, _⟩ => ⟨S2048x1408, .f32⟩
  | .hbm, ⟨61, _⟩ => ⟨S1x2048x1408, .f32⟩
  | .hbm, ⟨62, _⟩ => ⟨S1x2048x1408, .f32⟩
  | .hbm, ⟨63, _⟩ => ⟨S2x2048x1408, .f32⟩
  | .hbm, ⟨64, _⟩ => ⟨S1x2048x1408, .f32⟩
  | .hbm, ⟨65, _⟩ => ⟨S2048x1408, .f32⟩
  | .hbm, ⟨66, _⟩ => ⟨S1x2048x1408, .f32⟩
  | .hbm, ⟨67, _⟩ => ⟨S1x2048x1408, .f32⟩
  | .hbm, ⟨68, _⟩ => ⟨S2x2048x1408, .f32⟩
  | .hbm, ⟨69, _⟩ => ⟨S1x2048x1408, .f32⟩
  | .hbm, ⟨70, _⟩ => ⟨S2048x1408, .f32⟩
  | .hbm, ⟨71, _⟩ => ⟨S1x2048x1408, .f32⟩
  | .hbm, ⟨72, _⟩ => ⟨S1x2048x1408, .f32⟩
  | .hbm, ⟨73, _⟩ => ⟨S2x2048x1408, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Kernel23.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference23Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 47
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x1, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩

abbrev nD : Nat := 1
abbrev τ : Topo := Topo.v7x

variable {F : FTy → Type} [FloatOps F]
-- ==== Kernel24.lean ====
abbrev S4096x2048 : Shape := ⟨2, ![4096, 2048]⟩
abbrev S2048x3072 : Shape := ⟨2, ![2048, 3072]⟩
abbrev S3x4096x1024 : Shape := ⟨3, ![3, 4096, 1024]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S3x4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .f32⟩
  | .local _ .vmem, ⟨5, _⟩ => ⟨S1x2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S4096x2048 : Shape := ⟨2, ![4096, 2048]⟩
abbrev S2048x3072 : Shape := ⟨2, ![2048, 3072]⟩
abbrev S4096x3072 : Shape := ⟨2, ![4096, 3072]⟩
abbrev S4096x1024 : Shape := ⟨2, ![4096, 1024]⟩
abbrev S1x4096x1024 : Shape := ⟨3, ![1, 4096, 1024]⟩
abbrev S3x4096x1024 : Shape := ⟨3, ![3, 4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S1x4096x1024, .f32⟩
  | .hbm, ⟨9, _⟩ => ⟨S1x4096x1024, .f32⟩
  | .hbm, ⟨10, _⟩ => ⟨S1x4096x1024, .f32⟩
  | .hbm, ⟨11, _⟩ => ⟨S3x4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel25.lean ====
abbrev S4096x2048 : Shape := ⟨2, ![4096, 2048]⟩
abbrev S2048x8192 : Shape := ⟨2, ![2048, 8192]⟩
abbrev S4x4096x2048 : Shape := ⟨3, ![4, 4096, 2048]⟩
abbrev S2048x2048 : Shape := ⟨2, ![2048, 2048]⟩
abbrev S2048x1024 : Shape := ⟨2, ![2048, 1024]⟩
abbrev S1x2048x1024 : Shape := ⟨3, ![1, 2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4x4096x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x1024, .f32⟩
  | .local _ .vmem, ⟨5, _⟩ => ⟨S1x2048x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S4096x2048 : Shape := ⟨2, ![4096, 2048]⟩
abbrev S2048x8192 : Shape := ⟨2, ![2048, 8192]⟩
abbrev S4096x8192 : Shape := ⟨2, ![4096, 8192]⟩
abbrev S1x4096x2048 : Shape := ⟨3, ![1, 4096, 2048]⟩
abbrev S4x4096x2048 : Shape := ⟨3, ![4, 4096, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x8192, .bf16⟩
  | .hbm, ⟨2, _⟩ => ⟨S4096x2048, .f32⟩
  | .hbm, ⟨3, _⟩ => ⟨S2048x8192, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S1x4096x2048, .f32⟩
  | .hbm, ⟨10, _⟩ => ⟨S1x4096x2048, .f32⟩
  | .hbm, ⟨11, _⟩ => ⟨S1x4096x2048, .f32⟩
  | .hbm, ⟨12, _⟩ => ⟨S1x4096x2048, .f32⟩
  | .hbm, ⟨13, _⟩ => ⟨S4x4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Kernel26.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference26Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel27.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference27Ideal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x5632, .f32⟩
  | .hbm, ⟨7, _⟩ => ⟨S5632x2048, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel28.lean ====
abbrev S4096x2048 : Shape := ⟨2, ![4096, 2048]⟩
abbrev S2048x2048 : Shape := ⟨2, ![2048, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== Reference28Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S2048x2048, .f32⟩
  | .hbm, ⟨10, _⟩ => ⟨S4096x2048, .f32⟩
  | .hbm, ⟨11, _⟩ => ⟨S4096x2048, .f32⟩
  | .hbm, ⟨12, _⟩ => ⟨S2048, .f32⟩
  | .hbm, ⟨13, _⟩ => ⟨S2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel29.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference29Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 35
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x2048, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S1x2048, .f32⟩
  | .hbm, ⟨32, _⟩ => ⟨S4096x2048, .f32⟩
  | .hbm, ⟨33, _⟩ => ⟨S4096x2048, .f32⟩
  | .hbm, ⟨34, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel30.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩
abbrev S4096 : Shape := ⟨1, ![4096]⟩
abbrev S4096x1 : Shape := ⟨2, ![4096, 1]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S_, .f32⟩
  | .hbm, ⟨4, _⟩ => ⟨S1x2048, .f32⟩
  | .hbm, ⟨5, _⟩ => ⟨S2048, .f32⟩
  | .hbm, ⟨6, _⟩ => ⟨S2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x2048, .f32⟩
  | .hbm, ⟨29, _⟩ => ⟨S4096x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S1x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S_, .f32⟩
  | .hbm, ⟨41, _⟩ => ⟨S2048, .f32⟩
  | .hbm, ⟨42, _⟩ => ⟨S4096x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel31.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference31Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S4096x2048, .f32⟩
  | .hbm, ⟨28, _⟩ => ⟨S4096x2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S1x1, .f32⟩
  | .hbm, ⟨50, _⟩ => ⟨S_, .f32⟩
  | .hbm, ⟨51, _⟩ => ⟨S1x1, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4096, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S2048, .f32⟩
  | .hbm, ⟨64, _⟩ => ⟨S1x2048, .f32⟩
  | .hbm, ⟨65, _⟩ => ⟨S_, .f32⟩
  | .hbm, ⟨66, _⟩ => ⟨S2048, .f32⟩
  | .hbm, ⟨67, _⟩ => ⟨S4096x2048, .f32⟩
  | .hbm, ⟨68, _⟩ => ⟨S_, .f32⟩
  | .hbm, ⟨69, _⟩ => ⟨S2048, .f32⟩
  | .hbm, ⟨70, _⟩ => ⟨S1x2048, .f32⟩
  | .hbm, ⟨71, _⟩ => ⟨S_, .f32⟩
  | .hbm, ⟨72, _⟩ => ⟨S2048, .f32⟩
  | .hbm, ⟨73, _⟩ => ⟨S1x2048, .f32⟩
  | .hbm, ⟨74, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_13 : Ref sig .tc := ⟨.hbm, 62, rfl⟩
abbrev main_v44 : Ref sig .tc := ⟨.hbm, 63, rfl⟩
abbrev main_v45 : Ref sig .tc := ⟨.hbm, 64, rfl⟩
abbrev main_cst_14 : Ref sig .tc := ⟨.hbm, 65, rfl⟩
abbrev main_v46 : Ref sig .tc := ⟨.hbm, 66, rfl⟩
abbrev main_v47 : Ref sig .tc := ⟨.hbm, 67, rfl⟩
abbrev main_cst_15 : Ref sig .tc := ⟨.hbm, 68, rfl⟩
abbrev main_v48 : Ref sig .tc := ⟨.hbm, 69, rfl⟩
abbrev main_v49 : Ref sig .tc := ⟨.hbm, 70, rfl⟩
abbrev main_cst_16 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Kernel32.lean ====
abbrev S4096x2048 : Shape := ⟨2, ![4096, 2048]⟩
abbrev S512x2048 : Shape := ⟨2, ![512, 2048]⟩

abbrev nBuf : Space → Nat
  | .hbm => 2
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference32Ideal.lean ====
abbrev S4096x2048 : Shape := ⟨2, ![4096, 2048]⟩

abbrev nBuf : Space → Nat
  | .hbm => 2
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Kernel33.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .hbm, ⟨5, _⟩ => ⟨S1x2048, .f32⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference33Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096, .f32⟩
  | .hbm, ⟨47, _⟩ => ⟨S4096x1, .f32⟩
  | .hbm, ⟨48, _⟩ => ⟨S4096x2048, .f32⟩
  | .hbm, ⟨49, _⟩ => ⟨S4096x2048, .f32⟩
  | .hbm, ⟨50, _⟩ => ⟨S4096x1, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S4096x2048, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096, .f32⟩
  | .hbm, ⟨73, _⟩ => ⟨S4096x2048, .f32⟩
  | .hbm, ⟨74, _⟩ => ⟨S4096x2048, .f32⟩
  | .hbm, ⟨75, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_8 : Ref sig .tc := ⟨.hbm, 52, rfl⟩
abbrev main_v40 : Ref sig .tc := ⟨.hbm, 53, rfl⟩
abbrev main_v41 : Ref sig .tc := ⟨.hbm, 54, rfl⟩
abbrev main_cst_9 : Ref sig .tc := ⟨.hbm, 55, rfl⟩
abbrev main_v42 : Ref sig .tc := ⟨.hbm, 56, rfl⟩
abbrev main_v43 : Ref sig .tc := ⟨.hbm, 57, rfl⟩
abbrev main_cst_10 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_11 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_12 : Ref sig .tc := ⟨.hbm, 68, rfl⟩
abbrev main_v52 : Ref sig .tc := ⟨.hbm, 69, rfl⟩
abbrev main_v53 : Ref sig .tc := ⟨.hbm, 70, rfl⟩
abbrev main_cst_13 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel34.lean ====
abbrev S4096x2048 : Shape := ⟨2, ![4096, 2048]⟩
abbrev S1x2048 : Shape := ⟨2, ![1, 2048]⟩
abbrev S1x1 : Shape := ⟨2, ![1, 1]⟩
abbrev S512x2048 : Shape := ⟨2, ![512, 2048]⟩
abbrev S512 : Shape := ⟨1, ![512]⟩
abbrev S512x1 : Shape := ⟨2, ![512, 1]⟩
abbrev S2048 : Shape := ⟨1, ![2048]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S1x1, .f32⟩
  | .hbm, ⟨5, _⟩ => ⟨S4096x2048, .f32⟩
  | .hbm, ⟨6, _⟩ => ⟨S4096x2048, .bf16⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S1x1, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v73 : BitVec 1 := Scalar.cmpi .eq arg0 c7_i32
  let v74 : BitVec 32 := Scalar.extui v73
  let c0_i32_38 : BitVec 32 := 0#32
  let v75 : BitVec 1 := Scalar.cmpi .ne v74 c0_i32_38
  v75

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference34Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x2048, .f32⟩
  | .hbm, ⟨4, _⟩ => ⟨S2048, .f32⟩
  | .hbm, ⟨5, _⟩ => ⟨S2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S4096x2048, .f32⟩
  | .hbm, ⟨38, _⟩ => ⟨S4096x2048, .f32⟩
  | .hbm, ⟨39, _⟩ => ⟨S1x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S1x1, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x2048, .f32⟩
  | .hbm, ⟨76, _⟩ => ⟨S4096x2048, .f32⟩
  | .hbm, ⟨77, _⟩ => ⟨S4096x1, .f32⟩
  | .hbm, ⟨78, _⟩ => ⟨S4096x2048, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S_, .f32⟩
  | .hbm, ⟨83, _⟩ => ⟨S4096x1, .f32⟩
  | .hbm, ⟨84, _⟩ => ⟨S4096x1, .f32⟩
  | .hbm, ⟨85, _⟩ => ⟨S_, .f32⟩
  | .hbm, ⟨86, _⟩ => ⟨S4096, .f32⟩
  | .hbm, ⟨87, _⟩ => ⟨S4096x2048, .f32⟩
  | .hbm, ⟨88, _⟩ => ⟨S4096x2048, .f32⟩
  | .hbm, ⟨89, _⟩ => ⟨S4096x2048, .f32⟩
  | .hbm, ⟨90, _⟩ => ⟨S_, .f32⟩
  | .hbm, ⟨91, _⟩ => ⟨S4096, .f32⟩
  | .hbm, ⟨92, _⟩ => ⟨S4096x1, .f32⟩
  | .hbm, ⟨93, _⟩ => ⟨S4096x2048, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x2048, .f32⟩
  | .hbm, ⟨101, _⟩ => ⟨S4096x2048, .f32⟩
  | .hbm, ⟨102, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_cst_11 : Ref sig .tc := ⟨.hbm, 57, rfl⟩
abbrev main_v41 : Ref sig .tc := ⟨.hbm, 58, rfl⟩
abbrev main_cst_12 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_16 : Ref sig .tc := ⟨.hbm, 79, rfl⟩
abbrev main_v58 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_v61 : Ref sig .tc := ⟨.hbm, 84, rfl⟩
abbrev main_cst_18 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_20 : Ref sig .tc := ⟨.hbm, 95, rfl⟩
abbrev main_v70 : Ref sig .tc := ⟨.hbm, 96, rfl⟩
abbrev main_v71 : Ref sig .tc := ⟨.hbm, 97, rfl⟩
abbrev main_cst_21 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Proof.Windows.lean ====
module

public import Idealize.ShloMosaic.PureOps.Ideal
public import Idealize.ShloMosaic.Lib.Pointwise
public import Mathlib.Algebra.BigOperators.Fin
public import Mathlib.Algebra.BigOperators.Intervals

/-! Running sums inside blocks of 64 rows: by doubling (as the kernel takes them) and by a window of 64 (as the
    reference takes them). Everything here is about sums in a commutative monoid. -/

@[expose] public section

noncomputable section

namespace Cert.Rows

open Idealize.ShloMosaic Idealize.ShloMosaic.Pointwise

variable {M : Type} [AddCommMonoid M]

/-- The `n` rows ending at row `r`, those of its block of 64 only. -/
def back (n : ℕ) (f : ℕ → M) (r : ℕ) : M := ∑ k ∈ Finset.range n, if k ≤ r % 64 then f (r - k) else 0

/-- The `n` rows starting at row `r`, those of its block of 64 only. -/
def fwd (n : ℕ) (f : ℕ → M) (r : ℕ) : M := ∑ k ∈ Finset.range n, if r % 64 + k < 64 then f (r + k) else 0

theorem back_one (f : ℕ → M) (r : ℕ) : back 1 f r = f r := by simp [back]

theorem fwd_one (f : ℕ → M) (r : ℕ) : fwd 1 f r = f r := by
  simp [fwd, Nat.mod_lt]

/-- One step of the doubling, looking back. -/
theorem back_step (n : ℕ) (f : ℕ → M) (r : ℕ) :
    back n f r + (if n ≤ r % 64 then back n f (r - n) else 0) = back (n + n) f r := by
  unfold back
  rw [Finset.sum_range_add]
  congr 1
  split
  · next h =>
    refine Finset.sum_congr rfl fun k _ => ?_
    have e : (r - n) % 64 = r % 64 - n := by omega
    rw [e, Nat.sub_sub]
    exact if_congr (by omega) rfl rfl
  · next h =>
    refine (Finset.sum_eq_zero fun k _ => ?_).symm
    exact if_neg (by omega)

/-- One step of the doubling, looking ahead. -/
theorem fwd_step (n : ℕ) (f : ℕ → M) (r : ℕ) :
    fwd n f r + (if r % 64 + n < 64 then fwd n f (r + n) else 0) = fwd (n + n) f r := by
  unfold fwd
  rw [Finset.sum_range_add]
  congr 1
  split
  · next h =>
    refine Finset.sum_congr rfl fun k _ => ?_
    have e : (r + n) % 64 = r % 64 + n := by omega
    rw [e, Nat.add_assoc, Nat.add_assoc]
  · next h =>
    refine (Finset.sum_eq_zero fun k _ => ?_).symm
    exact if_neg (by omega)

/-- Sixty-four rows back are the rows of the block up to this one. -/
theorem back_64 (f : ℕ → M) (r : ℕ) :
    back 64 f r = ∑ i : Fin 64, if i.val ≤ r % 64 then f (64 * (r / 64) + i.val) else 0 := by
  have hr : r % 64 < 64 := Nat.mod_lt _ (by decide)
  rw [Fin.sum_univ_eq_sum_range (fun i => if i ≤ r % 64 then f (64 * (r / 64) + i) else 0) 64]
  unfold back
  rw [← Finset.sum_filter, ← Finset.sum_filter]
  refine Finset.sum_nbij' (fun k => r % 64 - k) (fun k => r % 64 - k) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk; simp only [Finset.mem_filter, Finset.mem_range] at hk
    exact congrArg f (by omega)

/-- Sixty-four rows ahead are the rows of the block from this one on. -/
theorem fwd_64 (f : ℕ → M) (r : ℕ) :
    fwd 64 f r = ∑ i : Fin 64, if r % 64 ≤ i.val then f (64 * (r / 64) + i.val) else 0 := by
  have hr : r % 64 < 64 := Nat.mod_lt _ (by decide)
  rw [Fin.sum_univ_eq_sum_range (fun i => if r % 64 ≤ i then f (64 * (r / 64) + i) else 0) 64]
  unfold fwd
  rw [← Finset.sum_filter, ← Finset.sum_filter]
  refine Finset.sum_nbij' (fun k => r % 64 + k) (fun k => k - r % 64) ?_ ?_ ?_ ?_ ?_
  · intro k hk; simp only [Finset.mem_filter, Finset.mem_range] at hk ⊢; omega
  · intro k hk; simp only [Finset.mem_filter, Finset.mem_range] at hk ⊢; omega
  · intro k hk; simp only [Finset.mem_filter, Finset.mem_range] at hk; omega
  · intro k hk; simp only [Finset.mem_filter, Finset.mem_range] at hk; omega
  · intro k hk; simp only [Finset.mem_filter, Finset.mem_range] at hk
    exact congrArg f (by omega)

theorem foldl_add_eq {ι : Type} (l : List ι) (g : ι → M) (v : M) :
    l.foldl (fun r n => r + g n) v = v + (l.map g).sum := by
  induction l generalizing v with
  | nil => simp
  | cons a l ih => simp [ih, add_assoc]

theorem foldl_finRange (n : ℕ) (g : Fin n → M) (v : M) :
    (List.finRange n).foldl (fun r k => r + g k) v = v + ∑ k : Fin n, g k := by
  rw [foldl_add_eq, ← List.ofFn_eq_map, List.sum_ofFn]

abbrev Win : Shape := ⟨3, ![1, 64, 1]⟩
abbrev Box : Shape := ⟨3, ![64, 64, 2048]⟩

theorem numel_win : Win.numel = 64 := by decide

theorem win_coord0 : ∀ n : Fin Win.numel, (Win.rowMajor.symm n 0).val = 0 := fun n =>
  Nat.lt_one_iff.1 (Win.rowMajor.symm n 0).isLt

theorem win_coord2 : ∀ n : Fin Win.numel, (Win.rowMajor.symm n 2).val = 0 := fun n =>
  Nat.lt_one_iff.1 (Win.rowMajor.symm n 2).isLt

theorem win_coord1 : ∀ n : Fin Win.numel, (Win.rowMajor.symm n 1).val = n.val := by decide +kernel

theorem ix3_eta (j : Box.Idx) (a b c : ℕ) (ha : (j 0).val = a) (hb : (j 1).val = b) (hc : (j 2).val = c)
    (h0 : a < 64) (h1 : b < 64) (h2 : c < 2048) : j = ix3 ⟨a, h0⟩ ⟨b, h1⟩ ⟨c, h2⟩ := by
  funext t
  match t with
  | ⟨0, _⟩ => exact Fin.ext ha
  | ⟨1, _⟩ => exact Fin.ext hb
  | ⟨2, _⟩ => exact Fin.ext hc

/-- The window of 64 padded by 63 in front, at an index: the rows up to this one. -/
theorem window_back (h : Box.ReduceWindows (![1, 64, 1] : Fin 3 → Nat) ![1, 1, 1] ![0, 63, 0] ![0, 0, 0] Box)
    (x : Box.Idx → EReal) (c : Fin 64) (i : Fin 64) (l : Fin 2048) :
    Ideal.hostReduceWindowAdd ![1, 64, 1] ![1, 1, 1] ![0, 63, 0] ![0, 0, 0] h x 0 (ix3 c i l)
      = ∑ k : Fin 64, if k.val ≤ i.val then x (ix3 c k l) else 0 := by
  have hi := i.isLt
  unfold Ideal.hostReduceWindowAdd Host.reduceWindow
  dsimp only
  refine (foldl_finRange _ _ _).trans ?_
  rw [zero_add]
  trans ∑ n : Fin 64, if 63 ≤ i.val + n.val then x (ix3 c ⟨(i.val + n.val - 63) % 64, Nat.mod_lt _ (by decide)⟩ l) else 0
  · refine Fintype.sum_equiv (finCongr numel_win) _ _ fun n => ?_
    have hn : n.val < 64 := lt_of_lt_of_eq n.isLt numel_win
    have hv : ((finCongr numel_win) n).val = n.val := rfl
    simp only [hv]
    split
    · next hin =>
      have h1 := hin 1
      change 63 ≤ i.val * 1 + (Win.rowMajor.symm n 1).val ∧ i.val * 1 + (Win.rowMajor.symm n 1).val - 63 < 64 at h1
      rw [win_coord1] at h1
      rw [if_pos (show 63 ≤ i.val + n.val by omega)]
      refine congrArg x (ix3_eta _ _ _ _ ?_ ?_ ?_ _ _ _)
      · show c.val * 1 + (Win.rowMajor.symm n 0).val - 0 = c.val
        rw [win_coord0]; omega
      · show i.val * 1 + (Win.rowMajor.symm n 1).val - 63 = (i.val + n.val - 63) % 64
        rw [win_coord1]; omega
      · show l.val * 1 + (Win.rowMajor.symm n 2).val - 0 = l.val
        rw [win_coord2]; omega
    · next hin =>
      rw [if_neg]
      intro hle
      refine hin fun a => ?_
      have hc := c.isLt
      have hl := l.isLt
      match a with
      | ⟨0, _⟩ =>
        show 0 ≤ c.val * 1 + (Win.rowMajor.symm n 0).val ∧ c.val * 1 + (Win.rowMajor.symm n 0).val - 0 < 64
        rw [win_coord0]; omega
      | ⟨1, _⟩ =>
        show 63 ≤ i.val * 1 + (Win.rowMajor.symm n 1).val ∧ i.val * 1 + (Win.rowMajor.symm n 1).val - 63 < 64
        rw [win_coord1]
        change 63 ≤ i.val + n.val at hle
        omega
      | ⟨2, _⟩ =>
        show 0 ≤ l.val * 1 + (Win.rowMajor.symm n 2).val ∧ l.val * 1 + (Win.rowMajor.symm n 2).val - 0 < 2048
        rw [win_coord2]; omega
  · rw [← Finset.sum_filter, ← Finset.sum_filter]
    refine Finset.sum_bij' (fun n _ => ⟨(i.val + n.val - 63) % 64, Nat.mod_lt _ (by decide)⟩)
      (fun k _ => ⟨(63 + k.val - i.val) % 64, Nat.mod_lt _ (by decide)⟩) ?_ ?_ ?_ ?_ ?_
    · intro n hn; simp only [Finset.mem_filter, Finset.mem_univ, true_and] at hn ⊢; omega
    · intro k hk; simp only [Finset.mem_filter, Finset.mem_univ, true_and] at hk ⊢; omega
    · intro n hn; simp only [Finset.mem_filter, Finset.mem_univ, true_and] at hn; apply Fin.ext; dsimp only; omega
    · intro k hk; simp only [Finset.mem_filter, Finset.mem_univ, true_and] at hk; apply Fin.ext; dsimp only; omega
    · intro n hn; rfl

/-- The window of 64 padded by 63 behind, at an index: the rows from this one on. -/
theorem window_fwd (h : Box.ReduceWindows (![1, 64, 1] : Fin 3 → Nat) ![1, 1, 1] ![0, 0, 0] ![0, 63, 0] Box)
    (x : Box.Idx → EReal) (c : Fin 64) (i : Fin 64) (l : Fin 2048) :
    Ideal.hostReduceWindowAdd ![1, 64, 1] ![1, 1, 1] ![0, 0, 0] ![0, 63, 0] h x 0 (ix3 c i l)
      = ∑ k : Fin 64, if i.val ≤ k.val then x (ix3 c k l) else 0 := by
  have hi := i.isLt
  unfold Ideal.hostReduceWindowAdd Host.reduceWindow
  dsimp only
  refine (foldl_finRange _ _ _).trans ?_
  rw [zero_add]
  trans ∑ n : Fin 64, if i.val + n.val < 64 then x (ix3 c ⟨(i.val + n.val) % 64, Nat.mod_lt _ (by decide)⟩ l) else 0
  · refine Fintype.sum_equiv (finCongr numel_win) _ _ fun n => ?_
    have hn : n.val < 64 := lt_of_lt_of_eq n.isLt numel_win
    have hv : ((finCongr numel_win) n).val = n.val := rfl
    simp only [hv]
    split
    · next hin =>
      have h1 := hin 1
      change 0 ≤ i.val * 1 + (Win.rowMajor.symm n 1).val ∧ i.val * 1 + (Win.rowMajor.symm n 1).val - 0 < 64 at h1
      rw [win_coord1] at h1
      rw [if_pos (show i.val + n.val < 64 by omega)]
      refine congrArg x (ix3_eta _ _ _ _ ?_ ?_ ?_ _ _ _)
      · show c.val * 1 + (Win.rowMajor.symm n 0).val - 0 = c.val
        rw [win_coord0]; omega
      · show i.val * 1 + (Win.rowMajor.symm n 1).val - 0 = (i.val + n.val) % 64
        rw [win_coord1]; omega
      · show l.val * 1 + (Win.rowMajor.symm n 2).val - 0 = l.val
        rw [win_coord2]; omega
    · next hin =>
      rw [if_neg]
      intro hle
      refine hin fun a => ?_
      have hc := c.isLt
      have hl := l.isLt
      match a with
      | ⟨0, _⟩ =>
        show 0 ≤ c.val * 1 + (Win.rowMajor.symm n 0).val ∧ c.val * 1 + (Win.rowMajor.symm n 0).val - 0 < 64
        rw [win_coord0]; omega
      | ⟨1, _⟩ =>
        show 0 ≤ i.val * 1 + (Win.rowMajor.symm n 1).val ∧ i.val * 1 + (Win.rowMajor.symm n 1).val - 0 < 64
        rw [win_coord1]
        change i.val + n.val < 64 at hle
        omega
      | ⟨2, _⟩ =>
        show 0 ≤ l.val * 1 + (Win.rowMajor.symm n 2).val ∧ l.val * 1 + (Win.rowMajor.symm n 2).val - 0 < 2048
        rw [win_coord2]; omega
  · rw [← Finset.sum_filter, ← Finset.sum_filter]
    refine Finset.sum_bij' (fun n _ => ⟨(i.val + n.val) % 64, Nat.mod_lt _ (by decide)⟩)
      (fun k _ => ⟨(k.val - i.val) % 64, Nat.mod_lt _ (by decide)⟩) ?_ ?_ ?_ ?_ ?_
    · intro n hn; simp only [Finset.mem_filter, Finset.mem_univ, true_and] at hn ⊢; omega
    · intro k hk; simp only [Finset.mem_filter, Finset.mem_univ, true_and] at hk ⊢; omega
    · intro n hn; simp only [Finset.mem_filter, Finset.mem_univ, true_and] at hn; apply Fin.ext; dsimp only; omega
    · intro k hk; simp only [Finset.mem_filter, Finset.mem_univ, true_and] at hk; apply Fin.ext; dsimp only; omega
    · intro n hn; rfl

end Cert.Rows

end
-- ==== Proof.Spec.lean ====
module

public import proofs.«01_k».proof.Proof.Windows

/-! The gradient of the gates and decays over the reals, one channel: rows are numbered by naturals, a chunk is a block of 64 rows. -/

@[expose] public section

noncomputable section

namespace Cert.Rows

open Idealize.ShloMosaic

/-- The sum of the rows of this row's chunk up to this row; from this row on; all of them. -/
def upto (g : ℕ → ℝ) (r : ℕ) : ℝ := ∑ i : Fin 64, if i.val ≤ r % 64 then g (64 * (r / 64) + i.val) else 0
def onward (g : ℕ → ℝ) (r : ℕ) : ℝ := ∑ i : Fin 64, if r % 64 ≤ i.val then g (64 * (r / 64) + i.val) else 0
def whole (g : ℕ → ℝ) (r : ℕ) : ℝ := ∑ i : Fin 64, g (64 * (r / 64) + i.val)

/-- The logistic function. -/
def sg (x : ℝ) : ℝ := 1 / (1 + Real.exp (-x))

/-- The forget gate, and its logarithm. -/
def fg (lb : ℝ) (fl : ℕ → ℝ) (r : ℕ) : ℝ := lb + (1 - lb) * sg (fl r)
def lg (lb : ℝ) (fl : ℕ → ℝ) (r : ℕ) : ℝ := Real.log (fg lb fl r)

/-- The query's, the key's and the end key's cotangents times their decays. -/
def tq (lb : ℝ) (fl a : ℕ → ℝ) (r : ℕ) : ℝ := a r * Real.exp (upto (lg lb fl) r)
def tkd (lb : ℝ) (fl b : ℕ → ℝ) (r : ℕ) : ℝ := b r * Real.exp (-(upto (lg lb fl) r))
def tke (lb : ℝ) (fl c : ℕ → ℝ) (r : ℕ) : ℝ := c r * Real.exp (whole (lg lb fl) r - upto (lg lb fl) r)
def ket (lb : ℝ) (fl c : ℕ → ℝ) (r : ℕ) : ℝ := tke lb fl c r * (1 - fg lb fl r)

/-- The cotangent of the running sum of log-gates, without the chunk end's part. -/
def db (lb : ℝ) (q fl a b c : ℕ → ℝ) (r : ℕ) : ℝ :=
  tq lb fl a r * (q r * sg (q r)) - tkd lb fl b r * (1 - fg lb fl r) - ket lb fl c r

/-- The cotangent of the chunk's whole sum of log-gates. -/
def dtot (lb : ℝ) (fl c e : ℕ → ℝ) (r : ℕ) : ℝ := whole (ket lb fl c) r + e (r / 64) * Real.exp (whole (lg lb fl) r)

/-- The cotangent of the gate. -/
def df (lb : ℝ) (q fl a b c e : ℕ → ℝ) (r : ℕ) : ℝ :=
  (onward (db lb q fl a b c) r + dtot lb fl c e r) / fg lb fl r - (tkd lb fl b r + tke lb fl c r)

/-- The query row's gradient and the gate row's. -/
def gq (lb : ℝ) (q fl a : ℕ → ℝ) (r : ℕ) : ℝ := tq lb fl a r * sg (q r) * (1 + q r * (1 - sg (q r)))
def gf (lb : ℝ) (q fl a b c e : ℕ → ℝ) (r : ℕ) : ℝ :=
  df lb q fl a b c e r * (1 - lb) * sg (fl r) * (1 - sg (fl r))

/-- A row's part of the lower bound's gradient. -/
def gl (lb : ℝ) (q fl a b c e : ℕ → ℝ) (r : ℕ) : ℝ := df lb q fl a b c e r * (1 - sg (fl r))

/-! ## Signs -/

theorem one_add_exp_pos (x : ℝ) : 0 < 1 + Real.exp (-x) := by positivity

theorem sg_pos (x : ℝ) : 0 < sg x := by unfold sg; positivity

theorem fg_pos (lb : ℝ) (h0 : 0 ≤ lb) (h1 : lb ≤ 1) (fl : ℕ → ℝ) (r : ℕ) : 0 < fg lb fl r := by
  have hs := sg_pos (fl r)
  unfold fg
  rcases eq_or_lt_of_le h0 with h | h
  · rw [← h]; simpa using hs
  · have := mul_nonneg (sub_nonneg.2 h1) hs.le
    linarith

/-! ## The same over the extended reals -/

theorem exp_coe (x : ℝ) : Ideal.exp (x : EReal) = ((Real.exp x : ℝ) : EReal) := rfl
theorem tanh_coe (x : ℝ) : Ideal.tanh (x : EReal) = ((Real.tanh x : ℝ) : EReal) := rfl
theorem log_coe (x : ℝ) (hx : 0 < x) : Ideal.log (x : EReal) = ((Real.log x : ℝ) : EReal) := if_neg (not_le.2 hx)

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_ite (p : Prop) [Decidable p] (x : ℝ) : (if p then (x : EReal) else 0) = ((if p then x else 0 : ℝ) : EReal) := by
  split <;> simp

theorem coe_upto (g : ℕ → ℝ) (r : ℕ) :
    (∑ i : Fin 64, if i.val ≤ r % 64 then (g (64 * (r / 64) + i.val) : EReal) else 0) = ((upto g r : ℝ) : EReal) := by
  unfold upto
  rw [coe_sum]
  exact Finset.sum_congr rfl fun i _ => coe_ite _ _

theorem coe_onward (g : ℕ → ℝ) (r : ℕ) :
    (∑ i : Fin 64, if r % 64 ≤ i.val then (g (64 * (r / 64) + i.val) : EReal) else 0) = ((onward g r : ℝ) : EReal) := by
  unfold onward
  rw [coe_sum]
  exact Finset.sum_congr rfl fun i _ => coe_ite _ _

theorem coe_whole (g : ℕ → ℝ) (r : ℕ) :
    (∑ i : Fin 64, (g (64 * (r / 64) + i.val) : EReal)) = ((whole g r : ℝ) : EReal) := by
  unfold whole
  rw [coe_sum]

/-- The logistic function by the hyperbolic tangent. -/
theorem half_tanh (x : ℝ) : 1 / 2 * Real.tanh (1 / 2 * x) + 1 / 2 = sg x := by
  unfold sg
  rw [Real.tanh_eq_sinh_div_cosh, Real.sinh_eq, Real.cosh_eq]
  have h1 : Real.exp (-x) = Real.exp (-(1 / 2 * x)) * Real.exp (-(1 / 2 * x)) := by rw [← Real.exp_add]; congr 1; ring
  have h2 : Real.exp (1 / 2 * x) * Real.exp (-(1 / 2 * x)) = 1 := by rw [← Real.exp_add]; simp
  rw [h1]
  have hp : 0 < Real.exp (1 / 2 * x) := Real.exp_pos _
  have hn : 0 < Real.exp (-(1 / 2 * x)) := Real.exp_pos _
  generalize Real.exp (1 / 2 * x) = u at *
  generalize Real.exp (-(1 / 2 * x)) = v at *
  have hu : u = 1 / v := by field_simp; linarith
  subst hu
  field_simp
  ring

/-! ## Rows counted from the start of a block of 512 -/

theorem upto_shift (n : ℕ) (g : ℕ → ℝ) (r : ℕ) : upto (fun r => g (512 * n + r)) r = upto g (512 * n + r) := by
  unfold upto
  rw [show (512 * n + r) % 64 = r % 64 by omega, show 64 * ((512 * n + r) / 64) = 512 * n + 64 * (r / 64) by omega]
  simp only [Nat.add_assoc]

theorem onward_shift (n : ℕ) (g : ℕ → ℝ) (r : ℕ) : onward (fun r => g (512 * n + r)) r = onward g (512 * n + r) := by
  unfold onward
  rw [show (512 * n + r) % 64 = r % 64 by omega, show 64 * ((512 * n + r) / 64) = 512 * n + 64 * (r / 64) by omega]
  simp only [Nat.add_assoc]

theorem whole_shift (n : ℕ) (g : ℕ → ℝ) (r : ℕ) : whole (fun r => g (512 * n + r)) r = whole g (512 * n + r) := by
  unfold whole
  rw [show 64 * ((512 * n + r) / 64) = 512 * n + 64 * (r / 64) by omega]
  simp only [Nat.add_assoc]

variable (lb : ℝ) (q fl a b c e : ℕ → ℝ) (n r : ℕ)

theorem tq_shift : tq lb (fun r => fl (512 * n + r)) (fun r => a (512 * n + r)) r = tq lb fl a (512 * n + r) := by
  unfold tq
  rw [← upto_shift]; rfl

theorem tkd_shift : tkd lb (fun r => fl (512 * n + r)) (fun r => b (512 * n + r)) r = tkd lb fl b (512 * n + r) := by
  unfold tkd
  rw [← upto_shift]; rfl

theorem tke_shift : tke lb (fun r => fl (512 * n + r)) (fun r => c (512 * n + r)) r = tke lb fl c (512 * n + r) := by
  unfold tke
  rw [← upto_shift, ← whole_shift]; rfl

theorem ket_shift : ket lb (fun r => fl (512 * n + r)) (fun r => c (512 * n + r)) r = ket lb fl c (512 * n + r) := by
  unfold ket
  rw [tke_shift]; rfl

theorem db_shift : db lb (fun r => q (512 * n + r)) (fun r => fl (512 * n + r)) (fun r => a (512 * n + r))
    (fun r => b (512 * n + r)) (fun r => c (512 * n + r)) r = db lb q fl a b c (512 * n + r) := by
  unfold db
  rw [tq_shift, tkd_shift, ket_shift]; rfl

theorem dtot_shift : dtot lb (fun r => fl (512 * n + r)) (fun r => c (512 * n + r)) (fun k => e (8 * n + k)) r
    = dtot lb fl c e (512 * n + r) := by
  unfold dtot
  rw [← whole_shift n (ket lb fl c), ← whole_shift n (lg lb fl), show (512 * n + r) / 64 = 8 * n + r / 64 by omega]
  have h : ket lb (fun r => fl (512 * n + r)) (fun r => c (512 * n + r)) = fun r => ket lb fl c (512 * n + r) :=
    funext fun r => ket_shift lb fl c n r
  rw [h]; rfl

theorem df_shift : df lb (fun r => q (512 * n + r)) (fun r => fl (512 * n + r)) (fun r => a (512 * n + r))
    (fun r => b (512 * n + r)) (fun r => c (512 * n + r)) (fun k => e (8 * n + k)) r = df lb q fl a b c e (512 * n + r) := by
  unfold df
  have h : db lb (fun r => q (512 * n + r)) (fun r => fl (512 * n + r)) (fun r => a (512 * n + r))
      (fun r => b (512 * n + r)) (fun r => c (512 * n + r)) = fun r => db lb q fl a b c (512 * n + r) :=
    funext fun r => db_shift lb q fl a b c n r
  rw [dtot_shift, tkd_shift, tke_shift, h, onward_shift]; rfl

theorem gq_shift : gq lb (fun r => q (512 * n + r)) (fun r => fl (512 * n + r)) (fun r => a (512 * n + r)) r
    = gq lb q fl a (512 * n + r) := by
  unfold gq
  rw [tq_shift]

theorem gf_shift : gf lb (fun r => q (512 * n + r)) (fun r => fl (512 * n + r)) (fun r => a (512 * n + r))
    (fun r => b (512 * n + r)) (fun r => c (512 * n + r)) (fun k => e (8 * n + k)) r = gf lb q fl a b c e (512 * n + r) := by
  unfold gf
  rw [df_shift]

theorem gl_shift : gl lb (fun r => q (512 * n + r)) (fun r => fl (512 * n + r)) (fun r => a (512 * n + r))
    (fun r => b (512 * n + r)) (fun r => c (512 * n + r)) (fun k => e (8 * n + k)) r = gl lb q fl a b c e (512 * n + r) := by
  unfold gl
  rw [df_shift]

end Cert.Rows

end
-- ==== Proof.Doubling.lean ====
module

public import proofs.«01_k».proof.Proof.Gen.KernelIdeal.Skeleton
public import proofs.«01_k».proof.Proof.Windows
public import Idealize.ShloMosaic.Lib.Pointwise

/-! The kernel's running sums: rotate, mask, add. -/

@[expose] public section

set_option maxRecDepth 16384

noncomputable section

namespace Cert.Rows

open Idealize.ShloMosaic Idealize.ShloMosaic.Pointwise Cert.KernelIdeal Cert.KernelIdeal.Gen

theorem row_word (r : Fin 512) (z : Fin 1) :
    k0_pay13 (Scalar.select (Scalar.cmpi .eq 64#32 0#32) 1#32 64#32) k0_pay11 k0_pay12 (ix2 r z) = BitVec.ofNat 32 (r.val % 64) := by
  unfold k0_pay13 k0_pay11 k0_pay12
  pointwise [k0_pay11]
  revert r
  decide +kernel

theorem select_sge (n : ℕ) (w : BitVec 32) (a b : EReal) (hn : n < 64) (hw : w.toNat < 64) :
    Scalar.select (IntOp.cmpi .sge (BitVec.ofNat 32 n) w) a b = if w.toNat ≤ n then a else b := by
  obtain ⟨k, rfl⟩ : ∃ k : Fin 64, w = BitVec.ofNat 32 k.val := ⟨⟨w.toNat, hw⟩, by simp⟩
  have e : ∀ (n k : Fin 64), IntOp.cmpi .sge (BitVec.ofNat 32 n.val) (BitVec.ofNat 32 k.val)
      = if (BitVec.ofNat 32 k.val).toNat ≤ n.val then 1#1 else 0#1 := by decide +kernel
  rw [e ⟨n, hn⟩ k]
  by_cases h : (BitVec.ofNat 32 k.val).toNat ≤ n
  · rw [if_pos h, if_pos h]; rfl
  · rw [if_neg h, if_neg h]; rfl

theorem select_slt (n : ℕ) (w : BitVec 32) (a b : EReal) (hn : n < 64) (hw : w.toNat < 64) :
    Scalar.select (IntOp.cmpi .slt (IntOp.addi (BitVec.ofNat 32 n) w) 64#32) a b = if n + w.toNat < 64 then a else b := by
  obtain ⟨k, rfl⟩ : ∃ k : Fin 64, w = BitVec.ofNat 32 k.val := ⟨⟨w.toNat, hw⟩, by simp⟩
  have e : ∀ (n k : Fin 64), IntOp.cmpi .slt (IntOp.addi (BitVec.ofNat 32 n.val) (BitVec.ofNat 32 k.val)) 64#32
      = if n.val + (BitVec.ofNat 32 k.val).toNat < 64 then 1#1 else 0#1 := by decide +kernel
  rw [e ⟨n, hn⟩ k]
  by_cases h : n + (BitVec.ofNat 32 k.val).toNat < 64
  · rw [if_pos h, if_pos h]; rfl
  · rw [if_neg h, if_neg h]; rfl

theorem step_back (s : ℕ) (w : BitVec 32) (hw : w.toNat = s) (hs : s ≤ 32) (v : IVec S512x1 32)
    (hv : ∀ (r : Fin 512) (z : Fin 1), v (ix2 r z) = BitVec.ofNat 32 (r.val % 64))
    (x : FVec Ideal S512x256 .f32) (f : Fin 256 → ℕ → EReal)
    (hx : ∀ (r : Fin 512) (l : Fin 256), x (ix2 r l) = back s (f l) r.val) (r : Fin 512) (l : Fin 256) :
    addf x (select (broadcastTo S512x256 (shapeCast S512x1 (cmpi .sge v (broadcast S512x1 w)) shapeCasts_S512x1_S512x1)
      broadcasts_S512x1_S512x256) (dynamicRotate 0 w none x rotates_S512x256_d0)
      (broadcast S512x256 (Scalar.ofBits (F := Ideal) .f32 0x00000000#32))) (ix2 r l) = back (s + s) (f l) r.val := by
  pointwise
  rw [hv, hx, hx, ← back_step]
  refine congrArg (back s (f l) r.val + ·) ?_
  have hr := r.isLt
  rw [select_sge _ _ _ _ (by omega) (by omega), hw]
  by_cases h : s ≤ r.val % 64
  · rw [if_pos h, if_pos h]
    exact congrArg (back s (f l)) (by show (r.val + 512 - s % 512) % 512 = _; omega)
  · rw [if_neg h, if_neg h]

theorem step_fwd (s : ℕ) (w w' : BitVec 32) (hw : w.toNat = s) (hw' : w'.toNat = 512 - s) (h0 : 0 < s) (hs : s ≤ 32) (v : IVec S512x1 32)
    (hv : ∀ (r : Fin 512) (z : Fin 1), v (ix2 r z) = BitVec.ofNat 32 (r.val % 64))
    (x : FVec Ideal S512x256 .f32) (f : Fin 256 → ℕ → EReal)
    (hx : ∀ (r : Fin 512) (l : Fin 256), x (ix2 r l) = fwd s (f l) r.val) (r : Fin 512) (l : Fin 256) :
    addf x (select (broadcastTo S512x256 (shapeCast S512x1 (cmpi .slt (addi v (broadcast S512x1 w)) (broadcast S512x1 64#32)) shapeCasts_S512x1_S512x1)
      broadcasts_S512x1_S512x256) (dynamicRotate 0 w' none x rotates_S512x256_d0)
      (broadcast S512x256 (Scalar.ofBits (F := Ideal) .f32 0x00000000#32))) (ix2 r l) = fwd (s + s) (f l) r.val := by
  pointwise
  rw [hv, hx, hx, ← fwd_step]
  refine congrArg (fwd s (f l) r.val + ·) ?_
  have hr := r.isLt
  rw [select_slt _ _ _ _ (by omega) (by omega), hw]
  by_cases h : r.val % 64 + s < 64
  · rw [if_pos h, if_pos h]
    refine congrArg (fwd s (f l)) (?_ : (r.val + 512 - w'.toNat % 512) % 512 = _)
    rw [hw']; omega
  · rw [if_neg h, if_neg h]

end Cert.Rows

end
-- ==== Proof.Body.lean ====
module

public import proofs.«01_k».proof.Proof.Gen.KernelIdeal.Skeleton
public import proofs.«01_k».proof.Proof.Spec
public import proofs.«01_k».proof.Proof.Doubling
public import Idealize.ShloMosaic.Lib.Pointwise
public import Idealize.ShloMosaic.Lib.IdealHost

/-! What the kernel's body computes from one block, element by element, as the coerced real function of `Spec`. -/

@[expose] public section

set_option maxRecDepth 16384

noncomputable section

namespace Cert.Rows

open Idealize.ShloMosaic Idealize.ShloMosaic.Pointwise Cert.KernelIdeal Cert.KernelIdeal.Gen

theorem ofBits_half : Ideal.ofBits .f32 0x3F000000#32 = ((1 / 2 : ℝ) : EReal) := by
  simp [Ideal.ofBits, Ideal.ieee, -EReal.coe_mul]; norm_num

theorem ofBits_one' : Ideal.ofBits .f32 0x3F800000#32 = ((1 : ℝ) : EReal) := by simp
theorem ofBits_zero' : Ideal.ofBits .f32 0x00000000#32 = ((0 : ℝ) : EReal) := by simp

/-- The word holding a row's place in its chunk. -/
abbrev rowWord : IVec S512x1 32 := k0_pay13 (Scalar.select (Scalar.cmpi .eq 64#32 0#32) 1#32 64#32) k0_pay11 k0_pay12

section
variable (x : FVec Ideal S512x256 .f32) (f : Fin 256 → ℕ → EReal)

theorem pay14_val (hx : ∀ (r : Fin 512) (l : Fin 256), x (ix2 r l) = f l r.val) (r : Fin 512) (l : Fin 256) :
    k0_pay14 x (Scalar.select (Scalar.cmpi .eq 64#32 0#32) 1#32 64#32) k0_pay11 k0_pay12 (ix2 r l) = back 16 (f l) r.val := by
  unfold k0_pay14
  refine step_back 8 8#32 rfl (by decide) rowWord row_word _ f (fun r l => ?_) r l
  refine step_back 4 4#32 rfl (by decide) rowWord row_word _ f (fun r l => ?_) r l
  refine step_back 2 2#32 rfl (by decide) rowWord row_word _ f (fun r l => ?_) r l
  refine step_back 1 1#32 rfl (by decide) rowWord row_word _ f (fun r l => ?_) r l
  rw [back_one, hx]

theorem pay16_val (hx : ∀ (r : Fin 512) (l : Fin 256), x (ix2 r l) = back 16 (f l) r.val) (r : Fin 512) (l : Fin 256) :
    k0_pay16 rowWord x (k0_pay15 (Scalar.select (Scalar.cmpi .eq 64#32 0#32) 1#32 64#32) k0_pay11 k0_pay12) 16#32 (ix2 r l)
      = back 64 (f l) r.val := by
  unfold k0_pay16 k0_pay15
  refine step_back 32 32#32 rfl (by decide) rowWord row_word _ f (fun r l => ?_) r l
  exact step_back 16 16#32 rfl (by decide) rowWord row_word _ f hx r l

theorem pay26_val (hx : ∀ (r : Fin 512) (l : Fin 256), x (ix2 r l) = f l r.val) (r : Fin 512) (l : Fin 256) :
    k0_pay26 rowWord x (ix2 r l) = fwd 8 (f l) r.val := by
  unfold k0_pay26
  refine step_fwd 4 4#32 508#32 rfl rfl (by decide) (by decide) rowWord row_word _ f (fun r l => ?_) r l
  refine step_fwd 2 2#32 510#32 rfl rfl (by decide) (by decide) rowWord row_word _ f (fun r l => ?_) r l
  refine step_fwd 1 1#32 511#32 rfl rfl (by decide) (by decide) rowWord row_word _ f (fun r l => ?_) r l
  rw [fwd_one, hx]

/-- The whole running sum from a row on, as the fifth part of the body takes it before dividing. -/
def ahead : FVec Ideal S512x256 .f32 :=
  let v168 : FVec Ideal S512x256 .f32 := addf (k0_pay26 rowWord x) (k0_pay27 rowWord x)
  let v178 : FVec Ideal S512x256 .f32 := addf v168 (select (broadcastTo S512x256 (shapeCast S512x1 (cmpi .slt (addi rowWord (broadcast S512x1 16#32)) (broadcast S512x1 64#32)) shapeCasts_S512x1_S512x1)
      broadcasts_S512x1_S512x256) (dynamicRotate 0 496#32 none v168 rotates_S512x256_d0)
      (broadcast S512x256 (Scalar.ofBits (F := Ideal) .f32 0x00000000#32)))
  addf v178 (select (broadcastTo S512x256 (shapeCast S512x1 (cmpi .slt (addi rowWord (broadcast S512x1 32#32)) (broadcast S512x1 64#32)) shapeCasts_S512x1_S512x1)
      broadcasts_S512x1_S512x256) (dynamicRotate 0 480#32 none v178 rotates_S512x256_d0)
      (broadcast S512x256 (Scalar.ofBits (F := Ideal) .f32 0x00000000#32)))

theorem ahead_val (hx : ∀ (r : Fin 512) (l : Fin 256), x (ix2 r l) = f l r.val) (r : Fin 512) (l : Fin 256) :
    ahead x (ix2 r l) = fwd 64 (f l) r.val := by
  unfold ahead k0_pay27
  refine step_fwd 32 32#32 480#32 rfl rfl (by decide) (by decide) rowWord row_word _ f (fun r l => ?_) r l
  refine step_fwd 16 16#32 496#32 rfl rfl (by decide) (by decide) rowWord row_word _ f (fun r l => ?_) r l
  refine step_fwd 8 8#32 504#32 rfl rfl (by decide) (by decide) rowWord row_word _ f (fun r l => ?_) r l
  exact pay26_val x f hx r l

end

/-- The fifth part's gate cotangent over the running sum. -/
theorem pay28_eq (v27 : FVec Ideal S512x256 .f32) (v112 v113 : FVec Ideal S512x256 .f32) (v128 : FVec Ideal S8x1x256 .f32)
    (x : FVec Ideal S512x256 .f32) :
    k0_pay28 v27 rowWord v112 v113 v128 (k0_pay26 rowWord x) (k0_pay27 rowWord x)
      = subf (divf (shapeCast S512x256 (addf (shapeCast S8x64x256 (ahead x) shapeCasts_S512x256_S8x64x256)
          (broadcastTo S8x64x256 v128 broadcasts_S8x1x256_S8x64x256)) shapeCasts_S8x64x256_S512x256) v27) (addf v112 v113) := rfl

section
variable (x0 x1 : FVec Ideal S1x512x256 .f32) (x2 : FVec Ideal S1x256 .f32) (x3 x4 x5 : FVec Ideal S512x256 .f32) (x8 : FVec Ideal S8x256 .f32)
variable (q fl a b c e : Fin 256 → ℕ → ℝ) (lb : Fin 256 → ℝ)

theorem pay6_val (h0 : ∀ (r : Fin 512) (l : Fin 256), x0 (ix3 0 r l) = (q l r.val : EReal)) (r : Fin 512) (l : Fin 256) :
    k0_pay6 (F := Ideal) x0 (ix2 r l) = (q l r.val : EReal) := by
  pointwise [k0_pay6]
  exact h0 r l

theorem pay7_val (h0 : ∀ (r : Fin 512) (l : Fin 256), x0 (ix3 0 r l) = (q l r.val : EReal)) (r : Fin 512) (l : Fin 256) :
    k0_pay7 (F := Ideal) x0 (ix2 r l) = (sg (q l r.val) : EReal) := by
  pointwise [k0_pay7, k0_pay6]
  rw [h0]
  simp only [ofBits_half, ← EReal.coe_mul, tanh_coe, ← EReal.coe_add, half_tanh]

theorem pay8_val (h1 : ∀ (r : Fin 512) (l : Fin 256), x1 (ix3 0 r l) = (fl l r.val : EReal)) (r : Fin 512) (l : Fin 256) :
    k0_pay8 (F := Ideal) x1 (ix2 r l) = (sg (fl l r.val) : EReal) := by
  pointwise [k0_pay8]
  rw [h1]
  simp only [ofBits_one', ofBits_zero', ← EReal.coe_sub, exp_coe, ← EReal.coe_add, zero_sub]
  exact div_coe _ _ (one_add_exp_pos _).ne'

theorem pay9_val (h2 : ∀ l : Fin 256, x2 (ix2 0 l) = (lb l : EReal))
    (h1 : ∀ (r : Fin 512) (l : Fin 256), x1 (ix3 0 r l) = (fl l r.val : EReal)) (r : Fin 512) (l : Fin 256) :
    k0_pay9 (F := Ideal) x2 x1 (ix2 r l) = (fg (lb l) (fl l) r.val : EReal) := by
  pointwise [k0_pay9]
  rw [h2, pay8_val x1 fl h1]
  simp only [← EReal.coe_one, ← EReal.coe_sub, ← EReal.coe_mul, ← EReal.coe_add]
  rfl

theorem pay10_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal)) (r : Fin 512) (l : Fin 256) :
    k0_pay10 (F := Ideal) x2 x1 (ix2 r l) = (lg (lb l) (fl l) r.val : EReal) := by
  pointwise [k0_pay10]
  rw [pay9_val x1 x2 fl lb h2 h1]
  exact log_coe _ (fg_pos _ (h01 l).1 (h01 l).2 _ _)

/-- The running sum of the log-gates. -/
abbrev run (x1 : FVec Ideal S1x512x256 .f32) (x2 : FVec Ideal S1x256 .f32) : FVec Ideal S512x256 .f32 :=
  k0_pay14 (k0_pay10 x2 x1) (Scalar.select (Scalar.cmpi .eq 64#32 0#32) 1#32 64#32) k0_pay11 k0_pay12

abbrev lateMask : IVec S512x1 1 := k0_pay15 (Scalar.select (Scalar.cmpi .eq 64#32 0#32) 1#32 64#32) k0_pay11 k0_pay12

theorem run_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal)) (r : Fin 512) (l : Fin 256) :
    k0_pay16 rowWord (run x1 x2) lateMask 16#32 (ix2 r l) = (upto (lg (lb l) (fl l)) r.val : EReal) := by
  rw [pay16_val (run x1 x2) (fun l r => (lg (lb l) (fl l) r : EReal))
    (pay14_val _ _ (pay10_val x1 x2 fl lb h01 h2 h1)) r l, back_64, coe_upto]

theorem pay17_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal)) (n : Fin 8) (z : Fin 1) (l : Fin 256) :
    k0_pay17 (F := Ideal) (k0_pay10 x2 x1) (ix3 n z l) = (whole (lg (lb l) (fl l)) (64 * n.val) : EReal) := by
  pointwise [k0_pay17]
  refine (Finset.sum_congr rfl fun k _ => pay10_val x1 x2 fl lb h01 h2 h1 _ _).trans ?_
  rw [← coe_whole]
  refine Finset.sum_congr rfl fun k _ => ?_
  exact congrArg (fun t => ((lg (lb l) (fl l) t : ℝ) : EReal)) (by show n.val * 64 + k.val = _; omega)

theorem whole_row (g : ℕ → ℝ) (r : ℕ) : whole g (64 * (r / 64)) = whole g r := by
  unfold whole
  rw [show 64 * (r / 64) / 64 = r / 64 by omega]

theorem pay18_val (h2 : ∀ l : Fin 256, x2 (ix2 0 l) = (lb l : EReal))
    (h1 : ∀ (r : Fin 512) (l : Fin 256), x1 (ix3 0 r l) = (fl l r.val : EReal)) (r : Fin 512) (l : Fin 256) :
    k0_pay18 (F := Ideal) (k0_pay9 x2 x1) (ix2 r l) = ((1 - fg (lb l) (fl l) r.val : ℝ) : EReal) := by
  pointwise [k0_pay18]
  rw [pay9_val x1 x2 fl lb h2 h1]
  simp only [← EReal.coe_one, ← EReal.coe_sub]

theorem pay19_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h3 : ∀ (r : Fin 512) (l : Fin 256), x3 (ix2 r l) = (a l r.val : EReal)) (r : Fin 512) (l : Fin 256) :
    k0_pay19 (F := Ideal) rowWord (run x1 x2) lateMask 16#32 x3 (ix2 r l) = (tq (lb l) (fl l) (a l) r.val : EReal) := by
  pointwise [k0_pay19]
  rw [run_val x1 x2 fl lb h01 h2 h1, h3]
  simp only [exp_coe, ← EReal.coe_mul]
  rfl

theorem pay20_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h4 : ∀ (r : Fin 512) (l : Fin 256), x4 (ix2 r l) = (b l r.val : EReal)) (r : Fin 512) (l : Fin 256) :
    k0_pay20 (F := Ideal) rowWord (run x1 x2) lateMask 16#32 x4 (ix2 r l) = (tkd (lb l) (fl l) (b l) r.val : EReal) := by
  pointwise [k0_pay20]
  rw [run_val x1 x2 fl lb h01 h2 h1, h4]
  simp only [ofBits_zero', ← EReal.coe_sub, zero_sub, exp_coe, ← EReal.coe_mul]
  rfl

theorem pay21_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h5 : ∀ (r : Fin 512) (l : Fin 256), x5 (ix2 r l) = (c l r.val : EReal)) (r : Fin 512) (l : Fin 256) :
    k0_pay21 (F := Ideal) (k0_pay10 x2 x1) rowWord (run x1 x2) lateMask 16#32 x5 (ix2 r l) = (tke (lb l) (fl l) (c l) r.val : EReal) := by
  pointwise [k0_pay21]
  rw [run_val x1 x2 fl lb h01 h2 h1, h5, pay17_val x1 x2 fl lb h01 h2 h1]
  simp only [exp_coe, ← EReal.coe_sub, ← EReal.coe_mul, whole_row]
  rfl

theorem pay22_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h5 : ∀ (r : Fin 512) (l : Fin 256), x5 (ix2 r l) = (c l r.val : EReal)) (r : Fin 512) (l : Fin 256) :
    k0_pay22 (F := Ideal) (k0_pay9 x2 x1) (k0_pay10 x2 x1) rowWord (run x1 x2) lateMask 16#32 x5 (ix2 r l)
      = (ket (lb l) (fl l) (c l) r.val : EReal) := by
  pointwise [k0_pay22]
  rw [pay21_val x1 x2 x5 fl c lb h01 h2 h1 h5, pay18_val x1 x2 fl lb h2 h1, ← EReal.coe_mul]
  rfl

theorem pay23_val (h01 : ∀ l, 0 ≤ lb l ∧ lb l ≤ 1) (h2 : ∀ l : Fin 256, x2 (ix2 0 l) = (lb l : EReal))
    (h0 : ∀ (r : Fin 512) (l : Fin 256), x0 (ix3 0 r l) = (q l r.val : EReal))
    (h1 : ∀ (r : Fin 512) (l : Fin 256), x1 (ix3 0 r l) = (fl l r.val : EReal))
    (h3 : ∀ (r : Fin 512) (l : Fin 256), x3 (ix2 r l) = (a l r.val : EReal))
    (h4 : ∀ (r : Fin 512) (l : Fin 256), x4 (ix2 r l) = (b l r.val : EReal))
    (h5 : ∀ (r : Fin 512) (l : Fin 256), x5 (ix2 r l) = (c l r.val : EReal)) (r : Fin 512) (l : Fin 256) :
    k0_pay23 (F := Ideal) (k0_pay6 x0) (k0_pay7 x0) (k0_pay9 x2 x1) (k0_pay10 x2 x1) rowWord (run x1 x2) lateMask 16#32 x3 x4 x5 (ix2 r l)
      = (db (lb l) (q l) (fl l) (a l) (b l) (c l) r.val : EReal) := by
  pointwise [k0_pay23]
  rw [pay22_val x1 x2 x5 fl c lb h01 h2 h1 h5, pay18_val x1 x2 fl lb h2 h1, pay19_val x1 x2 x3 fl a lb h01 h2 h1 h3,
    pay20_val x1 x2 x4 fl b lb h01 h2 h1 h4, pay6_val x0 q h0, pay7_val x0 q h0]
  simp only [← EReal.coe_sub, ← EReal.coe_mul]
  rfl

theorem pay24_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h5 : ∀ (r : Fin 512) (l : Fin 256), x5 (ix2 r l) = (c l r.val : EReal)) (n : Fin 8) (z : Fin 1) (l : Fin 256) :
    k0_pay24 (F := Ideal) (k0_pay9 x2 x1) (k0_pay10 x2 x1) rowWord (run x1 x2) lateMask 16#32 x5 (ix3 n z l)
      = (whole (ket (lb l) (fl l) (c l)) (64 * n.val) : EReal) := by
  pointwise [k0_pay24]
  refine (Finset.sum_congr rfl fun k _ => pay22_val x1 x2 x5 fl c lb h01 h2 h1 h5 _ _).trans ?_
  rw [← coe_whole]
  refine Finset.sum_congr rfl fun k _ => ?_
  exact congrArg (fun t => ((ket (lb l) (fl l) (c l) t : ℝ) : EReal)) (by show n.val * 64 + k.val = _; omega)

theorem pay25_val (h01 : ∀ l, 0 ≤ lb l ∧ lb l ≤ 1) (h2 : ∀ l : Fin 256, x2 (ix2 0 l) = (lb l : EReal))
    (h1 : ∀ (r : Fin 512) (l : Fin 256), x1 (ix3 0 r l) = (fl l r.val : EReal))
    (h5 : ∀ (r : Fin 512) (l : Fin 256), x5 (ix2 r l) = (c l r.val : EReal))
    (h8 : ∀ (n : Fin 8) (l : Fin 256), x8 (ix2 n l) = (e l n.val : EReal)) (n : Fin 8) (z : Fin 1) (l : Fin 256) :
    k0_pay25 (F := Ideal) (k0_pay17 (k0_pay10 x2 x1)) (k0_pay24 (k0_pay9 x2 x1) (k0_pay10 x2 x1) rowWord (run x1 x2) lateMask 16#32 x5) x8 (ix3 n z l)
      = (dtot (lb l) (fl l) (c l) (e l) (64 * n.val) : EReal) := by
  pointwise [k0_pay25]
  rw [pay24_val x1 x2 x5 fl c lb h01 h2 h1 h5, pay17_val x1 x2 fl lb h01 h2 h1, h8]
  simp only [exp_coe, ← EReal.coe_mul, ← EReal.coe_add]
  unfold dtot
  rw [Nat.mul_div_cancel_left _ (by decide : 0 < 64)]

/-- The gate's cotangent, as the body leaves it for the gate row and for the lower bound. -/
abbrev gateCt (x0 x1 : FVec Ideal S1x512x256 .f32) (x2 : FVec Ideal S1x256 .f32) (x3 x4 x5 : FVec Ideal S512x256 .f32)
    (x8 : FVec Ideal S8x256 .f32) : FVec Ideal S512x256 .f32 :=
  k0_pay28 (k0_pay9 x2 x1) rowWord (k0_pay20 rowWord (run x1 x2) lateMask 16#32 x4)
    (k0_pay21 (k0_pay10 x2 x1) rowWord (run x1 x2) lateMask 16#32 x5)
    (k0_pay25 (k0_pay17 (k0_pay10 x2 x1)) (k0_pay24 (k0_pay9 x2 x1) (k0_pay10 x2 x1) rowWord (run x1 x2) lateMask 16#32 x5) x8)
    (k0_pay26 rowWord (k0_pay23 (k0_pay6 x0) (k0_pay7 x0) (k0_pay9 x2 x1) (k0_pay10 x2 x1) rowWord (run x1 x2) lateMask 16#32 x3 x4 x5))
    (k0_pay27 rowWord (k0_pay23 (k0_pay6 x0) (k0_pay7 x0) (k0_pay9 x2 x1) (k0_pay10 x2 x1) rowWord (run x1 x2) lateMask 16#32 x3 x4 x5))

theorem gateCt_val (h01 : ∀ l, 0 ≤ lb l ∧ lb l ≤ 1) (h2 : ∀ l : Fin 256, x2 (ix2 0 l) = (lb l : EReal))
    (h0 : ∀ (r : Fin 512) (l : Fin 256), x0 (ix3 0 r l) = (q l r.val : EReal))
    (h1 : ∀ (r : Fin 512) (l : Fin 256), x1 (ix3 0 r l) = (fl l r.val : EReal))
    (h3 : ∀ (r : Fin 512) (l : Fin 256), x3 (ix2 r l) = (a l r.val : EReal))
    (h4 : ∀ (r : Fin 512) (l : Fin 256), x4 (ix2 r l) = (b l r.val : EReal))
    (h5 : ∀ (r : Fin 512) (l : Fin 256), x5 (ix2 r l) = (c l r.val : EReal))
    (h8 : ∀ (n : Fin 8) (l : Fin 256), x8 (ix2 n l) = (e l n.val : EReal)) (r : Fin 512) (l : Fin 256) :
    gateCt x0 x1 x2 x3 x4 x5 x8 (ix2 r l) = (df (lb l) (q l) (fl l) (a l) (b l) (c l) (e l) r.val : EReal) := by
  unfold gateCt
  rw [pay28_eq]
  pointwise
  rw [ahead_val _ (fun l r => (db (lb l) (q l) (fl l) (a l) (b l) (c l) r : EReal))
      (pay23_val x0 x1 x2 x3 x4 x5 q fl a b c lb h01 h2 h0 h1 h3 h4 h5), fwd_64, coe_onward,
    pay25_val x1 x2 x5 x8 fl c e lb h01 h2 h1 h5 h8, pay9_val x1 x2 fl lb h2 h1,
    pay20_val x1 x2 x4 fl b lb h01 h2 h1 h4, pay21_val x1 x2 x5 fl c lb h01 h2 h1 h5,
    ← EReal.coe_add, ← EReal.coe_add, div_coe _ _ (fg_pos _ (h01 l).1 (h01 l).2 _ _).ne', ← EReal.coe_sub]
  unfold df dtot
  rw [whole_row, whole_row, Nat.mul_div_cancel_left _ (by decide : 0 < 64)]

/-- The query row's block. -/
theorem pay29_val (h01 : ∀ l, 0 ≤ lb l ∧ lb l ≤ 1) (h2 : ∀ l : Fin 256, x2 (ix2 0 l) = (lb l : EReal))
    (h0 : ∀ (r : Fin 512) (l : Fin 256), x0 (ix3 0 r l) = (q l r.val : EReal))
    (h1 : ∀ (r : Fin 512) (l : Fin 256), x1 (ix3 0 r l) = (fl l r.val : EReal))
    (h3 : ∀ (r : Fin 512) (l : Fin 256), x3 (ix2 r l) = (a l r.val : EReal)) (z : Fin 1) (r : Fin 512) (l : Fin 256) :
    k0_pay29 (F := Ideal) (k0_pay6 x0) (k0_pay7 x0) (k0_pay19 rowWord (run x1 x2) lateMask 16#32 x3) (ix3 z r l)
      = (gq (lb l) (q l) (fl l) (a l) r.val : EReal) := by
  pointwise [k0_pay29]
  rw [pay19_val x1 x2 x3 fl a lb h01 h2 h1 h3, pay6_val x0 q h0, pay7_val x0 q h0]
  simp only [← EReal.coe_one, ← EReal.coe_sub, ← EReal.coe_mul, ← EReal.coe_add]
  rfl

/-- The gate row's block. -/
theorem pay1_val (h01 : ∀ l, 0 ≤ lb l ∧ lb l ≤ 1) (h2 : ∀ l : Fin 256, x2 (ix2 0 l) = (lb l : EReal))
    (h0 : ∀ (r : Fin 512) (l : Fin 256), x0 (ix3 0 r l) = (q l r.val : EReal))
    (h1 : ∀ (r : Fin 512) (l : Fin 256), x1 (ix3 0 r l) = (fl l r.val : EReal))
    (h3 : ∀ (r : Fin 512) (l : Fin 256), x3 (ix2 r l) = (a l r.val : EReal))
    (h4 : ∀ (r : Fin 512) (l : Fin 256), x4 (ix2 r l) = (b l r.val : EReal))
    (h5 : ∀ (r : Fin 512) (l : Fin 256), x5 (ix2 r l) = (c l r.val : EReal))
    (h8 : ∀ (n : Fin 8) (l : Fin 256), x8 (ix2 n l) = (e l n.val : EReal)) (z : Fin 1) (r : Fin 512) (l : Fin 256) :
    k0_pay1 (F := Ideal) (k0_pay8 x1) (k0_pay30 x2 (k0_pay8 x1) (k0_pay9 x2 x1) rowWord (k0_pay20 rowWord (run x1 x2) lateMask 16#32 x4)
    (k0_pay21 (k0_pay10 x2 x1) rowWord (run x1 x2) lateMask 16#32 x5)
    (k0_pay25 (k0_pay17 (k0_pay10 x2 x1)) (k0_pay24 (k0_pay9 x2 x1) (k0_pay10 x2 x1) rowWord (run x1 x2) lateMask 16#32 x5) x8)
    (k0_pay26 rowWord (k0_pay23 (k0_pay6 x0) (k0_pay7 x0) (k0_pay9 x2 x1) (k0_pay10 x2 x1) rowWord (run x1 x2) lateMask 16#32 x3 x4 x5))
    (k0_pay27 rowWord (k0_pay23 (k0_pay6 x0) (k0_pay7 x0) (k0_pay9 x2 x1) (k0_pay10 x2 x1) rowWord (run x1 x2) lateMask 16#32 x3 x4 x5)))
    (Scalar.ofBits .f32 0x3F800000#32) (ix3 z r l)
      = (gf (lb l) (q l) (fl l) (a l) (b l) (c l) (e l) r.val : EReal) := by
  have hg := gateCt_val x0 x1 x2 x3 x4 x5 x8 q fl a b c e lb h01 h2 h0 h1 h3 h4 h5 h8 r l
  unfold gateCt at hg
  pointwise [k0_pay1, k0_pay30]
  rw [hg, pay8_val x1 fl h1, h2]
  simp only [← EReal.coe_one, ← EReal.coe_sub, ← EReal.coe_mul, ← EReal.coe_add]
  rfl

/-- What a block adds to the lower bound's gradient. -/
theorem pay4_val (h01 : ∀ l, 0 ≤ lb l ∧ lb l ≤ 1) (h2 : ∀ l : Fin 256, x2 (ix2 0 l) = (lb l : EReal))
    (h0 : ∀ (r : Fin 512) (l : Fin 256), x0 (ix3 0 r l) = (q l r.val : EReal))
    (h1 : ∀ (r : Fin 512) (l : Fin 256), x1 (ix3 0 r l) = (fl l r.val : EReal))
    (h3 : ∀ (r : Fin 512) (l : Fin 256), x3 (ix2 r l) = (a l r.val : EReal))
    (h4 : ∀ (r : Fin 512) (l : Fin 256), x4 (ix2 r l) = (b l r.val : EReal))
    (h5 : ∀ (r : Fin 512) (l : Fin 256), x5 (ix2 r l) = (c l r.val : EReal))
    (h8 : ∀ (n : Fin 8) (l : Fin 256), x8 (ix2 n l) = (e l n.val : EReal)) (acc : FVec Ideal S1x256 .f32) (z : Fin 1) (l : Fin 256) :
    k0_pay4 (F := Ideal) (k0_pay8 x1) (gateCt x0 x1 x2 x3 x4 x5 x8) acc (ix2 z l)
      = acc (ix2 z l) + ((∑ r : Fin 512, gl (lb l) (q l) (fl l) (a l) (b l) (c l) (e l) r.val : ℝ) : EReal) := by
  pointwise [k0_pay4]
  rw [coe_sum]
  congr 1
  refine Finset.sum_congr rfl fun r _ => ?_
  rw [gateCt_val x0 x1 x2 x3 x4 x5 x8 q fl a b c e lb h01 h2 h0 h1 h3 h4 h5 h8 r l, pay8_val x1 fl h1]
  simp only [← EReal.coe_one, ← EReal.coe_sub, ← EReal.coe_mul]
  rfl

end

end Cert.Rows

end
-- ==== Proof.Data.lean ====
module

public import proofs.«01_k».proof.Proof.Spec
public import Idealize.ShloMosaic.Lib.Pointwise

/-! The arguments as real functions, and the two results as functions of them. -/

@[expose] public section

noncomputable section

namespace Cert.Rows

open Idealize.ShloMosaic Idealize.ShloMosaic.Pointwise

abbrev SH : Shape := ⟨3, ![4, 4096, 2048]⟩
abbrev SR : Shape := ⟨2, ![4096, 2048]⟩
abbrev SL : Shape := ⟨2, ![1, 2048]⟩
abbrev SC : Shape := ⟨2, ![64, 2048]⟩

/-- The arguments hold real numbers: these, the lower bounds between zero and one. -/
structure Held (x0 : FVec Ideal SH .f32) (x1 : FVec Ideal SL .f32) (x2 x3 x4 : FVec Ideal SR .f32) (x7 : FVec Ideal SC .f32)
    (Q FL A B C E : Fin 2048 → ℕ → ℝ) (LB : Fin 2048 → ℝ) : Prop where
  q : ∀ (r : Fin 4096) (l : Fin 2048), x0 (ix3 0 r l) = (Q l r.val : EReal)
  fl : ∀ (r : Fin 4096) (l : Fin 2048), x0 (ix3 1 r l) = (FL l r.val : EReal)
  lb : ∀ l : Fin 2048, x1 (ix2 0 l) = (LB l : EReal)
  a : ∀ (r : Fin 4096) (l : Fin 2048), x2 (ix2 r l) = (A l r.val : EReal)
  b : ∀ (r : Fin 4096) (l : Fin 2048), x3 (ix2 r l) = (B l r.val : EReal)
  c : ∀ (r : Fin 4096) (l : Fin 2048), x4 (ix2 r l) = (C l r.val : EReal)
  e : ∀ (k : Fin 64) (l : Fin 2048), x7 (ix2 k l) = (E l k.val : EReal)
  b01 : ∀ l : Fin 2048, 0 ≤ LB l ∧ LB l ≤ 1

variable (Q FL A B C E : Fin 2048 → ℕ → ℝ) (LB : Fin 2048 → ℝ)

/-- The four rows of the gate input's gradient: query, gate, value, output gate. -/
def rows (x5 x6 : FVec Ideal SR .bf16) (p : Fin 4) (r : Fin 4096) (l : Fin 2048) : EReal :=
  if p.val = 0 then (gq (LB l) (Q l) (FL l) (A l) r.val : ℝ)
  else if p.val = 1 then (gf (LB l) (Q l) (FL l) (A l) (B l) (C l) (E l) r.val : ℝ)
  else if p.val = 2 then x5 (ix2 r l)
  else x6 (ix2 r l)

/-- The lower bound's gradient. -/
def low (l : Fin 2048) : EReal := ((∑ r : Fin 4096, gl (LB l) (Q l) (FL l) (A l) (B l) (C l) (E l) r.val : ℝ) : EReal)

end Cert.Rows

end
-- ==== Proof.Blocks.lean ====
module

public import proofs.«01_k».proof.Proof.Body
public import proofs.«01_k».proof.Proof.Data
public import proofs.«01_k».proof.Proof.Gen.KernelIdeal.Value
public import Idealize.ShloMosaic.Lib.Pipeline.ValueKit

/-! The kernel's two result arrays, element by element. -/

@[expose] public section

set_option maxRecDepth 16384

noncomputable section

open Idealize.ShloMosaic Idealize.ShloMosaic.TcCoe Idealize.SL.Sem Idealize.ShloMosaic.Pointwise
open Idealize.ShloMosaic.Pipeline (Dat)

namespace Cert.Rows

open Cert.KernelIdeal Cert.KernelIdeal.Gen

theorem idx : ∀ t : Fin cfg0.N, win0_0.index t = ![0, t.val % 8, t.val / 8] ∧ win0_1.index t = ![1, t.val % 8, t.val / 8]
    ∧ win0_2.index t = ![0, t.val / 8] ∧ win0_3.index t = ![t.val % 8, t.val / 8] ∧ win0_4.index t = ![t.val % 8, t.val / 8]
    ∧ win0_5.index t = ![t.val % 8, t.val / 8] ∧ win0_6.index t = ![t.val % 8, t.val / 8] ∧ win0_7.index t = ![t.val % 8, t.val / 8]
    ∧ win0_8.index t = ![t.val % 8, t.val / 8] ∧ win0_9.index t = ![0, t.val % 8, t.val / 8] ∧ win0_10.index t = ![0, t.val / 8]
    ∧ t.val < 64 :=
  (by decide +kernel : ∀ t : Fin grid0.N, _)

variable (m : (ℓ : Loc nD τ sig) → Buf (Elt Ideal) ℓ) (c : Dev nD)

/-- A block's column in the array. -/
def col (t : Fin cfg0.N) (l : Fin 256) : Fin 2048 := ⟨256 * (t.val / 8) + l.val, by have := (idx t).2.2.2.2.2.2.2.2.2.2.2; omega⟩

/-- A block's row in the array. -/
def row (t : Fin cfg0.N) (r : Fin 512) : Fin 4096 := ⟨512 * (t.val % 8) + r.val, by omega⟩

variable (Q FL A B C E : Fin 2048 → ℕ → ℝ) (LB : Fin 2048 → ℝ)

/-- The argument arrays hold these real numbers. -/
abbrev Args : Prop := Held (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg7)) Q FL A B C E LB

section
variable {m c Q FL A B C E LB} (hd : Args m c Q FL A B C E LB) (t : Fin cfg0.N)
include hd

theorem blk0 (r : Fin 512) (l : Fin 256) : (show FVec Ideal S1x512x256 .f32 from iblk m c 0 t) (ix3 0 r l)
    = (Q (col t l) (512 * (t.val % 8) + r.val) : EReal) := by
  refine Eq.trans ?_ (hd.q (row t r) (col t l))
  unfold row col
  blk_point [iblk, V, idx t]

theorem blk1 (r : Fin 512) (l : Fin 256) : (show FVec Ideal S1x512x256 .f32 from iblk m c 1 t) (ix3 0 r l)
    = (FL (col t l) (512 * (t.val % 8) + r.val) : EReal) := by
  refine Eq.trans ?_ (hd.fl (row t r) (col t l))
  unfold row col
  blk_point [iblk, V, idx t]

theorem blk2 (l : Fin 256) : (show FVec Ideal S1x256 .f32 from iblk m c 2 t) (ix2 0 l) = (LB (col t l) : EReal) := by
  rw [← hd.lb (col t l)]
  unfold col
  blk_point [iblk, V, idx t]

theorem blk3 (r : Fin 512) (l : Fin 256) : (show FVec Ideal S512x256 .f32 from iblk m c 3 t) (ix2 r l)
    = (A (col t l) (512 * (t.val % 8) + r.val) : EReal) := by
  refine Eq.trans ?_ (hd.a (row t r) (col t l))
  unfold row col
  blk_point [iblk, V, idx t]

theorem blk4 (r : Fin 512) (l : Fin 256) : (show FVec Ideal S512x256 .f32 from iblk m c 4 t) (ix2 r l)
    = (B (col t l) (512 * (t.val % 8) + r.val) : EReal) := by
  refine Eq.trans ?_ (hd.b (row t r) (col t l))
  unfold row col
  blk_point [iblk, V, idx t]

theorem blk5 (r : Fin 512) (l : Fin 256) : (show FVec Ideal S512x256 .f32 from iblk m c 5 t) (ix2 r l)
    = (C (col t l) (512 * (t.val % 8) + r.val) : EReal) := by
  refine Eq.trans ?_ (hd.c (row t r) (col t l))
  unfold row col
  blk_point [iblk, V, idx t]

theorem blk8 (k : Fin 8) (l : Fin 256) : (show FVec Ideal S8x256 .f32 from iblk m c 8 t) (ix2 k l)
    = (E (col t l) (8 * (t.val % 8) + k.val) : EReal) := by
  have hk : 8 * (t.val % 8) + k.val < 64 := by omega
  rw [← hd.e ⟨8 * (t.val % 8) + k.val, hk⟩ (col t l)]
  unfold col
  blk_point [iblk, V, idx t]

/-- The query row of a point's block. -/
theorem query_row (x : S1x512x256.Idx) :
    k0_pay29 (F := Ideal) (k0_pay6 (iblk m c 0 t)) (k0_pay7 (iblk m c 0 t))
      (k0_pay19 rowWord (run (iblk m c 1 t) (iblk m c 2 t)) lateMask 16#32 (iblk m c 3 t)) x
      = (gq (LB (col t (x 2))) (Q (col t (x 2))) (FL (col t (x 2))) (A (col t (x 2))) (512 * (t.val % 8) + (x 1).val) : EReal) := by
  have h := pay29_val (iblk m c 0 t) (iblk m c 1 t) (iblk m c 2 t) (iblk m c 3 t)
    (fun l r => Q (col t l) (512 * (t.val % 8) + r)) (fun l r => FL (col t l) (512 * (t.val % 8) + r))
    (fun l r => A (col t l) (512 * (t.val % 8) + r)) (fun l => LB (col t l)) (fun l => hd.b01 _) (blk2 hd t) (blk0 hd t) (blk1 hd t)
    (blk3 hd t) (x 0) (x 1) (x 2)
  rw [gq_shift] at h
  have hx : x = ix3 (x 0) (x 1) (x 2) := by blk_ext
  refine Eq.trans (congrArg _ hx) h

/-- The gate row of a point's block. -/
theorem gate_row (x : S1x512x256.Idx) :
    k0_pay1 (F := Ideal) (k0_pay8 (iblk m c 1 t)) (k0_pay30 (iblk m c 2 t) (k0_pay8 (iblk m c 1 t)) (k0_pay9 (iblk m c 2 t) (iblk m c 1 t)) rowWord
    (k0_pay20 rowWord (run (iblk m c 1 t) (iblk m c 2 t)) lateMask 16#32 (iblk m c 4 t))
    (k0_pay21 (k0_pay10 (iblk m c 2 t) (iblk m c 1 t)) rowWord (run (iblk m c 1 t) (iblk m c 2 t)) lateMask 16#32 (iblk m c 5 t))
    (k0_pay25 (k0_pay17 (k0_pay10 (iblk m c 2 t) (iblk m c 1 t))) (k0_pay24 (k0_pay9 (iblk m c 2 t) (iblk m c 1 t)) (k0_pay10 (iblk m c 2 t) (iblk m c 1 t)) rowWord (run (iblk m c 1 t) (iblk m c 2 t)) lateMask 16#32 (iblk m c 5 t)) (iblk m c 8 t))
    (k0_pay26 rowWord (k0_pay23 (k0_pay6 (iblk m c 0 t)) (k0_pay7 (iblk m c 0 t)) (k0_pay9 (iblk m c 2 t) (iblk m c 1 t)) (k0_pay10 (iblk m c 2 t) (iblk m c 1 t)) rowWord (run (iblk m c 1 t) (iblk m c 2 t)) lateMask 16#32 (iblk m c 3 t) (iblk m c 4 t) (iblk m c 5 t)))
    (k0_pay27 rowWord (k0_pay23 (k0_pay6 (iblk m c 0 t)) (k0_pay7 (iblk m c 0 t)) (k0_pay9 (iblk m c 2 t) (iblk m c 1 t)) (k0_pay10 (iblk m c 2 t) (iblk m c 1 t)) rowWord (run (iblk m c 1 t) (iblk m c 2 t)) lateMask 16#32 (iblk m c 3 t) (iblk m c 4 t) (iblk m c 5 t))))
    (Scalar.ofBits .f32 0x3F800000#32) x
      = (gf (LB (col t (x 2))) (Q (col t (x 2))) (FL (col t (x 2))) (A (col t (x 2))) (B (col t (x 2))) (C (col t (x 2)))
          (E (col t (x 2))) (512 * (t.val % 8) + (x 1).val) : EReal) := by
  have h := pay1_val (iblk m c 0 t) (iblk m c 1 t) (iblk m c 2 t) (iblk m c 3 t) (iblk m c 4 t) (iblk m c 5 t) (iblk m c 8 t)
    (fun l r => Q (col t l) (512 * (t.val % 8) + r)) (fun l r => FL (col t l) (512 * (t.val % 8) + r))
    (fun l r => A (col t l) (512 * (t.val % 8) + r)) (fun l r => B (col t l) (512 * (t.val % 8) + r))
    (fun l r => C (col t l) (512 * (t.val % 8) + r)) (fun l k => E (col t l) (8 * (t.val % 8) + k))
    (fun l => LB (col t l)) (fun l => hd.b01 _) (blk2 hd t) (blk0 hd t) (blk1 hd t)
    (blk3 hd t) (blk4 hd t) (blk5 hd t) (blk8 hd t) (x 0) (x 1) (x 2)
  rw [gf_shift] at h
  have hx : x = ix3 (x 0) (x 1) (x 2) := by blk_ext
  refine Eq.trans (congrArg _ hx) h

/-- What a point adds to the lower bound's gradient. -/
theorem low_part (acc : FVec Ideal S1x256 .f32) (y : S1x256.Idx) :
    k0_pay4 (F := Ideal) (k0_pay8 (iblk m c 1 t)) (gateCt (iblk m c 0 t) (iblk m c 1 t) (iblk m c 2 t) (iblk m c 3 t) (iblk m c 4 t) (iblk m c 5 t)
        (iblk m c 8 t)) acc y
      = acc y + ((∑ r : Fin 512, gl (LB (col t (y 1))) (Q (col t (y 1))) (FL (col t (y 1))) (A (col t (y 1))) (B (col t (y 1)))
          (C (col t (y 1))) (E (col t (y 1))) (512 * (t.val % 8) + r.val) : ℝ) : EReal) := by
  have h := pay4_val (iblk m c 0 t) (iblk m c 1 t) (iblk m c 2 t) (iblk m c 3 t) (iblk m c 4 t) (iblk m c 5 t) (iblk m c 8 t)
    (fun l r => Q (col t l) (512 * (t.val % 8) + r)) (fun l r => FL (col t l) (512 * (t.val % 8) + r))
    (fun l r => A (col t l) (512 * (t.val % 8) + r)) (fun l r => B (col t l) (512 * (t.val % 8) + r))
    (fun l r => C (col t l) (512 * (t.val % 8) + r)) (fun l k => E (col t l) (8 * (t.val % 8) + k))
    (fun l => LB (col t l)) (fun l => hd.b01 _) (blk2 hd t) (blk0 hd t) (blk1 hd t)
    (blk3 hd t) (blk4 hd t) (blk5 hd t) (blk8 hd t) acc (y 0) (y 1)
  simp only [gl_shift] at h
  have hx : y = ix2 (y 0) (y 1) := by blk_ext
  have h2 : acc (ix2 (y 0) (y 1)) = acc y := congrArg _ hx.symm
  rw [h2] at h
  refine Eq.trans (congrArg _ hx) h

end

section
variable {m c Q FL A B C E LB} (hd : Args m c Q FL A B C E LB)
include hd

/-- The block a point leaves for the gate input's gradient. -/
theorem point9 (t : Fin cfg0.N) (y : S4x512x256.Idx) : (outsAt0 m c t.val t.isLt).1 y
    = rows Q FL A B C E LB (m ((c : Thread nD τ).loc main_arg5)) (m ((c : Thread nD τ).loc main_arg6)) (y 0) (row t (y 1)) (col t (y 2)) := by
  have hb : ∀ (x : S1x512x256.Idx), (y 1).val = (x 1).val → (y 2).val = (x 2).val → y 1 = x 1 ∧ y 2 = x 2 := fun x h1 h2 => ⟨Fin.ext h1, Fin.ext h2⟩
  unfold rows
  by_cases ht : t.val % 8 = 0
  · rw [outsAt0_A m c t ht]
    frame_out
    canon_tiles x h
    all_goals obtain ⟨e1, e2⟩ := hb x h1 h2
    case piece0 =>
      rw [if_neg (by omega), if_neg (by omega), if_neg (by omega), e1, e2]
      unfold row col
      pointwise [k0_pay3]
      blk_point [iblk, V, idx t]
    case piece1 =>
      rw [if_neg (by omega), if_neg (by omega), if_pos (by omega), e1, e2]
      unfold row col
      pointwise [k0_pay2]
      blk_point [iblk, V, idx t]
    case piece2 =>
      rw [if_neg (by omega), if_pos (by omega), e1, e2]
      exact gate_row hd t x
    case piece3 =>
      rw [if_pos (by omega), e1, e2]
      exact query_row hd t x
  · rw [outsAt0_B m c t ht]
    frame_out
    canon_tiles x h
    all_goals obtain ⟨e1, e2⟩ := hb x h1 h2
    case piece0 =>
      rw [if_neg (by omega), if_neg (by omega), if_neg (by omega), e1, e2]
      unfold row col
      pointwise [k0_pay3]
      blk_point [iblk, V, idx t]
    case piece1 =>
      rw [if_neg (by omega), if_neg (by omega), if_pos (by omega), e1, e2]
      unfold row col
      pointwise [k0_pay2]
      blk_point [iblk, V, idx t]
    case piece2 =>
      rw [if_neg (by omega), if_pos (by omega), e1, e2]
      exact gate_row hd t x
    case piece3 =>
      rw [if_pos (by omega), e1, e2]
      exact query_row hd t x

/-- The gate input's gradient after the run. -/
theorem final9 : (dats m 0 c).arrAt 9 (cfgs 0).N
    = fun i : SH.Idx => rows Q FL A B C E LB (m ((c : Thread nD τ).loc main_arg5)) (m ((c : Thread nD τ).loc main_arg6)) (i 0) (i 1) (i 2) := by
  refine (dats m 0 c).arrAt_eq_of_covers 9 _ (by decide +kernel) fun t hf y => ?_
  blk_simp
  rw [after0_9]
  refine (point9 hd t y).trans ?_
  congr 1
  all_goals (refine Fin.ext ?_; simp only [row, col]; blk_simp [idx t] <;> omega)

/-- The lower bound's gradient after the run. -/
theorem final10 : (dats m 0 c).arrAt 10 (cfgs 0).N = fun i : SL.Idx => low Q FL A B C E LB (i 1) := by
  refine (dats m 0 c).arrAt_eq_of_covers 10 _ (by decide +kernel) fun t hf y => ?_
  blk_simp
  rw [after0_10, Pipeline.eq_sum_fin_of_reset_step_apply_of_flush (fun n h => (outsAt0 m c n h).2) 8 (fun _ => 0)
    (fun (p : Fin cfg0.N) (j : S1x256.Idx) => ((∑ r : Fin 512, gl (LB (col p (j 1))) (Q (col p (j 1))) (FL (col p (j 1))) (A (col p (j 1))) (B (col p (j 1)))
          (C (col p (j 1))) (E (col p (j 1))) (512 * (p.val % 8) + r.val) : ℝ) : EReal))
    (fun t h j => by
      rw [outsAt0_A m c t h]; frame_out
      refine (low_part hd t _ j).trans ?_
      congr 1
      pointwise [k0_pay5])
    (fun t h j => by
      rw [outsAt0_B m c t h]; frame_out
      exact low_part hd t _ j)
    t ((flush0_10 t).mp hf) _, zero_add]
  have hl : (((cfg0.win 10).blk t).view.emb y) 1 = col t (y 1) := by
    refine Fin.ext ?_
    simp only [col]
    blk_simp [idx t] <;> omega
  refine Eq.trans ?_ (congrArg (low Q FL A B C E LB) hl.symm)
  unfold low
  rw [← coe_sum]
  congr 1
  refine Fin.sum_mul_add_congr fun s r hr => ?_
  have e : ∀ h, col (⟨8 * (t.val / 8) + s.val, h⟩ : Fin cfg0.N) (y 1) = col t (y 1) := fun h => Fin.ext (by simp only [col]; omega)
  rw [e, show 512 * ((8 * (t.val / 8) + s.val) % 8) + r.val = s.val * 512 + r.val by omega]

end

end Cert.Rows

end
-- ==== Proof.RefVal.lean ====
module

public import proofs.«01_k».proof.Proof.Data
public import proofs.«01_k».proof.Proof.Gen.ReferenceIdeal.Read
public import Idealize.ShloMosaic.Lib.Pipeline.ValueKit
public import Idealize.ShloMosaic.Lib.IdealHost

/-! The reference's two results, element by element. -/

@[expose] public section

set_option maxRecDepth 16384

noncomputable section

open Idealize.ShloMosaic Idealize.ShloMosaic.Pointwise

namespace Cert.Rows

open Cert.ReferenceIdeal Cert.ReferenceIdeal.Gen Cert.ReferenceIdeal.Read

theorem logistic_coe (x : ℝ) : Ideal.div 1 (1 + Ideal.exp (-(x : EReal))) = (sg x : EReal) := by
  have h := one_add_exp_pos x
  rw [← EReal.coe_neg, exp_coe, ← EReal.coe_one, ← EReal.coe_add, div_coe _ _ h.ne']
  rfl

theorem chunk_row (c i : Fin 64) : c.val * 64 + i.val = 64 * c.val + i.val := by omega

theorem chunk_mod (c i : Fin 64) : (64 * c.val + i.val) % 64 = i.val := by omega

theorem chunk_div (c i : Fin 64) : (64 * c.val + i.val) / 64 = c.val := by omega

theorem upto_end (g : ℕ → ℝ) (c i : Fin 64) : upto g (64 * c.val + 63) = whole g (64 * c.val + i.val) := by
  unfold upto whole
  rw [chunk_div, show (64 * c.val + 63) / 64 = c.val by omega, show (64 * c.val + 63) % 64 = 63 by omega]
  refine Finset.sum_congr rfl fun k _ => ?_
  rw [if_pos (by omega)]

theorem dtot_chunk (lb : ℝ) (fl c e : ℕ → ℝ) (k i j : Fin 64) : dtot lb fl c e (64 * k.val + i.val) = dtot lb fl c e (64 * k.val + j.val) := by
  unfold dtot whole
  simp only [chunk_div]

theorem back_row (r : Fin 4096) : 64 * (r.val / 64) + r.val % 64 = r.val := Nat.div_add_mod _ _

section
variable {x0 : FVec Ideal SH .f32} {x1 : FVec Ideal SL .f32} {x2 x3 x4 : FVec Ideal SR .f32} {x5 x6 : FVec Ideal SR .bf16}
  {x7 : FVec Ideal SC .f32} {Q FL A B C E : Fin 2048 → ℕ → ℝ} {LB : Fin 2048 → ℝ}
  (hd : Held x0 x1 x2 x3 x4 x7 Q FL A B C E LB)
include hd

theorem v3_val (r : Fin 4096) (l : Fin 2048) : val_main_v3 (F := Ideal) x0 (ix2 r l) = (FL l r.val : EReal) := by
  rw [← hd.fl r l]
  pointwise [val_main_v3, val_main_v2]

theorem v1_val (r : Fin 4096) (l : Fin 2048) : val_main_v1 (F := Ideal) x0 (ix2 r l) = (Q l r.val : EReal) := by
  rw [← hd.q r l]
  pointwise [val_main_v1, val_main_v0]

theorem v15_val (r : Fin 4096) (l : Fin 2048) : val_main_v15 (F := Ideal) x0 (ix2 r l) = (sg (FL l r.val) : EReal) := by
  pointwise [val_main_v15, val_main_v14, val_main_v13, val_main_v12, val_main_v11, val_main_v10, val_main_cst_0, val_main_cst_1]
  rw [v3_val hd, logistic_coe]

theorem silu_val (r : Fin 4096) (l : Fin 2048) : val_main_v23_2 (F := Ideal) x0 (ix2 r l) = (sg (Q l r.val) : EReal) := by
  pointwise [val_main_v23_2, val_main_call0_v4, val_main_call0_v3, val_main_call0_v2, val_main_call0_v1, val_main_call0_v0,
    val_main_call0_cst, val_main_call0_cst_0]
  rw [v1_val hd, logistic_coe]

theorem v22_val (r : Fin 4096) (l : Fin 2048) : val_main_v22 (F := Ideal) x0 x1 (ix2 r l) = (fg (LB l) (FL l) r.val : EReal) := by
  pointwise [val_main_v22, val_main_v21, val_main_v20, val_main_v19, val_main_v9, val_main_v8, val_main_cst]
  rw [v15_val hd, hd.lb]
  simp only [← EReal.coe_one, ← EReal.coe_sub, ← EReal.coe_mul, ← EReal.coe_add]
  rfl

theorem v24_val (c i : Fin 64) (l : Fin 2048) : val_main_v24 (F := Ideal) x0 (ix3 c i l)
    = (Q l (64 * c.val + i.val) * sg (Q l (64 * c.val + i.val)) : ℝ) := by
  pointwise [val_main_v24, val_main_v23_0]
  rw [v1_val hd, silu_val hd, ← EReal.coe_mul]
  simp only [chunk_row]

theorem v27_val (c i : Fin 64) (l : Fin 2048) : val_main_v27 (F := Ideal) x0 x1 (ix3 c i l)
    = (1 - fg (LB l) (FL l) (64 * c.val + i.val) : ℝ) := by
  pointwise [val_main_v27, val_main_v26, val_main_v25, val_main_cst_3]
  rw [v22_val hd, ← EReal.coe_one, ← EReal.coe_sub]
  simp only [chunk_row]

theorem v29_val (c i : Fin 64) (l : Fin 2048) : val_main_v29 (F := Ideal) x0 x1 (ix3 c i l) = (lg (LB l) (FL l) (64 * c.val + i.val) : EReal) := by
  pointwise [val_main_v29, val_main_v28]
  rw [v22_val hd, log_coe _ (fg_pos _ (hd.b01 l).1 (hd.b01 l).2 _ _)]
  simp only [chunk_row]
  rfl

theorem v30_val (c i : Fin 64) (l : Fin 2048) : val_main_v30 (F := Ideal) x0 x1 (ix3 c i l)
    = (upto (lg (LB l) (FL l)) (64 * c.val + i.val) : EReal) := by
  have h0 : val_main_call1_call0_v0 (F := Ideal) (Shape.Idx.first h_S_) = (0 : EReal) := by
    pointwise [val_main_call1_call0_v0, val_main_call1_call0_cst]
  have hw := window_back reduceWindows_S64x64x2048_S64x64x2048_w1s1p0_0_w64s1p63_0_w1s1p0_0 (val_main_v29 (F := Ideal) x0 x1) c i l
  rw [← coe_upto, chunk_mod, chunk_div]
  unfold val_main_v30 Host.reduceWindowAdd
  rw [h0]
  refine Eq.trans hw ?_
  refine Finset.sum_congr rfl fun k _ => ?_
  rw [v29_val hd]

theorem v31_val (c : Fin 64) (z : Fin 1) (l : Fin 2048) (i : Fin 64) : val_main_v31 (F := Ideal) x0 x1 (ix3 c z l)
    = (whole (lg (LB l) (FL l)) (64 * c.val + i.val) : EReal) := by
  pointwise [val_main_v31]
  rw [v30_val hd, ← upto_end]
  rfl

theorem v32_val (c i : Fin 64) (l : Fin 2048) : val_main_v32 (F := Ideal) x0 x1 (ix3 c i l)
    = (Real.exp (upto (lg (LB l) (FL l)) (64 * c.val + i.val)) : ℝ) := by
  pointwise [val_main_v32]
  rw [v30_val hd, exp_coe]

theorem v35_val (c i : Fin 64) (l : Fin 2048) : val_main_v35 (F := Ideal) x0 x1 (ix3 c i l)
    = (Real.exp (-(upto (lg (LB l) (FL l)) (64 * c.val + i.val))) : ℝ) := by
  pointwise [val_main_v35, val_main_v34]
  rw [v30_val hd, ← EReal.coe_neg, exp_coe]

theorem v39_val (c i : Fin 64) (l : Fin 2048) : val_main_v39 (F := Ideal) x0 x1 (ix3 c i l)
    = (Real.exp (whole (lg (LB l) (FL l)) (64 * c.val + i.val) - upto (lg (LB l) (FL l)) (64 * c.val + i.val)) : ℝ) := by
  pointwise [val_main_v39, val_main_v38, val_main_v37]
  rw [v30_val hd, v31_val hd c _ l i, ← EReal.coe_sub, exp_coe]

theorem v43_val (c i : Fin 64) (l : Fin 2048) : val_main_v43 (F := Ideal) x2 (ix3 c i l) = (A l (64 * c.val + i.val) : ℝ) := by
  pointwise [val_main_v43]
  rw [hd.a]
  simp only [chunk_row]

theorem v44_val (c i : Fin 64) (l : Fin 2048) : val_main_v44 (F := Ideal) x3 (ix3 c i l) = (B l (64 * c.val + i.val) : ℝ) := by
  pointwise [val_main_v44]
  rw [hd.b]
  simp only [chunk_row]

theorem v45_val (c i : Fin 64) (l : Fin 2048) : val_main_v45 (F := Ideal) x4 (ix3 c i l) = (C l (64 * c.val + i.val) : ℝ) := by
  pointwise [val_main_v45]
  rw [hd.c]
  simp only [chunk_row]

theorem v51_val (c i : Fin 64) (l : Fin 2048) : val_main_v51 (F := Ideal) x0 x1 x4 (ix3 c i l)
    = (tke (LB l) (FL l) (C l) (64 * c.val + i.val) : ℝ) := by
  pointwise [val_main_v51]
  rw [v45_val hd, v39_val hd, ← EReal.coe_mul]
  rfl

theorem v52_val (c i : Fin 64) (l : Fin 2048) : val_main_v52 (F := Ideal) x0 x1 x4 (ix3 c i l)
    = (ket (LB l) (FL l) (C l) (64 * c.val + i.val) : ℝ) := by
  pointwise [val_main_v52, val_main_v50]
  rw [v27_val hd, v45_val hd, v39_val hd, ← EReal.coe_mul, ← EReal.coe_mul]
  congr 1
  unfold ket tke
  ring

theorem v53_val (c : Fin 64) (l : Fin 2048) (i : Fin 64) : val_main_v53 (F := Ideal) x0 x1 x4 (ix2 c l)
    = (whole (ket (LB l) (FL l) (C l)) (64 * c.val + i.val) : EReal) := by
  have h0 : val_main_cst_4 (F := Ideal) (Shape.Idx.first h_S_) = (0 : EReal) := by pointwise [val_main_cst_4]
  pointwise [val_main_v53]
  rw [h0, zero_add]
  unfold whole
  rw [chunk_div, coe_sum]
  refine Finset.sum_congr rfl fun k _ => ?_
  rw [v52_val hd]

theorem v56_val (c : Fin 64) (z : Fin 1) (l : Fin 2048) (i : Fin 64) : val_main_v56 (F := Ideal) x0 x1 x4 x7 (ix3 c z l)
    = (dtot (LB l) (FL l) (C l) (E l) (64 * c.val + i.val) : EReal) := by
  pointwise [val_main_v56, val_main_v54, val_main_v49, val_main_v48, val_main_v42, val_main_v41]
  rw [v53_val hd c l i, v31_val hd c _ l i, hd.e, exp_coe, ← EReal.coe_mul, ← EReal.coe_add]
  unfold dtot
  rw [chunk_div, add_comm]

theorem v58_val (c i : Fin 64) (l : Fin 2048) : val_main_v58 (F := Ideal) x0 x1 x3 (ix3 c i l)
    = (tkd (LB l) (FL l) (B l) (64 * c.val + i.val) : ℝ) := by
  pointwise [val_main_v58]
  rw [v44_val hd, v35_val hd, ← EReal.coe_mul]
  rfl

theorem v64_val (c i : Fin 64) (l : Fin 2048) : val_main_v64 (F := Ideal) x0 x1 x2 (ix3 c i l)
    = (tq (LB l) (FL l) (A l) (64 * c.val + i.val) : ℝ) := by
  pointwise [val_main_v64]
  rw [v43_val hd, v32_val hd, ← EReal.coe_mul]
  rfl

theorem v66_val (c i : Fin 64) (l : Fin 2048) : val_main_v66 (F := Ideal) x0 x1 x2 x3 x4 (ix3 c i l)
    = (db (LB l) (Q l) (FL l) (A l) (B l) (C l) (64 * c.val + i.val) : ℝ) := by
  pointwise [val_main_v66, val_main_v65, val_main_v63, val_main_v62, val_main_v61, val_main_v60, val_main_v57, val_main_v55]
  rw [v52_val hd, v27_val hd, v44_val hd, v35_val hd, v24_val hd, v43_val hd, v32_val hd]
  simp only [← EReal.coe_neg, ← EReal.coe_mul, ← EReal.coe_add]
  congr 1
  unfold db tq tkd
  ring

theorem v68_val (c i : Fin 64) (l : Fin 2048) : val_main_v68 (F := Ideal) x0 x1 x2 x3 x4 x7 (ix3 c i l)
    = (db (LB l) (Q l) (FL l) (A l) (B l) (C l) (64 * c.val + i.val)
        + (if i.val = 63 then dtot (LB l) (FL l) (C l) (E l) (64 * c.val + i.val) else 0) : ℝ) := by
  pointwise [val_main_v68, val_main_v67, val_main_cst_5]
  rw [v66_val hd]
  by_cases h : i.val = 63
  · rw [dif_pos (by omega), if_pos h, v56_val hd c _ l i, EReal.coe_add]
  · rw [dif_neg (by omega), if_neg h, EReal.coe_add, EReal.coe_zero]

theorem v69_val (c i : Fin 64) (l : Fin 2048) : val_main_v69 (F := Ideal) x0 x1 x2 x3 x4 x7 (ix3 c i l)
    = (onward (db (LB l) (Q l) (FL l) (A l) (B l) (C l)) (64 * c.val + i.val) + dtot (LB l) (FL l) (C l) (E l) (64 * c.val + i.val) : ℝ) := by
  have h0 : val_main_call2_call0_v0 (F := Ideal) (Shape.Idx.first h_S_) = (0 : EReal) := by
    pointwise [val_main_call2_call0_v0, val_main_call2_call0_cst]
  have hw := window_fwd reduceWindows_S64x64x2048_S64x64x2048_w1s1p0_0_w64s1p0_63_w1s1p0_0
    (val_main_v68 (F := Ideal) x0 x1 x2 x3 x4 x7) c i l
  unfold val_main_v69 Host.reduceWindowAdd
  rw [h0]
  refine Eq.trans hw ?_
  have hs : ∀ k : Fin 64, (if i.val ≤ k.val then val_main_v68 (F := Ideal) x0 x1 x2 x3 x4 x7 (ix3 c k l) else (0 : EReal))
      = (((if i.val ≤ k.val then db (LB l) (Q l) (FL l) (A l) (B l) (C l) (64 * c.val + k.val) else 0)
        + (if (63 : Fin 64) = k then dtot (LB l) (FL l) (C l) (E l) (64 * c.val + i.val) else 0) : ℝ) : EReal) := by
    intro k
    rw [v68_val hd, dtot_chunk _ _ _ _ c k i, coe_ite]
    congr 1
    by_cases hk : k.val = 63
    · rw [if_pos hk, if_pos (c := (63 : Fin 64) = k) (Fin.ext hk.symm), if_pos (by omega), if_pos (by omega)]
    · rw [if_neg hk, if_neg (c := (63 : Fin 64) = k) (fun h => hk (congrArg Fin.val h.symm)), add_zero, add_zero]
  rw [Finset.sum_congr rfl fun k _ => hs k, ← coe_sum, Finset.sum_add_distrib, Finset.sum_ite_eq]
  unfold onward
  rw [chunk_mod, chunk_div, if_pos (Finset.mem_univ _)]

theorem v70_val (r : Fin 4096) (l : Fin 2048) : val_main_v70 (F := Ideal) x0 x1 x2 x3 x4 x7 (ix2 r l)
    = (onward (db (LB l) (Q l) (FL l) (A l) (B l) (C l)) r.val + dtot (LB l) (FL l) (C l) (E l) r.val : ℝ) := by
  pointwise [val_main_v70]
  rw [v69_val hd]
  simp only [back_row]

theorem v72_val (r : Fin 4096) (l : Fin 2048) : val_main_v72 (F := Ideal) x0 x1 x3 x4 (ix2 r l)
    = (tkd (LB l) (FL l) (B l) r.val + tke (LB l) (FL l) (C l) r.val : ℝ) := by
  pointwise [val_main_v72, val_main_v59]
  rw [v51_val hd, v58_val hd, ← EReal.coe_add]
  simp only [back_row]
  rw [add_comm]

theorem v74_val (r : Fin 4096) (l : Fin 2048) : val_main_v74 (F := Ideal) x0 x1 x2 x3 x4 x7 (ix2 r l)
    = (df (LB l) (Q l) (FL l) (A l) (B l) (C l) (E l) r.val : ℝ) := by
  pointwise [val_main_v74, val_main_v73, val_main_v71]
  rw [v70_val hd, v72_val hd, v22_val hd, div_coe _ _ (fg_pos _ (hd.b01 l).1 (hd.b01 l).2 _ _).ne', ← EReal.coe_neg, ← EReal.coe_add]
  congr 1

theorem v76_val (r : Fin 4096) (l : Fin 2048) : val_main_v76 (F := Ideal) x0 x1 x2 (ix2 r l)
    = (gq (LB l) (Q l) (FL l) (A l) r.val : ℝ) := by
  pointwise [val_main_v76, val_main_call3_v2, val_main_call3_v1, val_main_call3_v0, val_main_v75, val_main_v23_1, val_main_call0_v7,
    val_main_call0_v6, val_main_call0_cst_1]
  rw [v64_val hd, silu_val hd, v1_val hd]
  simp only [← EReal.coe_one, ← EReal.coe_sub, ← EReal.coe_mul, ← EReal.coe_add, back_row]
  congr 1
  unfold gq
  ring

theorem v84_val (r : Fin 4096) (l : Fin 2048) : val_main_v84 (F := Ideal) x0 x1 x2 x3 x4 x7 (ix2 r l)
    = (gf (LB l) (Q l) (FL l) (A l) (B l) (C l) (E l) r.val : ℝ) := by
  pointwise [val_main_v84, val_main_v80, val_main_v79, val_main_v18, val_main_v17, val_main_v16, val_main_v9, val_main_v8, val_main_cst,
    val_main_cst_2]
  rw [v74_val hd, v15_val hd, hd.lb]
  simp only [← EReal.coe_one, ← EReal.coe_sub, ← EReal.coe_mul]
  congr 1
  unfold gf
  ring

/-- The reference's gradient of the gate input. -/
theorem ref_rows_at (p : Fin 4) (r : Fin 4096) (l : Fin 2048) :
    val_main_v98 (F := Ideal) x0 x1 x2 x3 x4 x5 x6 x7 (ix3 p r l) = rows Q FL A B C E LB x5 x6 p r l := by
  pointwise [val_main_v98, val_main_v97, val_main_v96, val_main_v95, val_main_v94, val_main_v93, val_main_v92, val_main_v91,
    val_main_v90, val_main_v89, val_main_v88, val_main_v87, val_main_cst_11, val_main_cst_10, val_main_cst_9, val_main_cst_8,
    val_main_v46, val_main_v47]
  rw [v76_val hd, v84_val hd]
  unfold rows
  have hp := p.isLt
  obtain h | h | h | h : p.val = 0 ∨ p.val = 1 ∨ p.val = 2 ∨ p.val = 3 := by omega
  · rw [dif_neg (by omega), dif_neg (by omega), dif_neg (by omega), dif_pos (by omega), if_pos h]
    simp only [zero_add]
  · rw [dif_neg (by omega), dif_neg (by omega), dif_pos (by omega), dif_neg (by omega), if_neg (by omega), if_pos h]
    simp only [zero_add, add_zero]
  · rw [dif_neg (by omega), dif_pos (by omega), dif_neg (by omega), dif_neg (by omega), if_neg (by omega), if_neg (by omega), if_pos h]
    simp only [zero_add, add_zero]
  · rw [dif_pos (by omega), dif_neg (by omega), dif_neg (by omega), dif_neg (by omega), if_neg (by omega), if_neg (by omega), if_neg (by omega)]
    simp only [add_zero]

theorem ref_rows (i : SH.Idx) : val_main_v98 (F := Ideal) x0 x1 x2 x3 x4 x5 x6 x7 i = rows Q FL A B C E LB x5 x6 (i 0) (i 1) (i 2) := by
  have hi : i = ix3 (i 0) (i 1) (i 2) := by blk_ext
  exact (congrArg (val_main_v98 (F := Ideal) x0 x1 x2 x3 x4 x5 x6 x7) hi).trans (ref_rows_at hd (i 0) (i 1) (i 2))

/-- The reference's gradient of the lower bound. -/
theorem ref_low_at (z : Fin 1) (l : Fin 2048) :
    val_main_v86 (F := Ideal) x0 x1 x2 x3 x4 x7 (ix2 z l) = low Q FL A B C E LB l := by
  have h6 : val_main_cst_6 (F := Ideal) (Shape.Idx.first h_S_) = (0 : EReal) := by pointwise [val_main_cst_6]
  have h7 : val_main_cst_7 (F := Ideal) (Shape.Idx.first h_S_) = (0 : EReal) := by pointwise [val_main_cst_7]
  pointwise [val_main_v86, val_main_v85, val_main_v83, val_main_v82, val_main_v81, val_main_v78, val_main_v77]
  rw [h6, h7, zero_add, zero_add]
  simp only [v74_val hd, v15_val hd, ← EReal.coe_mul]
  rw [← coe_sum, ← coe_sum, ← EReal.coe_neg, ← EReal.coe_add, ← sub_eq_add_neg, ← Finset.sum_sub_distrib]
  unfold low gl
  congr 1
  refine Finset.sum_congr rfl fun r _ => ?_
  ring

theorem ref_low (i : SL.Idx) : val_main_v86 (F := Ideal) x0 x1 x2 x3 x4 x7 i = low Q FL A B C E LB (i 1) := by
  have hi : i = ix2 (i 0) (i 1) := by blk_ext
  exact (congrArg (val_main_v86 (F := Ideal) x0 x1 x2 x3 x4 x7) hi).trans (ref_low_at hd (i 0) (i 1))

end

end Cert.Rows

end
-- ==== Proof.Finite.lean ====
module

public import Idealize.ShloMosaic.Lib.ReduceAll
public import Idealize.ShloMosaic.Lib.IdealHost
public import Idealize.ShloMosaic.Lib.StableHlo
public import Idealize.ShloMosaic.Lib.Pipeline.ValueKit
public import Idealize.ShloMosaic.PureOps

/-! What a precondition's test of an array for finite values says of its elements. -/

@[expose] public section

noncomputable section

open Idealize.ShloMosaic Idealize.ShloMosaic.Pointwise

namespace Cert.Rows

/-- The shape of a single value. -/
abbrev S0 : Shape := ⟨0, ![]⟩

theorem inf_word : Ideal.ofBits .f32 0x7F800000#32 = (⊤ : EReal) := by
  simp [Ideal.ofBits, Ideal.ieee]

/-- A value whose absolute value is below infinity is a real number. -/
theorem real_of_abs_lt (x : EReal) (h : max x (-x) < ⊤) : x = (x.toReal : EReal) := by
  refine (EReal.coe_toReal ?_ ?_).symm
  · rintro rfl; simp at h
  · rintro rfl; simp at h

theorem of_bool {p : Prop} [Decidable p] (h : BitVec.ofBool (decide p) = 1#1) : p := by
  by_contra hp
  rw [decide_eq_false hp] at h
  exact absurd h (by decide)

/-- The test of one element for a finite value. -/
theorem real_of_test {s : Shape} (x : FVec Ideal s .f32) (hb : S0.BroadcastsInDim s (![] : Fin 0 → Fin s.rank))
    (i : s.Idx) (h : cmpf (F := Ideal) .olt (Host.absf x)
      (broadcastInDim s ![] hb (constant (F := Ideal) S0 .f32 0x7F800000#32)) i = 1#1) :
    x i = ((x i).toReal : EReal) := by
  have h' := of_bool (p := max (x i) (-x i) < Ideal.ofBits .f32 0x7F800000#32) h
  rw [inf_word] at h'
  exact real_of_abs_lt _ h'

instance : Subsingleton S0.Idx := ⟨fun a b => funext fun k => k.elim0⟩

/-- The test of a whole array for finite values. -/
theorem real_of_all {s : Shape} (x : FVec Ideal s .f32) (hb : S0.BroadcastsInDim s (![] : Fin 0 → Fin s.rank))
    {axes : List (Fin s.rank)} (hr : s.ReducesTo axes S0) (hn : 0 < S0.numel) (v : S0.Idx → BitVec 1) (j : S0.Idx)
    (h : Host.reduce IntOp.andi (cmpf (F := Ideal) .olt (Host.absf x)
      (broadcastInDim s ![] hb (constant (F := Ideal) S0 .f32 0x7F800000#32))) v hr hn j = 1#1) (i : s.Idx) :
    x i = ((x i).toReal : EReal) :=
  real_of_test x hb i (Host.reduce_andi_all _ _ hr hn j h i)

end Cert.Rows

end
-- ==== Proof.Precond.lean ====
module

public import proofs.«01_k».proof.Proof.Data
public import proofs.«01_k».proof.Proof.Finite
public import proofs.«01_k».proof.Proof.Gen.Pre_finite
public import Idealize.ShloMosaic.Lib.ReduceAll
public import Idealize.ShloMosaic.Lib.IdealHost

/-! The precondition, read back: the arguments it names hold real numbers. -/

@[expose] public section

noncomputable section

open Idealize.ShloMosaic Idealize.ShloMosaic.Pointwise

namespace Cert.Rows

open Cert.Pre_finite Cert.Pre_finite.Gen

/-- A row of an array as a function of every natural number, zero past the end. -/
def past {n : ℕ} (f : Fin n → EReal) (r : ℕ) : ℝ := if h : r < n then (f ⟨r, h⟩).toReal else 0

theorem past_eq {n : ℕ} (f : Fin n → EReal) (hf : ∀ r, f r = ((f r).toReal : EReal)) (r : Fin n) :
    f r = (past f r.val : EReal) := by
  rw [past, dif_pos r.isLt]
  exact hf r

/-- Under the precondition the arguments hold real numbers. -/
theorem held_of_pre (x0 : FVec Ideal SH .f32) (x1 : FVec Ideal SL .f32) (x2 x3 x4 : FVec Ideal SR .f32)
    (x5 x6 : FVec Ideal SR .bf16) (x7 : FVec Ideal SC .f32)
    (h : Cert.Pre_finite.fn (F := Ideal) x0 x1 x2 x3 x4 x5 x6 x7 = fun _ => 1#1) :
    Held x0 x1 x2 x3 x4 x7
      (fun l => past fun r : Fin 4096 => x0 (ix3 0 r l)) (fun l => past fun r : Fin 4096 => x0 (ix3 1 r l))
      (fun l => past fun r : Fin 4096 => x2 (ix2 r l)) (fun l => past fun r : Fin 4096 => x3 (ix2 r l))
      (fun l => past fun r : Fin 4096 => x4 (ix2 r l)) (fun l => past fun k : Fin 64 => x7 (ix2 k l))
      (fun l => (x1 (ix2 0 l)).toReal) := by
  have j : S_.Idx := fun k => k.elim0
  have h0 := congrFun h j
  obtain ⟨h1, e7⟩ := IntOp.andi_eq_one.1 h0
  obtain ⟨h1, e4⟩ := IntOp.andi_eq_one.1 h1
  obtain ⟨h1, e3⟩ := IntOp.andi_eq_one.1 h1
  obtain ⟨h1, e2⟩ := IntOp.andi_eq_one.1 h1
  obtain ⟨e1, e0⟩ := IntOp.andi_eq_one.1 h1
  have r7 := real_of_all x7 _ _ _ _ j e7
  have r4 := real_of_all x4 _ _ _ _ j e4
  have r3 := real_of_all x3 _ _ _ _ j e3
  have r2 := real_of_all x2 _ _ _ _ j e2
  have r0 := real_of_all _ _ _ _ _ j e0
  have s0 : ∀ (r : Fin 4096) (l : Fin 2048), extractStridedSlice S2x4096x2048 ![0, 0, 0] x0
      Facts.slices_S4x4096x2048_S2x4096x2048_0_0_0 (ix3 0 r l) = x0 (ix3 0 r l) := fun r l => by pointwise
  have s1 : ∀ (r : Fin 4096) (l : Fin 2048), extractStridedSlice S2x4096x2048 ![0, 0, 0] x0
      Facts.slices_S4x4096x2048_S2x4096x2048_0_0_0 (ix3 1 r l) = x0 (ix3 1 r l) := fun r l => by pointwise
  have r1 : ∀ l : Fin 2048, x1 (ix2 0 l) = ((x1 (ix2 0 l)).toReal : EReal) ∧ 0 ≤ (x1 (ix2 0 l)).toReal ∧ (x1 (ix2 0 l)).toReal ≤ 1 := by
    intro l
    obtain ⟨ge, le⟩ := IntOp.andi_eq_one.1 (Host.reduce_andi_all _ _ _ _ j e1 (ix2 0 l))
    have ge' := of_bool (p := Ideal.ofBits .f32 0x00000000#32 ≤ x1 (ix2 0 l)) ge
    have le' := of_bool (p := x1 (ix2 0 l) ≤ Ideal.ofBits .f32 0x3F800000#32) le
    have z : Ideal.ofBits .f32 0x00000000#32 = (0 : EReal) := by pointwise
    have o : Ideal.ofBits .f32 0x3F800000#32 = (1 : EReal) := by pointwise
    rw [z] at ge'
    rw [o] at le'
    have c := (EReal.coe_toReal (x := x1 (ix2 0 l)) (fun e => by rw [e] at le'; exact absurd le' (by decide))
      (fun e => by rw [e] at ge'; exact absurd ge' (by decide))).symm
    refine ⟨c, ?_, ?_⟩
    · rw [c] at ge'; exact_mod_cast ge'
    · rw [c] at le'; exact_mod_cast le'
  exact {
    q := fun r l => past_eq (fun r : Fin 4096 => x0 (ix3 0 r l)) (fun r => by have e := r0 (ix3 0 r l); simp only [s0] at e; exact e) r
    fl := fun r l => past_eq (fun r : Fin 4096 => x0 (ix3 1 r l)) (fun r => by have e := r0 (ix3 1 r l); simp only [s1] at e; exact e) r
    lb := fun l => (r1 l).1
    a := fun r l => past_eq _ (fun r => r2 (ix2 r l)) r
    b := fun r l => past_eq _ (fun r => r3 (ix2 r l)) r
    c := fun r l => past_eq _ (fun r => r4 (ix2 r l)) r
    e := fun k l => past_eq _ (fun k => r7 (ix2 k l)) k
    b01 := fun l => (r1 l).2 }

end Cert.Rows

end
-- ==== Proof.Gates.lean ====
module

public import proofs.«01_k».proof.Defs
public import proofs.«01_k».proof.Proof.Blocks
public import proofs.«01_k».proof.Proof.RefVal
public import proofs.«01_k».proof.Proof.Precond

/-! The gradient of the gates and decays: the kernel's two results are the reference's. -/

@[expose] public section

noncomputable section

open Idealize.ShloMosaic Idealize.ShloMosaic.Pointwise Idealize.SL.Sem

namespace Cert.Rows

attribute [local instance] Cert.KernelIdeal.Gen.facts Cert.ReferenceIdeal.Gen.facts Cert.Pre_finite.Gen.facts

theorem algebraic : Cert.algebraic_KernelIdeal_ReferenceIdeal_pre_finite := by
  intro m g m' g' pre same
  refine ⟨fun c => (Cert.KernelIdeal.Gen.dats m 0 c).arrAt 9 Cert.KernelIdeal.cfg0.N,
    fun c => (Cert.KernelIdeal.Gen.dats m 0 c).arrAt 10 Cert.KernelIdeal.cfg0.N,
    Cert.KernelIdeal.Value.run_blocks m g, (θ_run _ _ _).mono (fun r h c => ?_) (Cert.ReferenceIdeal.Value.run m' g')⟩
  obtain ⟨e0, e1, e2, e3, e4, e5, e6, e7⟩ := same c
  have hd := held_of_pre _ _ _ _ _ _ _ _ (pre c)
  obtain ⟨h98, h86, hk⟩ := h c
  refine ⟨?_, ?_, hk⟩
  · rw [h98, Cert.ReferenceIdeal.Read.val_main_v98_eq, e0, e1, e2, e3, e4, e5, e6, e7]
    refine Eq.trans ?_ (final9 hd).symm
    exact funext fun i => ref_rows hd i
  · rw [h86, Cert.ReferenceIdeal.Read.val_main_v86_eq, e0, e1, e2, e3, e4, e7]
    refine Eq.trans ?_ (final10 hd).symm
    exact funext fun i => ref_low hd i

end Cert.Rows

end
-- ==== Proof.DownDw.lean ====
module

public import proofs.«01_k».proof.Defs
public import proofs.«01_k».proof.Proof.Gen.Kernel2
public import proofs.«01_k».proof.Proof.Gen.Kernel2Ideal.Value
public import proofs.«01_k».proof.Proof.Gen.Reference2Ideal.Read
public import Idealize.ShloMosaic.Lib.Pipeline.ValueKit
public import Idealize.ShloMosaic.Lib.Quiescent

/-! The weight gradient of the feed-forward down projection. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.DownDw

open Cert.Kernel2Ideal Cert.Kernel2Ideal.Gen

theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

theorem final (m : (ℓ : Loc nD τ sig) → Buf (Elt Ideal) ℓ) (c : Dev nD) : (dats m 0 c).arrAt 2 (cfgs 0).N
    = Cert.Reference2Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference2Ideal.Read.val_main_v6_eq]
  frame_out
  pointwise [k0_pay1]
  refine Finset.sum_congr (M := EReal) rfl fun k _ => (mul_comm (G := EReal) _ _).trans ?_
  blk_point [iblk, V, idx t]

attribute [local instance] Cert.Kernel2.Gen.facts Cert.Kernel2Ideal.Gen.facts Cert.Reference2Ideal.Gen.facts

theorem algebraic : Cert.algebraic_Kernel2Ideal_Reference2Ideal := by
  intro m g m' g' _ same
  refine ⟨fun c => (dats m 0 c).arrAt 2 cfg0.N, Cert.Kernel2Ideal.Value.run_blocks m g,
    (θ_run _ _ _).mono (fun r h c => ⟨(h c).1.trans ?_, (h c).2⟩) (Cert.Reference2Ideal.Value.run m' g')⟩
  rw [(same c).1, (same c).2]
  exact (final m c).symm

theorem defs_eq : @Cert.Kernel2Ideal.defs Bits _ _ = @Cert.Kernel2.defs Bits _ _ := by
  refine congrArg (Pipeline.defs Cert.Kernel2Ideal.pcfgs) (congrArg Defs.onTc (funext fun l => funext fun a => ?_))
  match l, a with
  | 0, (t, s) => rfl

theorem frame_kernel : Cert.quiescent_Kernel2 := fun m ρ _ => by
  have h := Cert.Kernel2Ideal.Gen.frame (F := Bits) m ρ
  rw [defs_eq] at h
  exact h

theorem frame_ideal : Cert.quiescent_Kernel2Ideal := fun m ρ _ => Cert.Kernel2Ideal.Gen.frame m ρ

theorem frame_reference : Cert.quiescent_Reference2Ideal := fun m ρ _ =>
  (θ_run _ _ _).mono (fun r h => ⟨fun c => (h c).2, sem_eq_zero_of_no_sems (by decide) r.2⟩)
    (Cert.Reference2Ideal.Value.run m ρ)

end Cert.DownDw

end
-- ==== Proof.DownDx.lean ====
module

public import proofs.«01_k».proof.Defs
public import proofs.«01_k».proof.Proof.Gen.Kernel3
public import proofs.«01_k».proof.Proof.Gen.Kernel3Ideal.Value
public import proofs.«01_k».proof.Proof.Gen.Reference3Ideal.Read
public import Idealize.ShloMosaic.Lib.Pipeline.ValueKit
public import Idealize.ShloMosaic.Lib.Quiescent

/-! The input gradient of the feed-forward down projection. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.DownDx

open Cert.Kernel3Ideal Cert.Kernel3Ideal.Gen

theorem idx : ∀ t : Fin cfg0.N, win0_0.index t = ![t.val / 11, 0]
    ∧ win0_1.index t = ![t.val % 11, 0]
    ∧ win0_2.index t = ![t.val / 11, t.val % 11] :=
  (by decide +kernel : ∀ t : Fin grid0.N, _)

theorem final (m : (ℓ : Loc nD τ sig) → Buf (Elt Ideal) ℓ) (c : Dev nD) : (dats m 0 c).arrAt 2 (cfgs 0).N
    = Cert.Reference3Ideal.Read.val_main_v5 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference3Ideal.Read.val_main_v5_eq]
  frame_out
  pointwise [k0_pay1]
  blk_point [iblk, V, idx t]

attribute [local instance] Cert.Kernel3.Gen.facts Cert.Kernel3Ideal.Gen.facts Cert.Reference3Ideal.Gen.facts

theorem algebraic : Cert.algebraic_Kernel3Ideal_Reference3Ideal := by
  intro m g m' g' _ same
  refine ⟨fun c => (dats m 0 c).arrAt 2 cfg0.N, Cert.Kernel3Ideal.Value.run_blocks m g,
    (θ_run _ _ _).mono (fun r h c => ⟨(h c).1.trans ?_, (h c).2⟩) (Cert.Reference3Ideal.Value.run m' g')⟩
  rw [(same c).1, (same c).2]
  exact (final m c).symm

theorem defs_eq : @Cert.Kernel3Ideal.defs Bits _ _ = @Cert.Kernel3.defs Bits _ _ := by
  refine congrArg (Pipeline.defs Cert.Kernel3Ideal.pcfgs) (congrArg Defs.onTc (funext fun l => funext fun a => ?_))
  match l, a with
  | 0, (t, s) => rfl

theorem frame_kernel : Cert.quiescent_Kernel3 := fun m ρ _ => by
  have h := Cert.Kernel3Ideal.Gen.frame (F := Bits) m ρ
  rw [defs_eq] at h
  exact h

theorem frame_ideal : Cert.quiescent_Kernel3Ideal := fun m ρ _ => Cert.Kernel3Ideal.Gen.frame m ρ

theorem frame_reference : Cert.quiescent_Reference3Ideal := fun m ρ _ =>
  (θ_run _ _ _).mono (fun r h => ⟨fun c => (h c).2, sem_eq_zero_of_no_sems (by decide) r.2⟩)
    (Cert.Reference3Ideal.Value.run m ρ)

end Cert.DownDx

end
-- ==== Proof.UpDw.lean ====
module

public import proofs.«01_k».proof.Defs
public import proofs.«01_k».proof.Proof.Gen.Kernel4
public import proofs.«01_k».proof.Proof.Gen.Kernel4Ideal.Value
public import proofs.«01_k».proof.Proof.Gen.Reference4Ideal.Read
public import Idealize.ShloMosaic.Lib.Pipeline.ValueKit
public import Idealize.ShloMosaic.Lib.Quiescent

/-! The weight gradient of the feed-forward up projection, its output gradient in two halves. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.UpDw

open Cert.Kernel4Ideal Cert.Kernel4Ideal.Gen

theorem idx : ∀ t : Fin cfg0.N, win0_0.index t = ![0, t.val / 22]
    ∧ win0_1.index t = ![t.val % 22 / 11, 0, t.val % 22 % 11]
    ∧ win0_2.index t = ![t.val / 22, t.val % 22] :=
  (by decide +kernel : ∀ t : Fin grid0.N, _)

theorem final (m : (ℓ : Loc nD τ sig) → Buf (Elt Ideal) ℓ) (c : Dev nD) : (dats m 0 c).arrAt 2 (cfgs 0).N
    = Cert.Reference4Ideal.Read.val_main_v14 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference4Ideal.Read.val_main_v14_eq]
  frame_out
  have e : (((View.whole main_v0).slice (win0_2.rect t)).emb y 1).val = t.val % 22 * 512 + (y 1).val := by
    blk_point [idx t]
  pointwise [k0_pay1]
  refine Finset.sum_congr (M := EReal) rfl fun k _ => (mul_comm (G := EReal) _ _).trans ?_
  blk_point [iblk, V, idx t] <;> omega

attribute [local instance] Cert.Kernel4.Gen.facts Cert.Kernel4Ideal.Gen.facts Cert.Reference4Ideal.Gen.facts

theorem algebraic : Cert.algebraic_Kernel4Ideal_Reference4Ideal := by
  intro m g m' g' _ same
  refine ⟨fun c => (dats m 0 c).arrAt 2 cfg0.N, Cert.Kernel4Ideal.Value.run_blocks m g,
    (θ_run _ _ _).mono (fun r h c => ⟨(h c).1.trans ?_, (h c).2⟩) (Cert.Reference4Ideal.Value.run m' g')⟩
  rw [(same c).1, (same c).2]
  exact (final m c).symm

theorem defs_eq : @Cert.Kernel4Ideal.defs Bits _ _ = @Cert.Kernel4.defs Bits _ _ := by
  refine congrArg (Pipeline.defs Cert.Kernel4Ideal.pcfgs) (congrArg Defs.onTc (funext fun l => funext fun a => ?_))
  match l, a with
  | 0, (t, s) => rfl

theorem frame_kernel : Cert.quiescent_Kernel4 := fun m ρ _ => by
  have h := Cert.Kernel4Ideal.Gen.frame (F := Bits) m ρ
  rw [defs_eq] at h
  exact h

theorem frame_ideal : Cert.quiescent_Kernel4Ideal := fun m ρ _ => Cert.Kernel4Ideal.Gen.frame m ρ

theorem frame_reference : Cert.quiescent_Reference4Ideal := fun m ρ _ =>
  (θ_run _ _ _).mono (fun r h => ⟨fun c => (h c).2, sem_eq_zero_of_no_sems (by decide) r.2⟩)
    (Cert.Reference4Ideal.Value.run m ρ)

end Cert.UpDw

end
-- ==== Proof.UpDx.lean ====
module

public import proofs.«01_k».proof.Defs
public import proofs.«01_k».proof.Proof.Gen.Kernel5
public import proofs.«01_k».proof.Proof.Gen.Kernel5Ideal.Value
public import proofs.«01_k».proof.Proof.Gen.Reference5Ideal.Read
public import Idealize.ShloMosaic.Lib.Pipeline.ValueKit
public import Idealize.ShloMosaic.Lib.Quiescent

/-! The input gradient of the feed-forward up projection, with the residual gradient added; its output gradient comes in two halves and the product is accumulated over four points. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.UpDx

open Cert.Kernel5Ideal Cert.Kernel5Ideal.Gen

theorem idx : ∀ t : Fin cfg0.N, win0_0.index t = ![t.val % 4 / 2, t.val / 8, t.val % 4 % 2]
    ∧ win0_1.index t = ![t.val / 4 % 2, t.val % 4]
    ∧ win0_2.index t = ![t.val / 8, t.val / 4 % 2]
    ∧ win0_3.index t = ![t.val / 8, t.val / 4 % 2] :=
  (by decide +kernel : ∀ t : Fin grid0.N, _)

theorem zero (j) : k0_pay1 (F := Ideal) j = 0 := by pointwise [k0_pay1]

theorem step (acc : FVec Ideal S1024x1024 .f32) (x0 : FVec Ideal S1x1024x2816 .bf16) (x1 : FVec Ideal S1024x2816 .bf16) (j) :
    k0_pay2 acc x0 x1 j = acc j + ∑ k : Fin 2816, x0 (ix3 0 (j 0) k) * x1 (ix2 (j 1) k) := by pointwise [k0_pay2]

theorem last (acc x2 : FVec Ideal S1024x1024 .f32) (j) :
    k0_pay3 acc x2 j = acc j + Ideal.ofBits .f32 0x3FB504F3#32 * x2 j := by pointwise [k0_pay3]

theorem final (m : (ℓ : Loc nD τ sig) → Buf (Elt Ideal) ℓ) (c : Dev nD) : (dats m 0 c).arrAt 3 (cfgs 0).N
    = Cert.Reference5Ideal.Read.val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have h0 : ¬ t.val % 4 = 0 := by omega
  have hout : (outsAt0 m c t.val t.isLt).1 y = (outsAt0 m c t.val t.isLt).2 y + Ideal.ofBits .f32 0x3FB504F3#32 * iblk m c 2 t y := by
    rw [outsAt0_C m c t h0 h3]; frame_out; rw [last]
  blk_simp
  rw [after0_3]
  refine hout.trans ?_
  rw [Pipeline.eq_sum_fin_of_reset_step_apply_of_flush (fun n h => (outsAt0 m c n h).2) 4 (fun _ => 0)
    (fun p j => ∑ k : Fin 2816, (show FVec Ideal S1x1024x2816 .bf16 from iblk m c 0 p) (ix3 0 (j 0) k) * (show FVec Ideal S1024x2816 .bf16 from iblk m c 1 p) (ix2 (j 1) k))
    (fun t h j => by rw [outsAt0_A m c t h (by omega)]; frame_out; rw [step, zero])
    (fun t h j => by
      by_cases h' : t.val % 4 = 3
      · rw [outsAt0_C m c t h h']; frame_out; rw [step, (Memref.isWhole_whole cc0_scratch0).read_unread]
      · rw [outsAt0_B m c t h h']; frame_out; rw [step, (Memref.isWhole_whole cc0_scratch0).read_unread])
    t h3 y, zero_add, ← Cert.Reference5Ideal.Read.val_main_v17_eq]
  pointwise
  refine congrArg₂ (fun a b : EReal => a + b) ?_ ?_
  · refine Eq.trans (Fin.sum_points_lanes_congr (A := 2) (L := 5632)
      (g := fun a l => (show FVec Ideal S2x4096x5632 .bf16 from m ((c : Thread nD τ).loc main_arg0)) (ix3 a (((View.whole main_v0).slice (win0_3.rect t)).emb y 0) l)
        * (show FVec Ideal S2048x11264 .bf16 from m ((c : Thread nD τ).loc main_arg1)) (ix2 (((View.whole main_v0).slice (win0_3.rect t)).emb y 1) ⟨a.val * 5632 + l.val, by omega⟩))
      2 fun s k ha hl => ?_) ?_
    · blk_point [iblk, V, idx t, idx ⟨_, Pipeline.run_point_lt_of_flush t h3 s⟩] <;> omega
    · rw [Fin.sum_univ_two]
      refine congrArg₂ (fun a b : EReal => a + b) (Fin.sum_fin_congr fun l => ?_) (Fin.sum_fin_congr fun l => ?_) <;> blk_point []
  · blk_point [iblk, V, idx t]

attribute [local instance] Cert.Kernel5.Gen.facts Cert.Kernel5Ideal.Gen.facts Cert.Reference5Ideal.Gen.facts

theorem algebraic : Cert.algebraic_Kernel5Ideal_Reference5Ideal := by
  intro m g m' g' _ same
  refine ⟨fun c => (dats m 0 c).arrAt 3 cfg0.N, Cert.Kernel5Ideal.Value.run_blocks m g,
    (θ_run _ _ _).mono (fun r h c => ⟨(h c).1.trans ?_, (h c).2⟩) (Cert.Reference5Ideal.Value.run m' g')⟩
  rw [(same c).1, (same c).2.1, (same c).2.2]
  exact (final m c).symm

theorem defs_eq : @Cert.Kernel5Ideal.defs Bits _ _ = @Cert.Kernel5.defs Bits _ _ := by
  refine congrArg (Pipeline.defs Cert.Kernel5Ideal.pcfgs) (congrArg Defs.onTc (funext fun l => funext fun a => ?_))
  match l, a with
  | 0, (t, s) => rfl

theorem frame_kernel : Cert.quiescent_Kernel5 := fun m ρ _ => by
  have h := Cert.Kernel5Ideal.Gen.frame (F := Bits) m ρ
  rw [defs_eq] at h
  exact h

theorem frame_ideal : Cert.quiescent_Kernel5Ideal := fun m ρ _ => Cert.Kernel5Ideal.Gen.frame m ρ

theorem frame_reference : Cert.quiescent_Reference5Ideal := fun m ρ _ =>
  (θ_run _ _ _).mono (fun r h => ⟨fun c => (h c).2, sem_eq_zero_of_no_sems (by decide) r.2⟩)
    (Cert.Reference5Ideal.Value.run m ρ)

end Cert.UpDx

end
-- ==== Proof.OutDw.lean ====
module

public import proofs.«01_k».proof.Defs
public import proofs.«01_k».proof.Proof.Gen.Kernel6
public import proofs.«01_k».proof.Proof.Gen.Kernel6Ideal.Value
public import proofs.«01_k».proof.Proof.Gen.Reference6Ideal.Read
public import Idealize.ShloMosaic.Lib.Pipeline.ValueKit
public import Idealize.ShloMosaic.Lib.Quiescent

/-! The weight gradient of a mixer's output projection. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OutDw

open Cert.Kernel6Ideal Cert.Kernel6Ideal.Gen

theorem idx : ∀ t : Fin cfg0.N, win0_0.index t = ![0, t.val / 2]
    ∧ win0_1.index t = ![0, t.val % 2]
    ∧ win0_2.index t = ![t.val / 2, t.val % 2] :=
  (by decide +kernel : ∀ t : Fin grid0.N, _)

theorem final (m : (ℓ : Loc nD τ sig) → Buf (Elt Ideal) ℓ) (c : Dev nD) : (dats m 0 c).arrAt 2 (cfgs 0).N
    = Cert.Reference6Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference6Ideal.Read.val_main_v6_eq]
  frame_out
  pointwise [k0_pay1]
  refine Finset.sum_congr (M := EReal) rfl fun k _ => (mul_comm (G := EReal) _ _).trans ?_
  blk_point [iblk, V, idx t]

attribute [local instance] Cert.Kernel6.Gen.facts Cert.Kernel6Ideal.Gen.facts Cert.Reference6Ideal.Gen.facts

theorem algebraic : Cert.algebraic_Kernel6Ideal_Reference6Ideal := by
  intro m g m' g' _ same
  refine ⟨fun c => (dats m 0 c).arrAt 2 cfg0.N, Cert.Kernel6Ideal.Value.run_blocks m g,
    (θ_run _ _ _).mono (fun r h c => ⟨(h c).1.trans ?_, (h c).2⟩) (Cert.Reference6Ideal.Value.run m' g')⟩
  rw [(same c).1, (same c).2]
  exact (final m c).symm

theorem defs_eq : @Cert.Kernel6Ideal.defs Bits _ _ = @Cert.Kernel6.defs Bits _ _ := by
  refine congrArg (Pipeline.defs Cert.Kernel6Ideal.pcfgs) (congrArg Defs.onTc (funext fun l => funext fun a => ?_))
  match l, a with
  | 0, (t, s) => rfl

theorem frame_kernel : Cert.quiescent_Kernel6 := fun m ρ _ => by
  have h := Cert.Kernel6Ideal.Gen.frame (F := Bits) m ρ
  rw [defs_eq] at h
  exact h

theorem frame_ideal : Cert.quiescent_Kernel6Ideal := fun m ρ _ => Cert.Kernel6Ideal.Gen.frame m ρ

theorem frame_reference : Cert.quiescent_Reference6Ideal := fun m ρ _ =>
  (θ_run _ _ _).mono (fun r h => ⟨fun c => (h c).2, sem_eq_zero_of_no_sems (by decide) r.2⟩)
    (Cert.Reference6Ideal.Value.run m ρ)

end Cert.OutDw

end
-- ==== Proof.OutDx.lean ====
module

public import proofs.«01_k».proof.Defs
public import proofs.«01_k».proof.Proof.Gen.Kernel7
public import proofs.«01_k».proof.Proof.Gen.Kernel7Ideal.Value
public import proofs.«01_k».proof.Proof.Gen.Reference7Ideal.Read
public import Idealize.ShloMosaic.Lib.Pipeline.ValueKit
public import Idealize.ShloMosaic.Lib.Quiescent

/-! The input gradient of a mixer's output projection. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OutDx

open Cert.Kernel7Ideal Cert.Kernel7Ideal.Gen

theorem idx : ∀ t : Fin cfg0.N, win0_0.index t = ![t.val / 4, 0]
    ∧ win0_1.index t = ![t.val % 4, 0]
    ∧ win0_2.index t = ![t.val / 4, t.val % 4] :=
  (by decide +kernel : ∀ t : Fin grid0.N, _)

theorem final (m : (ℓ : Loc nD τ sig) → Buf (Elt Ideal) ℓ) (c : Dev nD) : (dats m 0 c).arrAt 2 (cfgs 0).N
    = Cert.Reference7Ideal.Read.val_main_v4 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference7Ideal.Read.val_main_v4_eq]
  frame_out
  pointwise [k0_pay1]
  blk_point [iblk, V, idx t]

attribute [local instance] Cert.Kernel7.Gen.facts Cert.Kernel7Ideal.Gen.facts Cert.Reference7Ideal.Gen.facts

theorem algebraic : Cert.algebraic_Kernel7Ideal_Reference7Ideal := by
  intro m g m' g' _ same
  refine ⟨fun c => (dats m 0 c).arrAt 2 cfg0.N, Cert.Kernel7Ideal.Value.run_blocks m g,
    (θ_run _ _ _).mono (fun r h c => ⟨(h c).1.trans ?_, (h c).2⟩) (Cert.Reference7Ideal.Value.run m' g')⟩
  rw [(same c).1, (same c).2]
  exact (final m c).symm

theorem defs_eq : @Cert.Kernel7Ideal.defs Bits _ _ = @Cert.Kernel7.defs Bits _ _ := by
  refine congrArg (Pipeline.defs Cert.Kernel7Ideal.pcfgs) (congrArg Defs.onTc (funext fun l => funext fun a => ?_))
  match l, a with
  | 0, (t, s) => rfl

theorem frame_kernel : Cert.quiescent_Kernel7 := fun m ρ _ => by
  have h := Cert.Kernel7Ideal.Gen.frame (F := Bits) m ρ
  rw [defs_eq] at h
  exact h

theorem frame_ideal : Cert.quiescent_Kernel7Ideal := fun m ρ _ => Cert.Kernel7Ideal.Gen.frame m ρ

theorem frame_reference : Cert.quiescent_Reference7Ideal := fun m ρ _ =>
  (θ_run _ _ _).mono (fun r h => ⟨fun c => (h c).2, sem_eq_zero_of_no_sems (by decide) r.2⟩)
    (Cert.Reference7Ideal.Value.run m ρ)

end Cert.OutDx

end
-- ==== Proof.OdInDw.lean ====
module

public import proofs.«01_k».proof.Defs
public import proofs.«01_k».proof.Proof.Gen.Kernel8
public import proofs.«01_k».proof.Proof.Gen.Kernel8Ideal.Value
public import proofs.«01_k».proof.Proof.Gen.Reference8Ideal.Read
public import Idealize.ShloMosaic.Lib.Pipeline.ValueKit
public import Idealize.ShloMosaic.Lib.Quiescent

/-! The weight gradient of the recurrent mixer's input projection, its output gradient in four quarters. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OdInDw

open Cert.Kernel8Ideal Cert.Kernel8Ideal.Gen

theorem idx : ∀ t : Fin cfg0.N, win0_0.index t = ![0, t.val / 8]
    ∧ win0_1.index t = ![t.val % 8 / 2, 0, t.val % 8 % 2]
    ∧ win0_2.index t = ![t.val / 8, t.val % 8] :=
  (by decide +kernel : ∀ t : Fin grid0.N, _)

theorem final (m : (ℓ : Loc nD τ sig) → Buf (Elt Ideal) ℓ) (c : Dev nD) : (dats m 0 c).arrAt 2 (cfgs 0).N
    = Cert.Reference8Ideal.Read.val_main_v22 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference8Ideal.Read.val_main_v22_eq]
  frame_out
  have e : (((View.whole main_v0).slice (win0_2.rect t)).emb y 1).val = t.val % 8 * 1024 + (y 1).val := by
    blk_point [idx t]
  pointwise [k0_pay1]
  refine Finset.sum_congr (M := EReal) rfl fun k _ => (mul_comm (G := EReal) _ _).trans ?_
  blk_point [iblk, V, idx t] <;> omega

attribute [local instance] Cert.Kernel8.Gen.facts Cert.Kernel8Ideal.Gen.facts Cert.Reference8Ideal.Gen.facts

theorem algebraic : Cert.algebraic_Kernel8Ideal_Reference8Ideal := by
  intro m g m' g' _ same
  refine ⟨fun c => (dats m 0 c).arrAt 2 cfg0.N, Cert.Kernel8Ideal.Value.run_blocks m g,
    (θ_run _ _ _).mono (fun r h c => ⟨(h c).1.trans ?_, (h c).2⟩) (Cert.Reference8Ideal.Value.run m' g')⟩
  rw [(same c).1, (same c).2]
  exact (final m c).symm

theorem defs_eq : @Cert.Kernel8Ideal.defs Bits _ _ = @Cert.Kernel8.defs Bits _ _ := by
  refine congrArg (Pipeline.defs Cert.Kernel8Ideal.pcfgs) (congrArg Defs.onTc (funext fun l => funext fun a => ?_))
  match l, a with
  | 0, (t, s) => rfl

theorem frame_kernel : Cert.quiescent_Kernel8 := fun m ρ _ => by
  have h := Cert.Kernel8Ideal.Gen.frame (F := Bits) m ρ
  rw [defs_eq] at h
  exact h

theorem frame_ideal : Cert.quiescent_Kernel8Ideal := fun m ρ _ => Cert.Kernel8Ideal.Gen.frame m ρ

theorem frame_reference : Cert.quiescent_Reference8Ideal := fun m ρ _ =>
  (θ_run _ _ _).mono (fun r h => ⟨fun c => (h c).2, sem_eq_zero_of_no_sems (by decide) r.2⟩)
    (Cert.Reference8Ideal.Value.run m ρ)

end Cert.OdInDw

end
-- ==== Proof.OdInDx.lean ====
module

public import proofs.«01_k».proof.Defs
public import proofs.«01_k».proof.Proof.Gen.Kernel9
public import proofs.«01_k».proof.Proof.Gen.Kernel9Ideal.Value
public import proofs.«01_k».proof.Proof.Gen.Reference9Ideal.Read
public import Idealize.ShloMosaic.Lib.Pipeline.ValueKit
public import Idealize.ShloMosaic.Lib.Quiescent

/-! The input gradient of the recurrent mixer's input projection, with the residual gradient added; its output gradient comes in four quarters and the product is accumulated over four points. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OdInDx

open Cert.Kernel9Ideal Cert.Kernel9Ideal.Gen

theorem idx : ∀ t : Fin cfg0.N, win0_0.index t = ![t.val % 4, t.val / 16, 0]
    ∧ win0_1.index t = ![t.val / 4 % 4, t.val % 4]
    ∧ win0_2.index t = ![t.val / 16, t.val / 4 % 4]
    ∧ win0_3.index t = ![t.val / 16, t.val / 4 % 4] :=
  (by decide +kernel : ∀ t : Fin grid0.N, _)

theorem zero (j) : k0_pay1 (F := Ideal) j = 0 := by pointwise [k0_pay1]

theorem step (acc : FVec Ideal S1024x512 .f32) (x0 : FVec Ideal S1x1024x2048 .bf16) (x1 : FVec Ideal S512x2048 .bf16) (j) :
    k0_pay2 acc x0 x1 j = acc j + ∑ k : Fin 2048, x0 (ix3 0 (j 0) k) * x1 (ix2 (j 1) k) := by pointwise [k0_pay2]

theorem last (acc x2 : FVec Ideal S1024x512 .f32) (j) :
    k0_pay3 acc x2 j = acc j + Ideal.ofBits .f32 0x3FB504F3#32 * x2 j := by pointwise [k0_pay3]

theorem final (m : (ℓ : Loc nD τ sig) → Buf (Elt Ideal) ℓ) (c : Dev nD) : (dats m 0 c).arrAt 3 (cfgs 0).N
    = Cert.Reference9Ideal.Read.val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h3 : t.val % 4 = 3 := (flush0_3 t).mp hf
  have h0 : ¬ t.val % 4 = 0 := by omega
  have hout : (outsAt0 m c t.val t.isLt).1 y = (outsAt0 m c t.val t.isLt).2 y + Ideal.ofBits .f32 0x3FB504F3#32 * iblk m c 2 t y := by
    rw [outsAt0_C m c t h0 h3]; frame_out; rw [last]
  blk_simp
  rw [after0_3]
  refine hout.trans ?_
  rw [Pipeline.eq_sum_fin_of_reset_step_apply_of_flush (fun n h => (outsAt0 m c n h).2) 4 (fun _ => 0)
    (fun p j => ∑ k : Fin 2048, (show FVec Ideal S1x1024x2048 .bf16 from iblk m c 0 p) (ix3 0 (j 0) k) * (show FVec Ideal S512x2048 .bf16 from iblk m c 1 p) (ix2 (j 1) k))
    (fun t h j => by rw [outsAt0_A m c t h (by omega)]; frame_out; rw [step, zero])
    (fun t h j => by
      by_cases h' : t.val % 4 = 3
      · rw [outsAt0_C m c t h h']; frame_out; rw [step, (Memref.isWhole_whole cc0_scratch0).read_unread]
      · rw [outsAt0_B m c t h h']; frame_out; rw [step, (Memref.isWhole_whole cc0_scratch0).read_unread])
    t h3 y, zero_add, ← Cert.Reference9Ideal.Read.val_main_v25_eq]
  pointwise
  refine congrArg₂ (fun a b : EReal => a + b) (Fin.sum_mul_add_congr fun s k hl => ?_) ?_
  · generalize hq : (⟨s.val * 2048 + k.val, hl⟩ : Fin 8192) = q
    have hv : q.val = s.val * 2048 + k.val := by rw [← hq]
    blk_point [iblk, V, idx t, idx ⟨_, Pipeline.run_point_lt_of_flush t h3 s⟩] <;> omega
  · blk_point [iblk, V, idx t]

attribute [local instance] Cert.Kernel9.Gen.facts Cert.Kernel9Ideal.Gen.facts Cert.Reference9Ideal.Gen.facts

theorem algebraic : Cert.algebraic_Kernel9Ideal_Reference9Ideal := by
  intro m g m' g' _ same
  refine ⟨fun c => (dats m 0 c).arrAt 3 cfg0.N, Cert.Kernel9Ideal.Value.run_blocks m g,
    (θ_run _ _ _).mono (fun r h c => ⟨(h c).1.trans ?_, (h c).2⟩) (Cert.Reference9Ideal.Value.run m' g')⟩
  rw [(same c).1, (same c).2.1, (same c).2.2]
  exact (final m c).symm

theorem defs_eq : @Cert.Kernel9Ideal.defs Bits _ _ = @Cert.Kernel9.defs Bits _ _ := by
  refine congrArg (Pipeline.defs Cert.Kernel9Ideal.pcfgs) (congrArg Defs.onTc (funext fun l => funext fun a => ?_))
  match l, a with
  | 0, (t, s) => rfl

theorem frame_kernel : Cert.quiescent_Kernel9 := fun m ρ _ => by
  have h := Cert.Kernel9Ideal.Gen.frame (F := Bits) m ρ
  rw [defs_eq] at h
  exact h

theorem frame_ideal : Cert.quiescent_Kernel9Ideal := fun m ρ _ => Cert.Kernel9Ideal.Gen.frame m ρ

theorem frame_reference : Cert.quiescent_Reference9Ideal := fun m ρ _ =>
  (θ_run _ _ _).mono (fun r h => ⟨fun c => (h c).2, sem_eq_zero_of_no_sems (by decide) r.2⟩)
    (Cert.Reference9Ideal.Value.run m ρ)

end Cert.OdInDx

end
-- ==== Proof.EvInDw.lean ====
module

public import proofs.«01_k».proof.Defs
public import proofs.«01_k».proof.Proof.Gen.Kernel10
public import proofs.«01_k».proof.Proof.Gen.Kernel10Ideal.Value
public import proofs.«01_k».proof.Proof.Gen.Reference10Ideal.Read
public import Idealize.ShloMosaic.Lib.Pipeline.ValueKit
public import Idealize.ShloMosaic.Lib.Quiescent

/-! The weight gradient of the even mixer's input projection. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.EvInDw

open Cert.Kernel10Ideal Cert.Kernel10Ideal.Gen

theorem idx : ∀ t : Fin cfg0.N, win0_0.index t = ![0, t.val / 3]
    ∧ win0_1.index t = ![0, t.val % 3]
    ∧ win0_2.index t = ![t.val / 3, t.val % 3] :=
  (by decide +kernel : ∀ t : Fin grid0.N, _)

theorem final (m : (ℓ : Loc nD τ sig) → Buf (Elt Ideal) ℓ) (c : Dev nD) : (dats m 0 c).arrAt 2 (cfgs 0).N
    = Cert.Reference10Ideal.Read.val_main_v6 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference10Ideal.Read.val_main_v6_eq]
  frame_out
  pointwise [k0_pay1]
  refine Finset.sum_congr (M := EReal) rfl fun k _ => (mul_comm (G := EReal) _ _).trans ?_
  blk_point [iblk, V, idx t]

attribute [local instance] Cert.Kernel10.Gen.facts Cert.Kernel10Ideal.Gen.facts Cert.Reference10Ideal.Gen.facts

theorem algebraic : Cert.algebraic_Kernel10Ideal_Reference10Ideal := by
  intro m g m' g' _ same
  refine ⟨fun c => (dats m 0 c).arrAt 2 cfg0.N, Cert.Kernel10Ideal.Value.run_blocks m g,
    (θ_run _ _ _).mono (fun r h c => ⟨(h c).1.trans ?_, (h c).2⟩) (Cert.Reference10Ideal.Value.run m' g')⟩
  rw [(same c).1, (same c).2]
  exact (final m c).symm

theorem defs_eq : @Cert.Kernel10Ideal.defs Bits _ _ = @Cert.Kernel10.defs Bits _ _ := by
  refine congrArg (Pipeline.defs Cert.Kernel10Ideal.pcfgs) (congrArg Defs.onTc (funext fun l => funext fun a => ?_))
  match l, a with
  | 0, (t, s) => rfl

theorem frame_kernel : Cert.quiescent_Kernel10 := fun m ρ _ => by
  have h := Cert.Kernel10Ideal.Gen.frame (F := Bits) m ρ
  rw [defs_eq] at h
  exact h

theorem frame_ideal : Cert.quiescent_Kernel10Ideal := fun m ρ _ => Cert.Kernel10Ideal.Gen.frame m ρ

theorem frame_reference : Cert.quiescent_Reference10Ideal := fun m ρ _ =>
  (θ_run _ _ _).mono (fun r h => ⟨fun c => (h c).2, sem_eq_zero_of_no_sems (by decide) r.2⟩)
    (Cert.Reference10Ideal.Value.run m ρ)

end Cert.EvInDw

end
-- ==== Proof.EvInDx.lean ====
module

public import proofs.«01_k».proof.Defs
public import proofs.«01_k».proof.Proof.Gen.Kernel11
public import proofs.«01_k».proof.Proof.Gen.Kernel11Ideal.Value
public import proofs.«01_k».proof.Proof.Gen.Reference11Ideal.Read
public import Idealize.ShloMosaic.Lib.Pipeline.ValueKit
public import Idealize.ShloMosaic.Lib.Quiescent

/-! The input gradient of the even mixer's input projection, with the residual gradient added. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.EvInDx

open Cert.Kernel11Ideal Cert.Kernel11Ideal.Gen

theorem idx : ∀ t : Fin cfg0.N, win0_0.index t = ![t.val / 4, 0]
    ∧ win0_1.index t = ![t.val % 4, 0]
    ∧ win0_2.index t = ![t.val / 4, t.val % 4]
    ∧ win0_3.index t = ![t.val / 4, t.val % 4] :=
  (by decide +kernel : ∀ t : Fin grid0.N, _)

theorem final (m : (ℓ : Loc nD τ sig) → Buf (Elt Ideal) ℓ) (c : Dev nD) : (dats m 0 c).arrAt 3 (cfgs 0).N
    = Cert.Reference11Ideal.Read.val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, ← Cert.Reference11Ideal.Read.val_main_v9_eq]
  frame_out
  pointwise [k0_pay1]
  blk_point [iblk, V, idx t]

attribute [local instance] Cert.Kernel11.Gen.facts Cert.Kernel11Ideal.Gen.facts Cert.Reference11Ideal.Gen.facts

theorem algebraic : Cert.algebraic_Kernel11Ideal_Reference11Ideal := by
  intro m g m' g' _ same
  refine ⟨fun c => (dats m 0 c).arrAt 3 cfg0.N, Cert.Kernel11Ideal.Value.run_blocks m g,
    (θ_run _ _ _).mono (fun r h c => ⟨(h c).1.trans ?_, (h c).2⟩) (Cert.Reference11Ideal.Value.run m' g')⟩
  rw [(same c).1, (same c).2.1, (same c).2.2]
  exact (final m c).symm

theorem defs_eq : @Cert.Kernel11Ideal.defs Bits _ _ = @Cert.Kernel11.defs Bits _ _ := by
  refine congrArg (Pipeline.defs Cert.Kernel11Ideal.pcfgs) (congrArg Defs.onTc (funext fun l => funext fun a => ?_))
  match l, a with
  | 0, (t, s) => rfl

theorem frame_kernel : Cert.quiescent_Kernel11 := fun m ρ _ => by
  have h := Cert.Kernel11Ideal.Gen.frame (F := Bits) m ρ
  rw [defs_eq] at h
  exact h

theorem frame_ideal : Cert.quiescent_Kernel11Ideal := fun m ρ _ => Cert.Kernel11Ideal.Gen.frame m ρ

theorem frame_reference : Cert.quiescent_Reference11Ideal := fun m ρ _ =>
  (θ_run _ _ _).mono (fun r h => ⟨fun c => (h c).2, sem_eq_zero_of_no_sems (by decide) r.2⟩)
    (Cert.Reference11Ideal.Value.run m ρ)

end Cert.EvInDx

end
-- ==== Proof.UpFwd.lean ====
module

public import proofs.«01_k».proof.Defs
public import proofs.«01_k».proof.Proof.Gen.Kernel12
public import proofs.«01_k».proof.Proof.Gen.Kernel12Ideal.Value
public import proofs.«01_k».proof.Proof.Gen.Reference12Ideal.Read
public import Idealize.ShloMosaic.Lib.Pipeline.ValueKit
public import Idealize.ShloMosaic.Lib.Quiescent

/-! The feed-forward up projection, its output in two halves. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.UpFwd

open Cert.Kernel12Ideal Cert.Kernel12Ideal.Gen

theorem idx : ∀ t : Fin cfg0.N, win0_0.index t = ![t.val / 22, 0]
    ∧ win0_1.index t = ![0, t.val % 22]
    ∧ win0_2.index t = ![t.val % 22 / 11, t.val / 22, t.val % 22 % 11] :=
  (by decide +kernel : ∀ t : Fin grid0.N, _)

theorem final (m : (ℓ : Loc nD τ sig) → Buf (Elt Ideal) ℓ) (c : Dev nD) : (dats m 0 c).arrAt 2 (cfgs 0).N
    = Cert.Reference12Ideal.Read.val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference12Ideal.Read.val_main_v7_eq]
  frame_out
  have e : (((View.whole main_v0).slice (win0_2.rect t)).emb y 0).val = t.val % 22 / 11 + (y 0).val := by
    blk_point [idx t]
  pointwise [k0_pay1]
  blk_point [iblk, V, idx t] <;> omega

attribute [local instance] Cert.Kernel12.Gen.facts Cert.Kernel12Ideal.Gen.facts Cert.Reference12Ideal.Gen.facts

theorem algebraic : Cert.algebraic_Kernel12Ideal_Reference12Ideal := by
  intro m g m' g' _ same
  refine ⟨fun c => (dats m 0 c).arrAt 2 cfg0.N, Cert.Kernel12Ideal.Value.run_blocks m g,
    (θ_run _ _ _).mono (fun r h c => ⟨(h c).1.trans ?_, (h c).2⟩) (Cert.Reference12Ideal.Value.run m' g')⟩
  rw [(same c).1, (same c).2]
  exact (final m c).symm

theorem defs_eq : @Cert.Kernel12Ideal.defs Bits _ _ = @Cert.Kernel12.defs Bits _ _ := by
  refine congrArg (Pipeline.defs Cert.Kernel12Ideal.pcfgs) (congrArg Defs.onTc (funext fun l => funext fun a => ?_))
  match l, a with
  | 0, (t, s) => rfl

theorem frame_kernel : Cert.quiescent_Kernel12 := fun m ρ _ => by
  have h := Cert.Kernel12Ideal.Gen.frame (F := Bits) m ρ
  rw [defs_eq] at h
  exact h

theorem frame_ideal : Cert.quiescent_Kernel12Ideal := fun m ρ _ => Cert.Kernel12Ideal.Gen.frame m ρ

theorem frame_reference : Cert.quiescent_Reference12Ideal := fun m ρ _ =>
  (θ_run _ _ _).mono (fun r h => ⟨fun c => (h c).2, sem_eq_zero_of_no_sems (by decide) r.2⟩)
    (Cert.Reference12Ideal.Value.run m ρ)

end Cert.UpFwd

end
-- ==== Proof.OutStep.lean ====
module

public import proofs.«01_k».proof.Defs
public import proofs.«01_k».proof.Proof.Gen.Kernel13
public import proofs.«01_k».proof.Proof.Gen.Kernel13Ideal.Frame
public import proofs.«01_k».proof.Proof.Gen.Reference13Ideal.Read
public import Idealize.ShloMosaic.Lib.Pipeline.ValueKit
public import Idealize.ShloMosaic.Lib.Quiescent

/-! The optimiser's step of the mixers' output weights, which the devices share by rows. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OutStep

open Cert.Kernel13Ideal Cert.Kernel13Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![t.val, 0]
    ∧ (pcfg0.win a (3 : Fin (cfg0 a).W)).index t = ![t.val, 0] ∧ (pcfg0.win a (4 : Fin (cfg0 a).W)).index t = ![t.val, 0] ∧ (pcfg0.win a (5 : Fin (cfg0 a).W)).index t = ![t.val, 0]
    ∧ (pcfg0.win a (6 : Fin (cfg0 a).W)).index t = ![t.val, 0] ∧ (pcfg0.win a (7 : Fin (cfg0 a).W)).index t = ![t.val, 0] ∧ (pcfg0.win a (8 : Fin (cfg0 a).W)).index t = ![t.val, 0] := by
  subst h
  decide +kernel

theorem covers (a : (pcfg0 (F := Ideal)).Adm) (h : a = ⟨zero, zero_ok⟩) : ((cfg0 a).win 5).Covers ∧ ((cfg0 a).win 6).Covers
    ∧ ((cfg0 a).win 7).Covers ∧ ((cfg0 a).win 8).Covers := by
  subst h
  decide +kernel

variable (m : (ℓ : Loc nD τ sig) → Buf (Elt Ideal) ℓ) (c : Dev nD)

def own (t : Fin (cfgM m (ok m)).N) : Vec Ideal S256x2048 .bf16 := iblk m (ok m) c 0 t
def land (t : Fin (cfgM m (ok m)).N) : Vec Ideal S7x256x2048 .bf16 := iblk m (ok m) c 1 t
def weight (t : Fin (cfgM m (ok m)).N) : Vec Ideal S256x2048 .f32 := iblk m (ok m) c 2 t
def mean (t : Fin (cfgM m (ok m)).N) : Vec Ideal S256x2048 .f32 := iblk m (ok m) c 3 t
def square (t : Fin (cfgM m (ok m)).N) : Vec Ideal S256x2048 .f32 := iblk m (ok m) c 4 t

def total (t : Fin (cfgM m (ok m)).N) : Vec Ideal S256x2048 .f32 := fun y =>
  own m c t y + ∑ x, land m c t (ix3 x (y 0) (y 1))

theorem sum_eq (x0 : Vec Ideal S256x2048 .bf16) (x1 : Vec Ideal S7x256x2048 .bf16) :
    k0_pay4 x0 (View.ld x1 (Rect.unit ![0, 0, 0] ![1, 256, 2048] inb_S7x256x2048_S1x256x2048_0_0_0))
      (View.ld x1 (Rect.unit ![1, 0, 0] ![1, 256, 2048] inb_S7x256x2048_S1x256x2048_1_0_0))
      (View.ld x1 (Rect.unit ![2, 0, 0] ![1, 256, 2048] inb_S7x256x2048_S1x256x2048_2_0_0))
      (View.ld x1 (Rect.unit ![3, 0, 0] ![1, 256, 2048] inb_S7x256x2048_S1x256x2048_3_0_0))
      (View.ld x1 (Rect.unit ![4, 0, 0] ![1, 256, 2048] inb_S7x256x2048_S1x256x2048_4_0_0))
      (View.ld x1 (Rect.unit ![5, 0, 0] ![1, 256, 2048] inb_S7x256x2048_S1x256x2048_5_0_0))
      (View.ld x1 (Rect.unit ![6, 0, 0] ![1, 256, 2048] inb_S7x256x2048_S1x256x2048_6_0_0))
      = fun y => x0 y + ∑ x, x1 (ix3 x (y 0) (y 1)) := by
  funext y
  pointwise [k0_pay4]
  rw [Fin.sum_univ_seven]
  simp only [add_assoc (G := EReal)]

theorem outs (t : Fin (cfgM m (ok m)).N) : outsAt0 m (ok m) c t =
    (total m c t, k0_pay3 (total m c t) (k0_pay5 (mean m c t)) (square m c t) (weight m c t),
      k0_pay1 (total m c t) (k0_pay5 (mean m c t)), k0_pay2 (total m c t) (square m c t)) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S256x2048 .bf16 at x0
  change Vec Ideal S7x256x2048 .bf16 at x1
  change Vec Ideal S256x2048 .f32 at x2 x3 x4
  frame_out
  rw [sum_eq]

theorem gradient : (dats m (ok m) 0 c).arrAt 5 (cfgM m (ok m)).N
    = Cert.Reference13Ideal.Read.val_main_v4 (F := Ideal) (m ((c : Thread nD τ).loc main_arg0)) (m ((c : Thread nD τ).loc main_arg1)) := by
  refine (dats m (ok m) 0 c).arrAt_eq_of_covers 5 _ (covers _ (adm_eq m)).1 fun t _ y => ?_
  blk_simp
  rw [after0_5, outs, ← Cert.Reference13Ideal.Read.val_main_v4_eq]
  pointwise
  simp only [total, own, land]
  blk_point [iblk, V, idx _ (adm_eq m) t]

theorem step : (dats m (ok m) 0 c).arrAt 6 (cfgM m (ok m)).N
    = Cert.Reference13Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (covers _ (adm_eq m)).2.1 fun t _ y => ?_
  blk_simp
  rw [after0_6, outs, ← Cert.Reference13Ideal.Read.val_main_v28_eq]
  pointwise [k0_pay1, k0_pay2, k0_pay3, k0_pay5]
  simp only [total, own, land, weight, mean, square]
  blk_point [iblk, V, idx _ (adm_eq m) t]

theorem new_mean : (dats m (ok m) 0 c).arrAt 7 (cfgM m (ok m)).N
    = Cert.Reference13Ideal.Read.val_main_v9 (F := Ideal) (m ((c : Thread nD τ).loc main_arg0)) (m ((c : Thread nD τ).loc main_arg1)) (m ((c : Thread nD τ).loc main_arg3)) := by
  refine (dats m (ok m) 0 c).arrAt_eq_of_covers 7 _ (covers _ (adm_eq m)).2.2.1 fun t _ y => ?_
  blk_simp
  rw [after0_7, outs, ← Cert.Reference13Ideal.Read.val_main_v9_eq]
  pointwise [k0_pay1, k0_pay2, k0_pay3, k0_pay5]
  simp only [total, own, land, weight, mean, square]
  blk_point [iblk, V, idx _ (adm_eq m) t]

theorem new_square : (dats m (ok m) 0 c).arrAt 8 (cfgM m (ok m)).N
    = Cert.Reference13Ideal.Read.val_main_v15 (F := Ideal) (m ((c : Thread nD τ).loc main_arg0)) (m ((c : Thread nD τ).loc main_arg1)) (m ((c : Thread nD τ).loc main_arg4)) := by
  refine (dats m (ok m) 0 c).arrAt_eq_of_covers 8 _ (covers _ (adm_eq m)).2.2.2 fun t _ y => ?_
  blk_simp
  rw [after0_8, outs, ← Cert.Reference13Ideal.Read.val_main_v15_eq]
  pointwise [k0_pay1, k0_pay2, k0_pay3, k0_pay5]
  simp only [total, own, land, weight, mean, square]
  blk_point [iblk, V, idx _ (adm_eq m) t]

attribute [local instance] Cert.Kernel13.Gen.facts Cert.Kernel13Ideal.Gen.facts Cert.Reference13Ideal.Gen.facts

theorem algebraic : Cert.algebraic_Kernel13Ideal_Reference13Ideal := by
  intro m g m' g' _ same
  refine ⟨fun c => (dats m (ok m) 0 c).arrAt 5 (cfgM m (ok m)).N, fun c => (dats m (ok m) 0 c).arrAt 6 (cfgM m (ok m)).N,
    fun c => (dats m (ok m) 0 c).arrAt 7 (cfgM m (ok m)).N, fun c => (dats m (ok m) 0 c).arrAt 8 (cfgM m (ok m)).N,
    (θ_run _ _ _).mono (fun r h c => ⟨(h.1 c).1 5, (h.1 c).1 6, (h.1 c).1 7, (h.1 c).1 8, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference13Ideal.Value.run m' g')⟩
  all_goals rw [(same c).1, (same c).2.1]
  · exact (gradient m c).symm
  · rw [(same c).2.2.1, (same c).2.2.2.1, (same c).2.2.2.2]; exact (step m c).symm
  · rw [(same c).2.2.2.1]; exact (new_mean m c).symm
  · rw [(same c).2.2.2.2]; exact (new_square m c).symm

theorem defs_eq : @Cert.Kernel13Ideal.defs Bits _ _ = @Cert.Kernel13.defs Bits _ _ := by
  refine congrArg (Pipeline.defs Cert.Kernel13Ideal.pcfgs) (congrArg Defs.onTc (funext fun l => funext fun a => ?_))
  match l, a with
  | 0, (t, s) => rfl

theorem frame_kernel : Cert.quiescent_Kernel13 := fun m ρ _ => by
  have h := Cert.Kernel13Ideal.Gen.frame (F := Bits) m ρ (ok m)
  rw [defs_eq] at h
  exact h

theorem frame_ideal : Cert.quiescent_Kernel13Ideal := fun m ρ _ => Cert.Kernel13Ideal.Gen.frame m ρ (ok m)

theorem frame_reference : Cert.quiescent_Reference13Ideal := fun m ρ _ =>
  (θ_run _ _ _).mono (fun r h => ⟨fun c => (h c).2.2.2.2, sem_eq_zero_of_no_sems (by decide) r.2⟩)
    (Cert.Reference13Ideal.Value.run m ρ)

end Cert.OutStep

end
-- ==== Proof.OdInStep.lean ====
module

public import proofs.«01_k».proof.Defs
public import proofs.«01_k».proof.Proof.Gen.Kernel14
public import proofs.«01_k».proof.Proof.Gen.Kernel14Ideal.Frame
public import proofs.«01_k».proof.Proof.Gen.Reference14Ideal.Read
public import Idealize.ShloMosaic.Lib.Pipeline.ValueKit
public import Idealize.ShloMosaic.Lib.Quiescent

/-! The optimiser's step of the odd mixer's projection, which the devices share by columns. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OdInStep

open Cert.Kernel14Ideal Cert.Kernel14Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![t.val, 0]
    ∧ (pcfg0.win a (3 : Fin (cfg0 a).W)).index t = ![t.val, 0] ∧ (pcfg0.win a (4 : Fin (cfg0 a).W)).index t = ![t.val, 0] ∧ (pcfg0.win a (5 : Fin (cfg0 a).W)).index t = ![t.val, 0]
    ∧ (pcfg0.win a (6 : Fin (cfg0 a).W)).index t = ![t.val, 0] ∧ (pcfg0.win a (7 : Fin (cfg0 a).W)).index t = ![t.val, 0] ∧ (pcfg0.win a (8 : Fin (cfg0 a).W)).index t = ![t.val, 0] := by
  subst h
  decide +kernel

theorem covers (a : (pcfg0 (F := Ideal)).Adm) (h : a = ⟨zero, zero_ok⟩) : ((cfg0 a).win 5).Covers ∧ ((cfg0 a).win 6).Covers
    ∧ ((cfg0 a).win 7).Covers ∧ ((cfg0 a).win 8).Covers := by
  subst h
  decide +kernel

variable (m : (ℓ : Loc nD τ sig) → Buf (Elt Ideal) ℓ) (c : Dev nD)

def own (t : Fin (cfgM m (ok m)).N) : Vec Ideal S256x1024 .bf16 := iblk m (ok m) c 0 t
def land (t : Fin (cfgM m (ok m)).N) : Vec Ideal S7x256x1024 .bf16 := iblk m (ok m) c 1 t
def weight (t : Fin (cfgM m (ok m)).N) : Vec Ideal S256x1024 .f32 := iblk m (ok m) c 2 t
def mean (t : Fin (cfgM m (ok m)).N) : Vec Ideal S256x1024 .f32 := iblk m (ok m) c 3 t
def square (t : Fin (cfgM m (ok m)).N) : Vec Ideal S256x1024 .f32 := iblk m (ok m) c 4 t

def total (t : Fin (cfgM m (ok m)).N) : Vec Ideal S256x1024 .f32 := fun y =>
  own m c t y + ∑ x, land m c t (ix3 x (y 0) (y 1))

theorem sum_eq (x0 : Vec Ideal S256x1024 .bf16) (x1 : Vec Ideal S7x256x1024 .bf16) :
    k0_pay4 x0 (View.ld x1 (Rect.unit ![0, 0, 0] ![1, 256, 1024] inb_S7x256x1024_S1x256x1024_0_0_0))
      (View.ld x1 (Rect.unit ![1, 0, 0] ![1, 256, 1024] inb_S7x256x1024_S1x256x1024_1_0_0))
      (View.ld x1 (Rect.unit ![2, 0, 0] ![1, 256, 1024] inb_S7x256x1024_S1x256x1024_2_0_0))
      (View.ld x1 (Rect.unit ![3, 0, 0] ![1, 256, 1024] inb_S7x256x1024_S1x256x1024_3_0_0))
      (View.ld x1 (Rect.unit ![4, 0, 0] ![1, 256, 1024] inb_S7x256x1024_S1x256x1024_4_0_0))
      (View.ld x1 (Rect.unit ![5, 0, 0] ![1, 256, 1024] inb_S7x256x1024_S1x256x1024_5_0_0))
      (View.ld x1 (Rect.unit ![6, 0, 0] ![1, 256, 1024] inb_S7x256x1024_S1x256x1024_6_0_0))
      = fun y => x0 y + ∑ x, x1 (ix3 x (y 0) (y 1)) := by
  funext y
  pointwise [k0_pay4]
  rw [Fin.sum_univ_seven]
  simp only [add_assoc (G := EReal)]

theorem outs (t : Fin (cfgM m (ok m)).N) : outsAt0 m (ok m) c t =
    (total m c t, k0_pay3 (total m c t) (k0_pay5 (mean m c t)) (square m c t) (weight m c t),
      k0_pay1 (total m c t) (k0_pay5 (mean m c t)), k0_pay2 (total m c t) (square m c t)) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S256x1024 .bf16 at x0
  change Vec Ideal S7x256x1024 .bf16 at x1
  change Vec Ideal S256x1024 .f32 at x2 x3 x4
  frame_out
  rw [sum_eq]

theorem gradient : (dats m (ok m) 0 c).arrAt 5 (cfgM m (ok m)).N
    = Cert.Reference14Ideal.Read.val_main_v4 (F := Ideal) (m ((c : Thread nD τ).loc main_arg0)) (m ((c : Thread nD τ).loc main_arg1)) := by
  refine (dats m (ok m) 0 c).arrAt_eq_of_covers 5 _ (covers _ (adm_eq m)).1 fun t _ y => ?_
  blk_simp
  rw [after0_5, outs, ← Cert.Reference14Ideal.Read.val_main_v4_eq]
  pointwise
  simp only [total, own, land]
  blk_point [iblk, V, idx _ (adm_eq m) t]

theorem step : (dats m (ok m) 0 c).arrAt 6 (cfgM m (ok m)).N
    = Cert.Reference14Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (covers _ (adm_eq m)).2.1 fun t _ y => ?_
  blk_simp
  rw [after0_6, outs, ← Cert.Reference14Ideal.Read.val_main_v28_eq]
  pointwise [k0_pay1, k0_pay2, k0_pay3, k0_pay5]
  simp only [total, own, land, weight, mean, square]
  blk_point [iblk, V, idx _ (adm_eq m) t]

theorem new_mean : (dats m (ok m) 0 c).arrAt 7 (cfgM m (ok m)).N
    = Cert.Reference14Ideal.Read.val_main_v9 (F := Ideal) (m ((c : Thread nD τ).loc main_arg0)) (m ((c : Thread nD τ).loc main_arg1)) (m ((c : Thread nD τ).loc main_arg3)) := by
  refine (dats m (ok m) 0 c).arrAt_eq_of_covers 7 _ (covers _ (adm_eq m)).2.2.1 fun t _ y => ?_
  blk_simp
  rw [after0_7, outs, ← Cert.Reference14Ideal.Read.val_main_v9_eq]
  pointwise [k0_pay1, k0_pay2, k0_pay3, k0_pay5]
  simp only [total, own, land, weight, mean, square]
  blk_point [iblk, V, idx _ (adm_eq m) t]

theorem new_square : (dats m (ok m) 0 c).arrAt 8 (cfgM m (ok m)).N
    = Cert.Reference14Ideal.Read.val_main_v15 (F := Ideal) (m ((c : Thread nD τ).loc main_arg0)) (m ((c : Thread nD τ).loc main_arg1)) (m ((c : Thread nD τ).loc main_arg4)) := by
  refine (dats m (ok m) 0 c).arrAt_eq_of_covers 8 _ (covers _ (adm_eq m)).2.2.2 fun t _ y => ?_
  blk_simp
  rw [after0_8, outs, ← Cert.Reference14Ideal.Read.val_main_v15_eq]
  pointwise [k0_pay1, k0_pay2, k0_pay3, k0_pay5]
  simp only [total, own, land, weight, mean, square]
  blk_point [iblk, V, idx _ (adm_eq m) t]

attribute [local instance] Cert.Kernel14.Gen.facts Cert.Kernel14Ideal.Gen.facts Cert.Reference14Ideal.Gen.facts

theorem algebraic : Cert.algebraic_Kernel14Ideal_Reference14Ideal := by
  intro m g m' g' _ same
  refine ⟨fun c => (dats m (ok m) 0 c).arrAt 5 (cfgM m (ok m)).N, fun c => (dats m (ok m) 0 c).arrAt 6 (cfgM m (ok m)).N,
    fun c => (dats m (ok m) 0 c).arrAt 7 (cfgM m (ok m)).N, fun c => (dats m (ok m) 0 c).arrAt 8 (cfgM m (ok m)).N,
    (θ_run _ _ _).mono (fun r h c => ⟨(h.1 c).1 5, (h.1 c).1 6, (h.1 c).1 7, (h.1 c).1 8, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference14Ideal.Value.run m' g')⟩
  all_goals rw [(same c).1, (same c).2.1]
  · exact (gradient m c).symm
  · rw [(same c).2.2.1, (same c).2.2.2.1, (same c).2.2.2.2]; exact (step m c).symm
  · rw [(same c).2.2.2.1]; exact (new_mean m c).symm
  · rw [(same c).2.2.2.2]; exact (new_square m c).symm

theorem defs_eq : @Cert.Kernel14Ideal.defs Bits _ _ = @Cert.Kernel14.defs Bits _ _ := by
  refine congrArg (Pipeline.defs Cert.Kernel14Ideal.pcfgs) (congrArg Defs.onTc (funext fun l => funext fun a => ?_))
  match l, a with
  | 0, (t, s) => rfl

theorem frame_kernel : Cert.quiescent_Kernel14 := fun m ρ _ => by
  have h := Cert.Kernel14Ideal.Gen.frame (F := Bits) m ρ (ok m)
  rw [defs_eq] at h
  exact h

theorem frame_ideal : Cert.quiescent_Kernel14Ideal := fun m ρ _ => Cert.Kernel14Ideal.Gen.frame m ρ (ok m)

theorem frame_reference : Cert.quiescent_Reference14Ideal := fun m ρ _ =>
  (θ_run _ _ _).mono (fun r h => ⟨fun c => (h c).2.2.2.2, sem_eq_zero_of_no_sems (by decide) r.2⟩)
    (Cert.Reference14Ideal.Value.run m ρ)

end Cert.OdInStep

end
-- ==== Proof.EvInStep.lean ====
module

public import proofs.«01_k».proof.Defs
public import proofs.«01_k».proof.Proof.Gen.Kernel15
public import proofs.«01_k».proof.Proof.Gen.Kernel15Ideal.Frame
public import proofs.«01_k».proof.Proof.Gen.Reference15Ideal.Read
public import Idealize.ShloMosaic.Lib.Pipeline.ValueKit
public import Idealize.ShloMosaic.Lib.Quiescent

/-! The optimiser's step of the even mixer's projection, which the devices share by columns. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.EvInStep

open Cert.Kernel15Ideal Cert.Kernel15Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![t.val, 0]
    ∧ (pcfg0.win a (3 : Fin (cfg0 a).W)).index t = ![t.val, 0] ∧ (pcfg0.win a (4 : Fin (cfg0 a).W)).index t = ![t.val, 0] ∧ (pcfg0.win a (5 : Fin (cfg0 a).W)).index t = ![t.val, 0]
    ∧ (pcfg0.win a (6 : Fin (cfg0 a).W)).index t = ![t.val, 0] ∧ (pcfg0.win a (7 : Fin (cfg0 a).W)).index t = ![t.val, 0] ∧ (pcfg0.win a (8 : Fin (cfg0 a).W)).index t = ![t.val, 0] := by
  subst h
  decide +kernel

theorem covers (a : (pcfg0 (F := Ideal)).Adm) (h : a = ⟨zero, zero_ok⟩) : ((cfg0 a).win 5).Covers ∧ ((cfg0 a).win 6).Covers
    ∧ ((cfg0 a).win 7).Covers ∧ ((cfg0 a).win 8).Covers := by
  subst h
  decide +kernel

variable (m : (ℓ : Loc nD τ sig) → Buf (Elt Ideal) ℓ) (c : Dev nD)

def own (t : Fin (cfgM m (ok m)).N) : Vec Ideal S256x384 .bf16 := iblk m (ok m) c 0 t
def land (t : Fin (cfgM m (ok m)).N) : Vec Ideal S7x256x384 .bf16 := iblk m (ok m) c 1 t
def weight (t : Fin (cfgM m (ok m)).N) : Vec Ideal S256x384 .f32 := iblk m (ok m) c 2 t
def mean (t : Fin (cfgM m (ok m)).N) : Vec Ideal S256x384 .f32 := iblk m (ok m) c 3 t
def square (t : Fin (cfgM m (ok m)).N) : Vec Ideal S256x384 .f32 := iblk m (ok m) c 4 t

def total (t : Fin (cfgM m (ok m)).N) : Vec Ideal S256x384 .f32 := fun y =>
  own m c t y + ∑ x, land m c t (ix3 x (y 0) (y 1))

theorem sum_eq (x0 : Vec Ideal S256x384 .bf16) (x1 : Vec Ideal S7x256x384 .bf16) :
    k0_pay4 x0 (View.ld x1 (Rect.unit ![0, 0, 0] ![1, 256, 384] inb_S7x256x384_S1x256x384_0_0_0))
      (View.ld x1 (Rect.unit ![1, 0, 0] ![1, 256, 384] inb_S7x256x384_S1x256x384_1_0_0))
      (View.ld x1 (Rect.unit ![2, 0, 0] ![1, 256, 384] inb_S7x256x384_S1x256x384_2_0_0))
      (View.ld x1 (Rect.unit ![3, 0, 0] ![1, 256, 384] inb_S7x256x384_S1x256x384_3_0_0))
      (View.ld x1 (Rect.unit ![4, 0, 0] ![1, 256, 384] inb_S7x256x384_S1x256x384_4_0_0))
      (View.ld x1 (Rect.unit ![5, 0, 0] ![1, 256, 384] inb_S7x256x384_S1x256x384_5_0_0))
      (View.ld x1 (Rect.unit ![6, 0, 0] ![1, 256, 384] inb_S7x256x384_S1x256x384_6_0_0))
      = fun y => x0 y + ∑ x, x1 (ix3 x (y 0) (y 1)) := by
  funext y
  pointwise [k0_pay4]
  rw [Fin.sum_univ_seven]
  simp only [add_assoc (G := EReal)]

theorem outs (t : Fin (cfgM m (ok m)).N) : outsAt0 m (ok m) c t =
    (total m c t, k0_pay3 (total m c t) (k0_pay5 (mean m c t)) (square m c t) (weight m c t),
      k0_pay1 (total m c t) (k0_pay5 (mean m c t)), k0_pay2 (total m c t) (square m c t)) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S256x384 .bf16 at x0
  change Vec Ideal S7x256x384 .bf16 at x1
  change Vec Ideal S256x384 .f32 at x2 x3 x4
  frame_out
  rw [sum_eq]

theorem gradient : (dats m (ok m) 0 c).arrAt 5 (cfgM m (ok m)).N
    = Cert.Reference15Ideal.Read.val_main_v4 (F := Ideal) (m ((c : Thread nD τ).loc main_arg0)) (m ((c : Thread nD τ).loc main_arg1)) := by
  refine (dats m (ok m) 0 c).arrAt_eq_of_covers 5 _ (covers _ (adm_eq m)).1 fun t _ y => ?_
  blk_simp
  rw [after0_5, outs, ← Cert.Reference15Ideal.Read.val_main_v4_eq]
  pointwise
  simp only [total, own, land]
  blk_point [iblk, V, idx _ (adm_eq m) t]

theorem step : (dats m (ok m) 0 c).arrAt 6 (cfgM m (ok m)).N
    = Cert.Reference15Ideal.Read.val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m (ok m) 0 c).arrAt_eq_of_covers 6 _ (covers _ (adm_eq m)).2.1 fun t _ y => ?_
  blk_simp
  rw [after0_6, outs, ← Cert.Reference15Ideal.Read.val_main_v28_eq]
  pointwise [k0_pay1, k0_pay2, k0_pay3, k0_pay5]
  simp only [total, own, land, weight, mean, square]
  blk_point [iblk, V, idx _ (adm_eq m) t]

theorem new_mean : (dats m (ok m) 0 c).arrAt 7 (cfgM m (ok m)).N
    = Cert.Reference15Ideal.Read.val_main_v9 (F := Ideal) (m ((c : Thread nD τ).loc main_arg0)) (m ((c : Thread nD τ).loc main_arg1)) (m ((c : Thread nD τ).loc main_arg3)) := by
  refine (dats m (ok m) 0 c).arrAt_eq_of_covers 7 _ (covers _ (adm_eq m)).2.2.1 fun t _ y => ?_
  blk_simp
  rw [after0_7, outs, ← Cert.Reference15Ideal.Read.val_main_v9_eq]
  pointwise [k0_pay1, k0_pay2, k0_pay3, k0_pay5]
  simp only [total, own, land, weight, mean, square]
  blk_point [iblk, V, idx _ (adm_eq m) t]

theorem new_square : (dats m (ok m) 0 c).arrAt 8 (cfgM m (ok m)).N
    = Cert.Reference15Ideal.Read.val_main_v15 (F := Ideal) (m ((c : Thread nD τ).loc main_arg0)) (m ((c : Thread nD τ).loc main_arg1)) (m ((c : Thread nD τ).loc main_arg4)) := by
  refine (dats m (ok m) 0 c).arrAt_eq_of_covers 8 _ (covers _ (adm_eq m)).2.2.2 fun t _ y => ?_
  blk_simp
  rw [after0_8, outs, ← Cert.Reference15Ideal.Read.val_main_v15_eq]
  pointwise [k0_pay1, k0_pay2, k0_pay3, k0_pay5]
  simp only [total, own, land, weight, mean, square]
  blk_point [iblk, V, idx _ (adm_eq m) t]

attribute [local instance] Cert.Kernel15.Gen.facts Cert.Kernel15Ideal.Gen.facts Cert.Reference15Ideal.Gen.facts

theorem algebraic : Cert.algebraic_Kernel15Ideal_Reference15Ideal := by
  intro m g m' g' _ same
  refine ⟨fun c => (dats m (ok m) 0 c).arrAt 5 (cfgM m (ok m)).N, fun c => (dats m (ok m) 0 c).arrAt 6 (cfgM m (ok m)).N,
    fun c => (dats m (ok m) 0 c).arrAt 7 (cfgM m (ok m)).N, fun c => (dats m (ok m) 0 c).arrAt 8 (cfgM m (ok m)).N,
    (θ_run _ _ _).mono (fun r h c => ⟨(h.1 c).1 5, (h.1 c).1 6, (h.1 c).1 7, (h.1 c).1 8, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference15Ideal.Value.run m' g')⟩
  all_goals rw [(same c).1, (same c).2.1]
  · exact (gradient m c).symm
  · rw [(same c).2.2.1, (same c).2.2.2.1, (same c).2.2.2.2]; exact (step m c).symm
  · rw [(same c).2.2.2.1]; exact (new_mean m c).symm
  · rw [(same c).2.2.2.2]; exact (new_square m c).symm

theorem defs_eq : @Cert.Kernel15Ideal.defs Bits _ _ = @Cert.Kernel15.defs Bits _ _ := by
  refine congrArg (Pipeline.defs Cert.Kernel15Ideal.pcfgs) (congrArg Defs.onTc (funext fun l => funext fun a => ?_))
  match l, a with
  | 0, (t, s) => rfl

theorem frame_kernel : Cert.quiescent_Kernel15 := fun m ρ _ => by
  have h := Cert.Kernel15Ideal.Gen.frame (F := Bits) m ρ (ok m)
  rw [defs_eq] at h
  exact h

theorem frame_ideal : Cert.quiescent_Kernel15Ideal := fun m ρ _ => Cert.Kernel15Ideal.Gen.frame m ρ (ok m)

theorem frame_reference : Cert.quiescent_Reference15Ideal := fun m ρ _ =>
  (θ_run _ _ _).mono (fun r h => ⟨fun c => (h c).2.2.2.2, sem_eq_zero_of_no_sems (by decide) r.2⟩)
    (Cert.Reference15Ideal.Value.run m ρ)

end Cert.EvInStep

end
-- ==== Proof.FfnDownStep1.lean ====
module

public import proofs.«01_k».proof.Defs
public import proofs.«01_k».proof.Proof.Gen.Kernel16
public import proofs.«01_k».proof.Proof.Gen.Kernel16Ideal.Frame
public import proofs.«01_k».proof.Proof.Gen.Reference16Ideal.Read
public import Idealize.ShloMosaic.Lib.Pipeline.ValueKit
public import Idealize.ShloMosaic.Lib.Quiescent

/-! The optimiser's step of the second layer's down weight, which fills half of each result. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.FfnDownStep1

open Cert.Kernel16Ideal Cert.Kernel16Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![1, t.val, 0]
    ∧ (pcfg0.win a (3 : Fin (cfg0 a).W)).index t = ![1, t.val, 0] ∧ (pcfg0.win a (4 : Fin (cfg0 a).W)).index t = ![1, t.val, 0] ∧ (pcfg0.win a (5 : Fin (cfg0 a).W)).index t = ![1, t.val, 0]
    ∧ (pcfg0.win a (6 : Fin (cfg0 a).W)).index t = ![1, t.val, 0] ∧ (pcfg0.win a (7 : Fin (cfg0 a).W)).index t = ![1, t.val, 0] ∧ (pcfg0.win a (8 : Fin (cfg0 a).W)).index t = ![1, t.val, 0] := by
  subst h
  decide +kernel

theorem covers (a : (pcfg0 (F := Ideal)).Adm) (h : a = ⟨zero, zero_ok⟩) :
    ((cfg0 a).win 5).CoversWhere (fun β => β (0 : Fin 3) = 1) ∧ ((cfg0 a).win 6).CoversWhere (fun β => β (0 : Fin 3) = 1)
    ∧ ((cfg0 a).win 7).CoversWhere (fun β => β (0 : Fin 3) = 1) ∧ ((cfg0 a).win 8).CoversWhere (fun β => β (0 : Fin 3) = 1) := by
  subst h
  decide +kernel

variable (m : (ℓ : Loc nD τ sig) → Buf (Elt Ideal) ℓ) (c : Dev nD)

def own (t : Fin (cfgM m (ok m)).N) : Vec Ideal S176x2048 .bf16 := iblk m (ok m) c 0 t
def land (t : Fin (cfgM m (ok m)).N) : Vec Ideal S7x176x2048 .bf16 := iblk m (ok m) c 1 t
def weight (t : Fin (cfgM m (ok m)).N) : Vec Ideal S1x176x2048 .f32 := iblk m (ok m) c 2 t
def mean (t : Fin (cfgM m (ok m)).N) : Vec Ideal S1x176x2048 .f32 := iblk m (ok m) c 3 t
def square (t : Fin (cfgM m (ok m)).N) : Vec Ideal S1x176x2048 .f32 := iblk m (ok m) c 4 t

def total (t : Fin (cfgM m (ok m)).N) : Vec Ideal S176x2048 .f32 := fun y =>
  own m c t y + ∑ x, land m c t (ix3 x (y 0) (y 1))

theorem sum_eq (x0 : Vec Ideal S176x2048 .bf16) (x1 : Vec Ideal S7x176x2048 .bf16) :
    k0_pay3 x0 (View.ld x1 (Rect.unit ![0, 0, 0] ![1, 176, 2048] inb_S7x176x2048_S1x176x2048_0_0_0))
      (View.ld x1 (Rect.unit ![1, 0, 0] ![1, 176, 2048] inb_S7x176x2048_S1x176x2048_1_0_0))
      (View.ld x1 (Rect.unit ![2, 0, 0] ![1, 176, 2048] inb_S7x176x2048_S1x176x2048_2_0_0))
      (View.ld x1 (Rect.unit ![3, 0, 0] ![1, 176, 2048] inb_S7x176x2048_S1x176x2048_3_0_0))
      (View.ld x1 (Rect.unit ![4, 0, 0] ![1, 176, 2048] inb_S7x176x2048_S1x176x2048_4_0_0))
      (View.ld x1 (Rect.unit ![5, 0, 0] ![1, 176, 2048] inb_S7x176x2048_S1x176x2048_5_0_0))
      (View.ld x1 (Rect.unit ![6, 0, 0] ![1, 176, 2048] inb_S7x176x2048_S1x176x2048_6_0_0))
      = fun y => x0 y + ∑ x, x1 (ix3 x (y 0) (y 1)) := by
  funext y
  pointwise [k0_pay3]
  rw [Fin.sum_univ_seven]
  simp only [add_assoc (G := EReal)]

abbrev keep : Ideal .f32 := Scalar.ofBits .f32 0x3F666666#32

theorem outs (t : Fin (cfgM m (ok m)).N) : outsAt0 m (ok m) c t =
    (k0_pay7 (F := Ideal) (total m c t), k0_pay8 (total m c t) (k0_pay4 (mean m c t)) keep (square m c t) (weight m c t),
      k0_pay1 (k0_pay5 (total m c t) (k0_pay4 (mean m c t)) keep), k0_pay2 (k0_pay6 (total m c t) (square m c t))) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S176x2048 .bf16 at x0
  change Vec Ideal S7x176x2048 .bf16 at x1
  change Vec Ideal S1x176x2048 .f32 at x2 x3 x4
  frame_out
  rw [sum_eq]

def second (x : Vec Ideal S2x704x2048 .f32) : Vec Ideal S704x2048 .f32 :=
  shapeCast S704x2048 (extractStridedSlice S1x704x2048 ![1, 0, 0] x slices_S2x704x2048_S1x704x2048_1_0_0) shapeCasts_S1x704x2048_S704x2048

theorem second_at (x : Vec Ideal S2x704x2048 .f32) (i : S704x2048.Idx) : second x i = x (ix3 1 (i 0) (i 1)) := by
  unfold second
  pointwise

theorem gradient : second ((dats m (ok m) 0 c).arrAt 5 (cfgM m (ok m)).N)
    = Cert.Reference16Ideal.Read.val_main_v10 (F := Ideal) (m ((c : Thread nD τ).loc main_arg0)) (m ((c : Thread nD τ).loc main_arg1)) := by
  funext i
  refine (second_at _ i).trans (((dats m (ok m) 0 c).arrAt_emb_eq_of_coversWhere 5
    (fun i : S2x704x2048.Idx => Cert.Reference16Ideal.Read.val_main_v10 (F := Ideal) (m ((c : Thread nD τ).loc main_arg0)) (m ((c : Thread nD τ).loc main_arg1)) (ix2 (i 1) (i 2)))
    _ (covers _ (adm_eq m)).1 (fun t _ y => ?_) (ix3 1 (i 0) (i 1) : S2x704x2048.Idx)).trans
      ((if_pos (Nat.div_one 1)).trans (congrArg _ (funext fun d => by fin_cases d <;> rfl))))
  blk_simp
  rw [after0_5, outs, ← Cert.Reference16Ideal.Read.val_main_v10_eq]
  pointwise [k0_pay1, k0_pay2, k0_pay4, k0_pay5, k0_pay6, k0_pay7, k0_pay8]
  simp only [total, own, land, weight, mean, square]
  blk_point [iblk, V, idx _ (adm_eq m) t]

theorem gradient_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v3) = second ((dats m (ok m) 0 c).arrAt 5 (cfgM m (ok m)).N) := by
  refine ((h c).2 main_v3 (show main_v3 ∈ Pipeline.restRefs sig spec0 by decide)).trans ?_
  show StableHlo.after hostOps1 _ (Proc.devRef .tc main_v3) = _
  after_results_simp
  exact congrArg second (Pipeline.withArrays_arr spec0 (launch0 (F := Ideal)).win.arr_inj c (V0 m c) (fun w => (dats m (ok m) 0 c).arrAt w (cfgM m (ok m)).N) 5)

theorem step : second ((dats m (ok m) 0 c).arrAt 6 (cfgM m (ok m)).N)
    = Cert.Reference16Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  refine (second_at _ i).trans (((dats m (ok m) 0 c).arrAt_emb_eq_of_coversWhere 6
    (fun i : S2x704x2048.Idx => Cert.Reference16Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (i 1) (i 2)))
    _ (covers _ (adm_eq m)).2.1 (fun t _ y => ?_) (ix3 1 (i 0) (i 1) : S2x704x2048.Idx)).trans
      ((if_pos (Nat.div_one 1)).trans (congrArg _ (funext fun d => by fin_cases d <;> rfl))))
  blk_simp
  rw [after0_6, outs, ← Cert.Reference16Ideal.Read.val_main_v34_eq]
  pointwise [k0_pay1, k0_pay2, k0_pay4, k0_pay5, k0_pay6, k0_pay7, k0_pay8]
  simp only [total, own, land, weight, mean, square]
  blk_point [iblk, V, idx _ (adm_eq m) t]

theorem step_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v5) = second ((dats m (ok m) 0 c).arrAt 6 (cfgM m (ok m)).N) := by
  refine ((h c).2 main_v5 (show main_v5 ∈ Pipeline.restRefs sig spec0 by decide)).trans ?_
  show StableHlo.after hostOps1 _ (Proc.devRef .tc main_v5) = _
  after_results_simp
  exact congrArg second (Pipeline.withArrays_arr spec0 (launch0 (F := Ideal)).win.arr_inj c (V0 m c) (fun w => (dats m (ok m) 0 c).arrAt w (cfgM m (ok m)).N) 6)

theorem new_mean : second ((dats m (ok m) 0 c).arrAt 7 (cfgM m (ok m)).N)
    = Cert.Reference16Ideal.Read.val_main_v15 (F := Ideal) (m ((c : Thread nD τ).loc main_arg0)) (m ((c : Thread nD τ).loc main_arg1)) (m ((c : Thread nD τ).loc main_arg3)) := by
  funext i
  refine (second_at _ i).trans (((dats m (ok m) 0 c).arrAt_emb_eq_of_coversWhere 7
    (fun i : S2x704x2048.Idx => Cert.Reference16Ideal.Read.val_main_v15 (F := Ideal) (m ((c : Thread nD τ).loc main_arg0)) (m ((c : Thread nD τ).loc main_arg1)) (m ((c : Thread nD τ).loc main_arg3)) (ix2 (i 1) (i 2)))
    _ (covers _ (adm_eq m)).2.2.1 (fun t _ y => ?_) (ix3 1 (i 0) (i 1) : S2x704x2048.Idx)).trans
      ((if_pos (Nat.div_one 1)).trans (congrArg _ (funext fun d => by fin_cases d <;> rfl))))
  blk_simp
  rw [after0_7, outs, ← Cert.Reference16Ideal.Read.val_main_v15_eq]
  pointwise [k0_pay1, k0_pay2, k0_pay4, k0_pay5, k0_pay6, k0_pay7, k0_pay8]
  simp only [total, own, land, weight, mean, square]
  blk_point [iblk, V, idx _ (adm_eq m) t]

theorem new_mean_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v7) = second ((dats m (ok m) 0 c).arrAt 7 (cfgM m (ok m)).N) := by
  refine ((h c).2 main_v7 (show main_v7 ∈ Pipeline.restRefs sig spec0 by decide)).trans ?_
  show StableHlo.after hostOps1 _ (Proc.devRef .tc main_v7) = _
  after_results_simp
  exact congrArg second (Pipeline.withArrays_arr spec0 (launch0 (F := Ideal)).win.arr_inj c (V0 m c) (fun w => (dats m (ok m) 0 c).arrAt w (cfgM m (ok m)).N) 7)

theorem new_square : second ((dats m (ok m) 0 c).arrAt 8 (cfgM m (ok m)).N)
    = Cert.Reference16Ideal.Read.val_main_v21 (F := Ideal) (m ((c : Thread nD τ).loc main_arg0)) (m ((c : Thread nD τ).loc main_arg1)) (m ((c : Thread nD τ).loc main_arg4)) := by
  funext i
  refine (second_at _ i).trans (((dats m (ok m) 0 c).arrAt_emb_eq_of_coversWhere 8
    (fun i : S2x704x2048.Idx => Cert.Reference16Ideal.Read.val_main_v21 (F := Ideal) (m ((c : Thread nD τ).loc main_arg0)) (m ((c : Thread nD τ).loc main_arg1)) (m ((c : Thread nD τ).loc main_arg4)) (ix2 (i 1) (i 2)))
    _ (covers _ (adm_eq m)).2.2.2 (fun t _ y => ?_) (ix3 1 (i 0) (i 1) : S2x704x2048.Idx)).trans
      ((if_pos (Nat.div_one 1)).trans (congrArg _ (funext fun d => by fin_cases d <;> rfl))))
  blk_simp
  rw [after0_8, outs, ← Cert.Reference16Ideal.Read.val_main_v21_eq]
  pointwise [k0_pay1, k0_pay2, k0_pay4, k0_pay5, k0_pay6, k0_pay7, k0_pay8]
  simp only [total, own, land, weight, mean, square]
  blk_point [iblk, V, idx _ (adm_eq m) t]

theorem new_square_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v9) = second ((dats m (ok m) 0 c).arrAt 8 (cfgM m (ok m)).N) := by
  refine ((h c).2 main_v9 (show main_v9 ∈ Pipeline.restRefs sig spec0 by decide)).trans ?_
  show StableHlo.after hostOps1 _ (Proc.devRef .tc main_v9) = _
  after_results_simp
  exact congrArg second (Pipeline.withArrays_arr spec0 (launch0 (F := Ideal)).win.arr_inj c (V0 m c) (fun w => (dats m (ok m) 0 c).arrAt w (cfgM m (ok m)).N) 8)

attribute [local instance] Cert.Kernel16.Gen.facts Cert.Kernel16Ideal.Gen.facts Cert.Reference16Ideal.Gen.facts

theorem algebraic : Cert.algebraic_Kernel16Ideal_Reference16Ideal := by
  intro m g m' g' _ same
  refine ⟨fun c => second ((dats m (ok m) 0 c).arrAt 5 (cfgM m (ok m)).N), fun c => second ((dats m (ok m) 0 c).arrAt 6 (cfgM m (ok m)).N),
    fun c => second ((dats m (ok m) 0 c).arrAt 7 (cfgM m (ok m)).N), fun c => second ((dats m (ok m) 0 c).arrAt 8 (cfgM m (ok m)).N),
    (θ_run _ _ _).mono (fun r h c => ⟨gradient_ends m c r h.1, step_ends m c r h.1, new_mean_ends m c r h.1, new_square_ends m c r h.1, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference16Ideal.Value.run m' g')⟩
  all_goals obtain ⟨e0, e1, e2, e3, e4⟩ := same c
  · rw [e0, e1]; exact (gradient m c).symm
  · rw [e0, e1, e2, e3, e4]; exact (step m c).symm
  · rw [e0, e1, e3]; exact (new_mean m c).symm
  · rw [e0, e1, e4]; exact (new_square m c).symm

theorem defs_eq : @Cert.Kernel16Ideal.defs Bits _ _ = @Cert.Kernel16.defs Bits _ _ := by
  refine congrArg (Pipeline.defs Cert.Kernel16Ideal.pcfgs) (congrArg Defs.onTc (funext fun l => funext fun a => ?_))
  match l, a with
  | 0, (t, s) => rfl

set_option maxHeartbeats 2000000 in
theorem frame_kernel : Cert.quiescent_Kernel16 := fun m ρ _ => by
  have h := Cert.Kernel16Ideal.Gen.frame (F := Bits) m ρ (ok m)
  rw [defs_eq] at h
  exact h

theorem frame_ideal : Cert.quiescent_Kernel16Ideal := fun m ρ _ => Cert.Kernel16Ideal.Gen.frame m ρ (ok m)

theorem frame_reference : Cert.quiescent_Reference16Ideal := fun m ρ _ =>
  (θ_run _ _ _).mono (fun r h => ⟨fun c => (h c).2.2.2.2, sem_eq_zero_of_no_sems (by decide) r.2⟩)
    (Cert.Reference16Ideal.Value.run m ρ)

end Cert.FfnDownStep1

end
-- ==== Proof.FfnDownStep0.lean ====
module

public import proofs.«01_k».proof.Defs
public import proofs.«01_k».proof.Proof.Gen.Kernel17
public import proofs.«01_k».proof.Proof.Gen.Kernel17Ideal.Frame
public import proofs.«01_k».proof.Proof.Gen.Reference17Ideal.Read
public import Idealize.ShloMosaic.Lib.Pipeline.ValueKit
public import Idealize.ShloMosaic.Lib.Quiescent

/-! The optimiser's step of the first layer's down weight, written into arrays that hold the second layer's. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.FfnDownStep0

open Cert.Kernel17Ideal Cert.Kernel17Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![0, t.val, 0]
    ∧ (pcfg0.win a (3 : Fin (cfg0 a).W)).index t = ![0, t.val, 0] ∧ (pcfg0.win a (4 : Fin (cfg0 a).W)).index t = ![0, t.val, 0] ∧ (pcfg0.win a (5 : Fin (cfg0 a).W)).index t = ![0, t.val, 0]
    ∧ (pcfg0.win a (6 : Fin (cfg0 a).W)).index t = ![0, t.val, 0] ∧ (pcfg0.win a (7 : Fin (cfg0 a).W)).index t = ![0, t.val, 0] ∧ (pcfg0.win a (8 : Fin (cfg0 a).W)).index t = ![0, t.val, 0] := by
  subst h
  decide +kernel

theorem covers (a : (pcfg0 (F := Ideal)).Adm) (h : a = ⟨zero, zero_ok⟩) :
    ((cfg0 a).win 5).CoversWhere (fun β => β (0 : Fin 3) = 0) ∧ ((cfg0 a).win 6).CoversWhere (fun β => β (0 : Fin 3) = 0)
    ∧ ((cfg0 a).win 7).CoversWhere (fun β => β (0 : Fin 3) = 0) ∧ ((cfg0 a).win 8).CoversWhere (fun β => β (0 : Fin 3) = 0) := by
  subst h
  decide +kernel

variable (m : (ℓ : Loc nD τ sig) → Buf (Elt Ideal) ℓ) (c : Dev nD)

def own (t : Fin (cfgM m (ok m)).N) : Vec Ideal S176x2048 .bf16 := iblk m (ok m) c 0 t
def land (t : Fin (cfgM m (ok m)).N) : Vec Ideal S7x176x2048 .bf16 := iblk m (ok m) c 1 t
def weight (t : Fin (cfgM m (ok m)).N) : Vec Ideal S1x176x2048 .f32 := iblk m (ok m) c 2 t
def mean (t : Fin (cfgM m (ok m)).N) : Vec Ideal S1x176x2048 .f32 := iblk m (ok m) c 3 t
def square (t : Fin (cfgM m (ok m)).N) : Vec Ideal S1x176x2048 .f32 := iblk m (ok m) c 4 t

def total (t : Fin (cfgM m (ok m)).N) : Vec Ideal S176x2048 .f32 := fun y =>
  own m c t y + ∑ x, land m c t (ix3 x (y 0) (y 1))

theorem sum_eq (x0 : Vec Ideal S176x2048 .bf16) (x1 : Vec Ideal S7x176x2048 .bf16) :
    k0_pay3 x0 (View.ld x1 (Rect.unit ![0, 0, 0] ![1, 176, 2048] inb_S7x176x2048_S1x176x2048_0_0_0))
      (View.ld x1 (Rect.unit ![1, 0, 0] ![1, 176, 2048] inb_S7x176x2048_S1x176x2048_1_0_0))
      (View.ld x1 (Rect.unit ![2, 0, 0] ![1, 176, 2048] inb_S7x176x2048_S1x176x2048_2_0_0))
      (View.ld x1 (Rect.unit ![3, 0, 0] ![1, 176, 2048] inb_S7x176x2048_S1x176x2048_3_0_0))
      (View.ld x1 (Rect.unit ![4, 0, 0] ![1, 176, 2048] inb_S7x176x2048_S1x176x2048_4_0_0))
      (View.ld x1 (Rect.unit ![5, 0, 0] ![1, 176, 2048] inb_S7x176x2048_S1x176x2048_5_0_0))
      (View.ld x1 (Rect.unit ![6, 0, 0] ![1, 176, 2048] inb_S7x176x2048_S1x176x2048_6_0_0))
      = fun y => x0 y + ∑ x, x1 (ix3 x (y 0) (y 1)) := by
  funext y
  pointwise [k0_pay3]
  rw [Fin.sum_univ_seven]
  simp only [add_assoc (G := EReal)]

abbrev keep : Ideal .f32 := Scalar.ofBits .f32 0x3F666666#32

theorem outs (t : Fin (cfgM m (ok m)).N) : outsAt0 m (ok m) c t =
    (k0_pay7 (F := Ideal) (total m c t), k0_pay8 (total m c t) (k0_pay4 (mean m c t)) keep (square m c t) (weight m c t),
      k0_pay1 (k0_pay5 (total m c t) (k0_pay4 (mean m c t)) keep), k0_pay2 (k0_pay6 (total m c t) (square m c t))) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S176x2048 .bf16 at x0
  change Vec Ideal S7x176x2048 .bf16 at x1
  change Vec Ideal S1x176x2048 .f32 at x2 x3 x4
  frame_out
  rw [sum_eq]

theorem stack_at (a b : Vec Ideal Cert.Reference17Ideal.S704x2048 .f32) (i : Cert.Reference17Ideal.S2x704x2048.Idx) :
    concatenate Cert.Reference17Ideal.S2x704x2048 0
      [⟨Cert.Reference17Ideal.S1x704x2048, broadcastInDim Cert.Reference17Ideal.S1x704x2048 ![1, 2] Cert.Reference17Ideal.Gen.bcast_S704x2048_S1x704x2048_1_2 a⟩,
        ⟨Cert.Reference17Ideal.S1x704x2048, broadcastInDim Cert.Reference17Ideal.S1x704x2048 ![1, 2] Cert.Reference17Ideal.Gen.bcast_S704x2048_S1x704x2048_1_2 b⟩]
      Cert.Reference17Ideal.Gen.concatenates_S1x704x2048_S1x704x2048_S2x704x2048_d0 i
      = if (i 0).val = 0 then a (ix2 (i 1) (i 2)) else b (ix2 (i 1) (i 2)) := by
  pointwise
  rcases Nat.eq_zero_or_pos (i 0).val with h | h
  · rw [dif_pos (by omega), if_pos h]
  · rw [dif_neg (by omega), if_neg (by omega)]

theorem other_at (x : Vec Ideal Cert.Reference17Ideal.S2x704x2048 .f32) (i : Cert.Reference17Ideal.S2x704x2048.Idx) (h : ¬ (i 0).val = 0) :
    shapeCast Cert.Reference17Ideal.S704x2048 (extractStridedSlice Cert.Reference17Ideal.S1x704x2048 ![1, 0, 0] x
      Cert.Reference17Ideal.Gen.slices_S2x704x2048_S1x704x2048_1_0_0) Cert.Reference17Ideal.Gen.shapeCasts_S1x704x2048_S704x2048 (ix2 (i 1) (i 2)) = x i := by
  have h1 : (1 : Fin 2) = i 0 := Fin.ext (by have := (i 0).isLt; simp at this; simp; omega)
  pointwise
  rw [h1]
  exact congrArg x (funext fun d => by fin_cases d <;> rfl)

theorem kept (a : Vec Ideal Cert.Reference17Ideal.S704x2048 .f32) (x : Vec Ideal Cert.Reference17Ideal.S2x704x2048 .f32)
    (i : Cert.Reference17Ideal.S2x704x2048.Idx) (h : ¬ (i 0).val = 0) :
    concatenate Cert.Reference17Ideal.S2x704x2048 0
      [⟨Cert.Reference17Ideal.S1x704x2048, broadcastInDim Cert.Reference17Ideal.S1x704x2048 ![1, 2] Cert.Reference17Ideal.Gen.bcast_S704x2048_S1x704x2048_1_2 a⟩,
        ⟨Cert.Reference17Ideal.S1x704x2048, broadcastInDim Cert.Reference17Ideal.S1x704x2048 ![1, 2] Cert.Reference17Ideal.Gen.bcast_S704x2048_S1x704x2048_1_2
          (shapeCast Cert.Reference17Ideal.S704x2048 (extractStridedSlice Cert.Reference17Ideal.S1x704x2048 ![1, 0, 0] x
            Cert.Reference17Ideal.Gen.slices_S2x704x2048_S1x704x2048_1_0_0) Cert.Reference17Ideal.Gen.shapeCasts_S1x704x2048_S704x2048)⟩]
      Cert.Reference17Ideal.Gen.concatenates_S1x704x2048_S1x704x2048_S2x704x2048_d0 i = x i := by
  rw [stack_at, if_neg h, other_at x i h]

theorem carried_gradient : V m c main_v1_0 = m ((c : Thread nD τ).loc main_arg5) := by
  show StableHlo.after hostOps0 (fun b => m (c, b)) (Proc.devRef .tc main_v1_0) = _
  after_results_simp
  rfl

theorem carried_step : V m c main_v1_1 = m ((c : Thread nD τ).loc main_arg6) := by
  show StableHlo.after hostOps0 (fun b => m (c, b)) (Proc.devRef .tc main_v1_1) = _
  after_results_simp
  rfl

theorem carried_new_mean : V m c main_v1_2 = m ((c : Thread nD τ).loc main_arg7) := by
  show StableHlo.after hostOps0 (fun b => m (c, b)) (Proc.devRef .tc main_v1_2) = _
  after_results_simp
  rfl

theorem carried_new_square : V m c main_v1_3 = m ((c : Thread nD τ).loc main_arg8) := by
  show StableHlo.after hostOps0 (fun b => m (c, b)) (Proc.devRef .tc main_v1_3) = _
  after_results_simp
  rfl

theorem gradient : (dats m (ok m) 0 c).arrAt 5 (cfgM m (ok m)).N
    = Cert.Reference17Ideal.Read.val_main_v39 (F := Ideal) (m ((c : Thread nD τ).loc main_arg0)) (m ((c : Thread nD τ).loc main_arg1)) (m ((c : Thread nD τ).loc main_arg5)) := by
  refine (dats m (ok m) 0 c).arrAt_eq_of_coversWhere_of_agree 5 _ _ (covers _ (adm_eq m)).1 (fun t _ y => ?_) (fun j hj => ?_)
  · blk_simp
    rw [after0_5, outs, ← Cert.Reference17Ideal.Read.val_main_v39_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference17Ideal.Read.val_main_v39_eq]
    exact (congrFun (carried_gradient m c) _).trans (kept _ _ _ fun h => hj ((Nat.div_one _).trans h)).symm

theorem step : (dats m (ok m) 0 c).arrAt 6 (cfgM m (ok m)).N
    = Cert.Reference17Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 6 _ _ (covers _ (adm_eq m)).2.1 (fun t _ y => ?_) (fun j hj => ?_)
  · blk_simp
    rw [after0_6, outs, ← Cert.Reference17Ideal.Read.val_main_v44_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference17Ideal.Read.val_main_v44_eq]
    exact (congrFun (carried_step m c) _).trans (kept _ _ _ fun h => hj ((Nat.div_one _).trans h)).symm

theorem new_mean : (dats m (ok m) 0 c).arrAt 7 (cfgM m (ok m)).N
    = Cert.Reference17Ideal.Read.val_main_v49 (F := Ideal) (m ((c : Thread nD τ).loc main_arg0)) (m ((c : Thread nD τ).loc main_arg1)) (m ((c : Thread nD τ).loc main_arg3)) (m ((c : Thread nD τ).loc main_arg7)) := by
  refine (dats m (ok m) 0 c).arrAt_eq_of_coversWhere_of_agree 7 _ _ (covers _ (adm_eq m)).2.2.1 (fun t _ y => ?_) (fun j hj => ?_)
  · blk_simp
    rw [after0_7, outs, ← Cert.Reference17Ideal.Read.val_main_v49_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference17Ideal.Read.val_main_v49_eq]
    exact (congrFun (carried_new_mean m c) _).trans (kept _ _ _ fun h => hj ((Nat.div_one _).trans h)).symm

theorem new_square : (dats m (ok m) 0 c).arrAt 8 (cfgM m (ok m)).N
    = Cert.Reference17Ideal.Read.val_main_v54 (F := Ideal) (m ((c : Thread nD τ).loc main_arg0)) (m ((c : Thread nD τ).loc main_arg1)) (m ((c : Thread nD τ).loc main_arg4)) (m ((c : Thread nD τ).loc main_arg8)) := by
  refine (dats m (ok m) 0 c).arrAt_eq_of_coversWhere_of_agree 8 _ _ (covers _ (adm_eq m)).2.2.2 (fun t _ y => ?_) (fun j hj => ?_)
  · blk_simp
    rw [after0_8, outs, ← Cert.Reference17Ideal.Read.val_main_v54_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference17Ideal.Read.val_main_v54_eq]
    exact (congrFun (carried_new_square m c) _).trans (kept _ _ _ fun h => hj ((Nat.div_one _).trans h)).symm

attribute [local instance] Cert.Kernel17.Gen.facts Cert.Kernel17Ideal.Gen.facts Cert.Reference17Ideal.Gen.facts

theorem algebraic : Cert.algebraic_Kernel17Ideal_Reference17Ideal := by
  intro m g m' g' _ same
  refine ⟨fun c => (dats m (ok m) 0 c).arrAt 5 (cfgM m (ok m)).N, fun c => (dats m (ok m) 0 c).arrAt 6 (cfgM m (ok m)).N,
    fun c => (dats m (ok m) 0 c).arrAt 7 (cfgM m (ok m)).N, fun c => (dats m (ok m) 0 c).arrAt 8 (cfgM m (ok m)).N,
    (θ_run _ _ _).mono (fun r h c => ⟨(h.1 c).1 5, (h.1 c).1 6, (h.1 c).1 7, (h.1 c).1 8, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference17Ideal.Value.run m' g')⟩
  all_goals obtain ⟨e0, e1, e2, e3, e4, e5, e6, e7, e8⟩ := same c
  · rw [e0, e1, e5]; exact (gradient m c).symm
  · rw [e0, e1, e2, e3, e4, e6]; exact (step m c).symm
  · rw [e0, e1, e3, e7]; exact (new_mean m c).symm
  · rw [e0, e1, e4, e8]; exact (new_square m c).symm

theorem defs_eq : @Cert.Kernel17Ideal.defs Bits _ _ = @Cert.Kernel17.defs Bits _ _ := by
  refine congrArg (Pipeline.defs Cert.Kernel17Ideal.pcfgs) (congrArg Defs.onTc (funext fun l => funext fun a => ?_))
  match l, a with
  | 0, (t, s) => rfl

set_option maxHeartbeats 2000000 in
theorem frame_kernel : Cert.quiescent_Kernel17 := fun m ρ _ => by
  have h := Cert.Kernel17Ideal.Gen.frame (F := Bits) m ρ (ok m)
  rw [defs_eq] at h
  exact h

theorem frame_ideal : Cert.quiescent_Kernel17Ideal := fun m ρ _ => Cert.Kernel17Ideal.Gen.frame m ρ (ok m)

theorem frame_reference : Cert.quiescent_Reference17Ideal := fun m ρ _ =>
  (θ_run _ _ _).mono (fun r h => ⟨fun c => (h c).2.2.2.2, sem_eq_zero_of_no_sems (by decide) r.2⟩)
    (Cert.Reference17Ideal.Value.run m ρ)

end Cert.FfnDownStep0

end
-- ==== Proof.SmallStep.lean ====
module

public import proofs.«01_k».proof.Defs
public import proofs.«01_k».proof.Proof.Gen.Kernel18
public import proofs.«01_k».proof.Proof.Gen.Kernel18Ideal.Value
public import proofs.«01_k».proof.Proof.Gen.Reference18Ideal.Read
public import Idealize.ShloMosaic.Lib.Pipeline.ValueKit
public import Idealize.ShloMosaic.Lib.Quiescent

/-! The optimiser's step of the small parameters, packed into one matrix. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.SmallStep

open Cert.Kernel18Ideal Cert.Kernel18Ideal.Gen

theorem idx : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] :=
  (by decide +kernel : ∀ t : Fin grid0.N, _)

variable (m : (ℓ : Loc nD τ sig) → Buf (Elt Ideal) ℓ) (c : Dev nD)

theorem gradient : (dats m 0 c).arrAt 4 (cfgs 0).N = m ((c : Thread nD τ).loc main_arg0) := by
  refine (dats m 0 c).arrAt_eq_of_covers 4 _ (by decide +kernel) fun t _ y => ?_
  blk_simp
  rw [after0_4]
  frame_out
  pointwise [k0_pay1]
  blk_point [iblk, V, idx t]

theorem delta : (dats m 0 c).arrAt 5 (cfgs 0).N
    = Cert.Reference18Ideal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, ← Cert.Reference18Ideal.Read.val_main_v23_eq]
  frame_out
  pointwise [k0_pay1, k0_pay2, k0_pay3, k0_pay4]
  blk_point [iblk, V, idx t]

theorem mean : (dats m 0 c).arrAt 6 (cfgs 0).N
    = Cert.Reference18Ideal.Read.val_main_v4 (F := Ideal) (m ((c : Thread nD τ).loc main_arg0)) (m ((c : Thread nD τ).loc main_arg2)) := by
  refine (dats m 0 c).arrAt_eq_of_covers 6 _ (by decide +kernel) fun t _ y => ?_
  blk_simp
  rw [after0_6, ← Cert.Reference18Ideal.Read.val_main_v4_eq]
  frame_out
  pointwise [k0_pay1, k0_pay2, k0_pay3, k0_pay4]
  blk_point [iblk, V, idx t]

theorem square : (dats m 0 c).arrAt 7 (cfgs 0).N
    = Cert.Reference18Ideal.Read.val_main_v10 (F := Ideal) (m ((c : Thread nD τ).loc main_arg0)) (m ((c : Thread nD τ).loc main_arg3)) := by
  refine (dats m 0 c).arrAt_eq_of_covers 7 _ (by decide +kernel) fun t _ y => ?_
  blk_simp
  rw [after0_7, ← Cert.Reference18Ideal.Read.val_main_v10_eq]
  frame_out
  pointwise [k0_pay1, k0_pay2, k0_pay3, k0_pay4]
  blk_point [iblk, V, idx t]

attribute [local instance] Cert.Kernel18.Gen.facts Cert.Kernel18Ideal.Gen.facts Cert.Reference18Ideal.Gen.facts

theorem algebraic : Cert.algebraic_Kernel18Ideal_Reference18Ideal := by
  intro m g m' g' _ same
  refine ⟨fun c => (dats m 0 c).arrAt 4 cfg0.N, fun c => (dats m 0 c).arrAt 5 cfg0.N,
    fun c => (dats m 0 c).arrAt 6 cfg0.N, fun c => (dats m 0 c).arrAt 7 cfg0.N, Cert.Kernel18Ideal.Value.run_blocks m g,
    (θ_run _ _ _).mono (fun r h c => ⟨(h c).1.trans ?_, (h c).2.1.trans ?_, (h c).2.2.1.trans ?_, (h c).2.2.2.1.trans ?_,
      (h c).2.2.2.2⟩) (Cert.Reference18Ideal.Value.run m' g')⟩
  all_goals rw [(same c).1]
  · exact (gradient m c).symm
  · rw [(same c).2.1, (same c).2.2.1, (same c).2.2.2]; exact (delta m c).symm
  · rw [(same c).2.2.1]; exact (mean m c).symm
  · rw [(same c).2.2.2]; exact (square m c).symm

theorem defs_eq : @Cert.Kernel18Ideal.defs Bits _ _ = @Cert.Kernel18.defs Bits _ _ := by
  refine congrArg (Pipeline.defs Cert.Kernel18Ideal.pcfgs) (congrArg Defs.onTc (funext fun l => funext fun a => ?_))
  match l, a with
  | 0, (t, s) => rfl

theorem frame_kernel : Cert.quiescent_Kernel18 := fun m ρ _ => by
  have h := Cert.Kernel18Ideal.Gen.frame (F := Bits) m ρ
  rw [defs_eq] at h
  exact h

theorem frame_ideal : Cert.quiescent_Kernel18Ideal := fun m ρ _ => Cert.Kernel18Ideal.Gen.frame m ρ

theorem frame_reference : Cert.quiescent_Reference18Ideal := fun m ρ _ =>
  (θ_run _ _ _).mono (fun r h => ⟨fun c => (h c).2.2.2.2, sem_eq_zero_of_no_sems (by decide) r.2⟩)
    (Cert.Reference18Ideal.Value.run m ρ)

end Cert.SmallStep

end
-- ==== Proof.SumReplicated.lean ====
module

public import proofs.«01_k».proof.Defs
public import proofs.«01_k».proof.Proof.Gen.Kernel19
public import proofs.«01_k».proof.Proof.Gen.Kernel19Ideal.Frame
public import proofs.«01_k».proof.Proof.Gen.Reference19Ideal.Read
public import Idealize.ShloMosaic.Lib.Pipeline.ValueKit
public import Idealize.ShloMosaic.Lib.Quiescent

/-! The sum over the devices of the packed gradients of the small parameters that every device holds. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.SumReplicated

open Cert.Kernel19Ideal Cert.Kernel19Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem word : tbM0_0.view.readAt (Elt F) (Rect.unit (s := S1) ![0] S1.size inb_S1_S1_0).toLoadRect (zero 0)
    (Shape.Idx.first (numel1_S1.symm ▸ Nat.one_pos)) = (0#32 : BitVec 32) := rfl

theorem zero_ok : ok0 (F := F) zero := trivial

theorem ok : Ok m := by
  rw [Ok, table]
  exact zero_ok

theorem adm_eq : adm m (ok m) = ⟨zero, zero_ok (F := F)⟩ := Subtype.ext (table m)
theorem hyps : Hyps m (ok m) := fun c t => by
  rw [table m, word]
  decide +kernel
end

theorem idx (a : (pcfg0 (F := Ideal)).Adm) (h : a = ⟨zero, zero_ok (F := Ideal)⟩) : ∀ t : Fin (pcfg0.gridAt a.1).N,
    (pcfg0.win a (0 : Fin (cfg0 a).W)).index t = ![t.val, 0] ∧ (pcfg0.win a (1 : Fin (cfg0 a).W)).index t = ![0, t.val, 0]
    ∧ (pcfg0.win a (2 : Fin (cfg0 a).W)).index t = ![t.val, 0] := by
  subst h
  decide +kernel

theorem covers (a : (pcfg0 (F := Ideal)).Adm) (h : a = ⟨zero, zero_ok (F := Ideal)⟩) : ((cfg0 a).win 2).Covers := by
  subst h
  decide +kernel

variable (m : (ℓ : Loc nD τ sig) → Buf (Elt Ideal) ℓ) (c : Dev nD)

def own (t : Fin (cfgM m (ok m)).N) : Vec Ideal S128x128 .f32 := iblk m (ok m) c 0 t
def land (t : Fin (cfgM m (ok m)).N) : Vec Ideal S7x128x128 .f32 := iblk m (ok m) c 1 t

def total (t : Fin (cfgM m (ok m)).N) : Vec Ideal S128x128 .f32 := fun y =>
  own m c t y + ∑ x, land m c t (ix3 x (y 0) (y 1))

theorem inb (k : Fin 7) : ∀ a, (![k.val, 0, 0] : Fin 3 → Nat) a + (![1, 128, 128] : Fin 3 → Nat) a ≤ S7x128x128.size a := by
  revert k
  decide +kernel

def row (x1 : Vec Ideal S7x128x128 .f32) (k : Fin 7) : Vec Ideal S1x128x128 .f32 := View.ld x1 (Rect.unit ![k.val, 0, 0] ![1, 128, 128] (inb k))

theorem sum_eq (x0 : Vec Ideal S128x128 .f32) (x1 : Vec Ideal S7x128x128 .f32) :
    k0_pay1 0#32 (k0_pay3 0#32 (k0_pay2 0#32 x0 (row x1 0) x0 (row x1 0) x0 (row x1 1)) x0 (row x1 2) x0 (row x1 3)
      x0 (row x1 4)) (Scalar.cmpi .eq 0#32 6#32) x0 (row x1 5) x0 (row x1 6)
      = fun y => x0 y + ∑ x, x1 (ix3 x (y 0) (y 1)) := by
  funext y
  pointwise [k0_pay1, k0_pay2, k0_pay3, row]
  rw [Fin.sum_univ_seven]
  simp only [add_assoc (G := EReal)]
  rfl

theorem outs (t : Fin (cfgM m (ok m)).N) : outsAt0 m (ok m) (hyps m) c t = total m c t := by
  unfold total own land outsAt0
  generalize iblk m (ok m) c 0 t = x0
  generalize iblk m (ok m) c 1 t = x1
  change Vec Ideal S128x128 .f32 at x0
  change Vec Ideal S7x128x128 .f32 at x1
  have h := Hyps.c0 (hyps m) c t
  change out0_A_2 c _ _ _ _ _ _ _ x0 x1 (tbl m 0) h = _
  revert h
  rw [table m]
  intro h
  frame_out
  exact sum_eq x0 x1

theorem sum : (dats m (ok m) (hyps m) 0 c).arrAt 2 (cfgM m (ok m)).N
    = Cert.Reference19Ideal.Read.val_main_v1 (F := Ideal) (m ((c : Thread nD τ).loc main_arg0)) (m ((c : Thread nD τ).loc main_arg1)) := by
  refine (dats m (ok m) (hyps m) 0 c).arrAt_eq_of_covers 2 _ (covers _ (adm_eq m)) fun t _ y => ?_
  blk_simp
  rw [after0_2, outs, ← Cert.Reference19Ideal.Read.val_main_v1_eq]
  pointwise
  simp only [total, own, land]
  blk_point [iblk, V, idx _ (adm_eq m) t]

attribute [local instance] Cert.Kernel19.Gen.facts Cert.Kernel19Ideal.Gen.facts Cert.Reference19Ideal.Gen.facts

theorem algebraic : Cert.algebraic_Kernel19Ideal_Reference19Ideal := by
  intro m g m' g' _ same
  refine ⟨fun c => (dats m (ok m) (hyps m) 0 c).arrAt 2 (cfgM m (ok m)).N,
    (θ_run _ _ _).mono (fun r h c => ⟨(h.1 c).1 2, h.2 c⟩)
      (θ_run_and (run_main m g (ok m) (hyps m)) (unchanged m g (ok m) (hyps m))),
    (θ_run _ _ _).mono (fun r h c => ⟨(h c).1.trans ?_, (h c).2⟩) (Cert.Reference19Ideal.Value.run m' g')⟩
  rw [(same c).1, (same c).2]
  exact (sum m c).symm

theorem defs_eq : @Cert.Kernel19Ideal.defs Bits _ _ = @Cert.Kernel19.defs Bits _ _ := by
  refine congrArg (Pipeline.defs Cert.Kernel19Ideal.pcfgs) (congrArg Defs.onTc (funext fun l => funext fun a => ?_))
  match l, a with
  | 0, (t, s) => rfl

theorem frame_kernel : Cert.quiescent_Kernel19 := fun m ρ _ => by
  have h := Cert.Kernel19Ideal.Gen.frame (F := Bits) m ρ (ok m) (hyps m)
  rw [defs_eq] at h
  exact h

theorem frame_ideal : Cert.quiescent_Kernel19Ideal := fun m ρ _ => Cert.Kernel19Ideal.Gen.frame m ρ (ok m) (hyps m)

theorem frame_reference : Cert.quiescent_Reference19Ideal := fun m ρ _ =>
  (θ_run _ _ _).mono (fun r h => ⟨fun c => (h c).2, sem_eq_zero_of_no_sems (by decide) r.2⟩)
    (Cert.Reference19Ideal.Value.run m ρ)

end Cert.SumReplicated

end
-- ==== Proof.SumSharded.lean ====
module

public import proofs.«01_k».proof.Defs
public import proofs.«01_k».proof.Proof.Gen.Kernel20
public import proofs.«01_k».proof.Proof.Gen.Kernel20Ideal.Frame
public import proofs.«01_k».proof.Proof.Gen.Reference20Ideal.Read
public import Idealize.ShloMosaic.Lib.Pipeline.ValueKit
public import Idealize.ShloMosaic.Lib.Quiescent

/-! The sum over the devices of the packed gradients of the small parameters that the devices share. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.SumSharded

open Cert.Kernel20Ideal Cert.Kernel20Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem word : tbM0_0.view.readAt (Elt F) (Rect.unit (s := S1) ![0] S1.size inb_S1_S1_0).toLoadRect (zero 0)
    (Shape.Idx.first (numel1_S1.symm ▸ Nat.one_pos)) = (0#32 : BitVec 32) := rfl

theorem zero_ok : ok0 (F := F) zero := trivial

theorem ok : Ok m := by
  rw [Ok, table]
  exact zero_ok

theorem adm_eq : adm m (ok m) = ⟨zero, zero_ok (F := F)⟩ := Subtype.ext (table m)
theorem hyps : Hyps m (ok m) := fun c t => by
  rw [table m, word]
  decide +kernel
end

theorem idx (a : (pcfg0 (F := Ideal)).Adm) (h : a = ⟨zero, zero_ok (F := Ideal)⟩) : ∀ t : Fin (pcfg0.gridAt a.1).N,
    (pcfg0.win a (0 : Fin (cfg0 a).W)).index t = ![t.val, 0] ∧ (pcfg0.win a (1 : Fin (cfg0 a).W)).index t = ![0, t.val, 0]
    ∧ (pcfg0.win a (2 : Fin (cfg0 a).W)).index t = ![t.val, 0] := by
  subst h
  decide +kernel

theorem covers (a : (pcfg0 (F := Ideal)).Adm) (h : a = ⟨zero, zero_ok (F := Ideal)⟩) : ((cfg0 a).win 2).Covers := by
  subst h
  decide +kernel

variable (m : (ℓ : Loc nD τ sig) → Buf (Elt Ideal) ℓ) (c : Dev nD)

def own (t : Fin (cfgM m (ok m)).N) : Vec Ideal S128x128 .f32 := iblk m (ok m) c 0 t
def land (t : Fin (cfgM m (ok m)).N) : Vec Ideal S7x128x128 .f32 := iblk m (ok m) c 1 t

def total (t : Fin (cfgM m (ok m)).N) : Vec Ideal S128x128 .f32 := fun y =>
  own m c t y + ∑ x, land m c t (ix3 x (y 0) (y 1))

theorem inb (k : Fin 7) : ∀ a, (![k.val, 0, 0] : Fin 3 → Nat) a + (![1, 128, 128] : Fin 3 → Nat) a ≤ S7x128x128.size a := by
  revert k
  decide +kernel

def row (x1 : Vec Ideal S7x128x128 .f32) (k : Fin 7) : Vec Ideal S1x128x128 .f32 := View.ld x1 (Rect.unit ![k.val, 0, 0] ![1, 128, 128] (inb k))

theorem sum_eq (x0 : Vec Ideal S128x128 .f32) (x1 : Vec Ideal S7x128x128 .f32) :
    k0_pay1 0#32 (k0_pay3 0#32 (k0_pay2 0#32 x0 (row x1 0) x0 (row x1 0) x0 (row x1 1)) x0 (row x1 2) x0 (row x1 3)
      x0 (row x1 4)) (Scalar.cmpi .eq 0#32 6#32) x0 (row x1 5) x0 (row x1 6)
      = fun y => x0 y + ∑ x, x1 (ix3 x (y 0) (y 1)) := by
  funext y
  pointwise [k0_pay1, k0_pay2, k0_pay3, row]
  rw [Fin.sum_univ_seven]
  simp only [add_assoc (G := EReal)]
  rfl

theorem outs (t : Fin (cfgM m (ok m)).N) : outsAt0 m (ok m) (hyps m) c t = total m c t := by
  unfold total own land outsAt0
  generalize iblk m (ok m) c 0 t = x0
  generalize iblk m (ok m) c 1 t = x1
  change Vec Ideal S128x128 .f32 at x0
  change Vec Ideal S7x128x128 .f32 at x1
  have h := Hyps.c0 (hyps m) c t
  change out0_A_2 c _ _ _ _ _ _ _ x0 x1 (tbl m 0) h = _
  revert h
  rw [table m]
  intro h
  frame_out
  exact sum_eq x0 x1

theorem sum : (dats m (ok m) (hyps m) 0 c).arrAt 2 (cfgM m (ok m)).N
    = Cert.Reference20Ideal.Read.val_main_v1 (F := Ideal) (m ((c : Thread nD τ).loc main_arg0)) (m ((c : Thread nD τ).loc main_arg1)) := by
  refine (dats m (ok m) (hyps m) 0 c).arrAt_eq_of_covers 2 _ (covers _ (adm_eq m)) fun t _ y => ?_
  blk_simp
  rw [after0_2, outs, ← Cert.Reference20Ideal.Read.val_main_v1_eq]
  pointwise
  simp only [total, own, land]
  blk_point [iblk, V, idx _ (adm_eq m) t]

attribute [local instance] Cert.Kernel20.Gen.facts Cert.Kernel20Ideal.Gen.facts Cert.Reference20Ideal.Gen.facts

theorem algebraic : Cert.algebraic_Kernel20Ideal_Reference20Ideal := by
  intro m g m' g' _ same
  refine ⟨fun c => (dats m (ok m) (hyps m) 0 c).arrAt 2 (cfgM m (ok m)).N,
    (θ_run _ _ _).mono (fun r h c => ⟨(h.1 c).1 2, h.2 c⟩)
      (θ_run_and (run_main m g (ok m) (hyps m)) (unchanged m g (ok m) (hyps m))),
    (θ_run _ _ _).mono (fun r h c => ⟨(h c).1.trans ?_, (h c).2⟩) (Cert.Reference20Ideal.Value.run m' g')⟩
  rw [(same c).1, (same c).2]
  exact (sum m c).symm

theorem defs_eq : @Cert.Kernel20Ideal.defs Bits _ _ = @Cert.Kernel20.defs Bits _ _ := by
  refine congrArg (Pipeline.defs Cert.Kernel20Ideal.pcfgs) (congrArg Defs.onTc (funext fun l => funext fun a => ?_))
  match l, a with
  | 0, (t, s) => rfl

theorem frame_kernel : Cert.quiescent_Kernel20 := fun m ρ _ => by
  have h := Cert.Kernel20Ideal.Gen.frame (F := Bits) m ρ (ok m) (hyps m)
  rw [defs_eq] at h
  exact h

theorem frame_ideal : Cert.quiescent_Kernel20Ideal := fun m ρ _ => Cert.Kernel20Ideal.Gen.frame m ρ (ok m) (hyps m)

theorem frame_reference : Cert.quiescent_Reference20Ideal := fun m ρ _ =>
  (θ_run _ _ _).mono (fun r h => ⟨fun c => (h c).2, sem_eq_zero_of_no_sems (by decide) r.2⟩)
    (Cert.Reference20Ideal.Value.run m ρ)

end Cert.SumSharded

end
-- ==== Proof.FfnUpStep1.lean ====
module

public import proofs.«01_k».proof.Defs
public import proofs.«01_k».proof.Proof.Gen.Kernel21
public import proofs.«01_k».proof.Proof.Gen.Kernel21Ideal.Frame
public import proofs.«01_k».proof.Proof.Gen.Reference21Ideal.Read
public import Idealize.ShloMosaic.Lib.Pipeline.ValueKit
public import Idealize.ShloMosaic.Lib.Quiescent

/-! The optimiser's step of the second layer's up weight, which fills half of each result. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.FfnUpStep1

open Cert.Kernel21Ideal Cert.Kernel21Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![1, t.val, 0]
    ∧ (pcfg0.win a (3 : Fin (cfg0 a).W)).index t = ![1, t.val, 0] ∧ (pcfg0.win a (4 : Fin (cfg0 a).W)).index t = ![1, t.val, 0] ∧ (pcfg0.win a (5 : Fin (cfg0 a).W)).index t = ![1, t.val, 0]
    ∧ (pcfg0.win a (6 : Fin (cfg0 a).W)).index t = ![1, t.val, 0] ∧ (pcfg0.win a (7 : Fin (cfg0 a).W)).index t = ![1, t.val, 0] ∧ (pcfg0.win a (8 : Fin (cfg0 a).W)).index t = ![1, t.val, 0] := by
  subst h
  decide +kernel

theorem covers (a : (pcfg0 (F := Ideal)).Adm) (h : a = ⟨zero, zero_ok⟩) :
    ((cfg0 a).win 5).CoversWhere (fun β => β (0 : Fin 3) = 1) ∧ ((cfg0 a).win 6).CoversWhere (fun β => β (0 : Fin 3) = 1)
    ∧ ((cfg0 a).win 7).CoversWhere (fun β => β (0 : Fin 3) = 1) ∧ ((cfg0 a).win 8).CoversWhere (fun β => β (0 : Fin 3) = 1) := by
  subst h
  decide +kernel

variable (m : (ℓ : Loc nD τ sig) → Buf (Elt Ideal) ℓ) (c : Dev nD)

def own (t : Fin (cfgM m (ok m)).N) : Vec Ideal S256x1408 .bf16 := iblk m (ok m) c 0 t
def land (t : Fin (cfgM m (ok m)).N) : Vec Ideal S7x256x1408 .bf16 := iblk m (ok m) c 1 t
def weight (t : Fin (cfgM m (ok m)).N) : Vec Ideal S1x256x1408 .f32 := iblk m (ok m) c 2 t
def mean (t : Fin (cfgM m (ok m)).N) : Vec Ideal S1x256x1408 .f32 := iblk m (ok m) c 3 t
def square (t : Fin (cfgM m (ok m)).N) : Vec Ideal S1x256x1408 .f32 := iblk m (ok m) c 4 t

def total (t : Fin (cfgM m (ok m)).N) : Vec Ideal S256x1408 .f32 := fun y =>
  own m c t y + ∑ x, land m c t (ix3 x (y 0) (y 1))

theorem sum_eq (x0 : Vec Ideal S256x1408 .bf16) (x1 : Vec Ideal S7x256x1408 .bf16) :
    k0_pay3 x0 (View.ld x1 (Rect.unit ![0, 0, 0] ![1, 256, 1408] inb_S7x256x1408_S1x256x1408_0_0_0))
      (View.ld x1 (Rect.unit ![1, 0, 0] ![1, 256, 1408] inb_S7x256x1408_S1x256x1408_1_0_0))
      (View.ld x1 (Rect.unit ![2, 0, 0] ![1, 256, 1408] inb_S7x256x1408_S1x256x1408_2_0_0))
      (View.ld x1 (Rect.unit ![3, 0, 0] ![1, 256, 1408] inb_S7x256x1408_S1x256x1408_3_0_0))
      (View.ld x1 (Rect.unit ![4, 0, 0] ![1, 256, 1408] inb_S7x256x1408_S1x256x1408_4_0_0))
      (View.ld x1 (Rect.unit ![5, 0, 0] ![1, 256, 1408] inb_S7x256x1408_S1x256x1408_5_0_0))
      (View.ld x1 (Rect.unit ![6, 0, 0] ![1, 256, 1408] inb_S7x256x1408_S1x256x1408_6_0_0))
      = fun y => x0 y + ∑ x, x1 (ix3 x (y 0) (y 1)) := by
  funext y
  pointwise [k0_pay3]
  rw [Fin.sum_univ_seven]
  simp only [add_assoc (G := EReal)]

abbrev keep : Ideal .f32 := Scalar.ofBits .f32 0x3F666666#32

theorem outs (t : Fin (cfgM m (ok m)).N) : outsAt0 m (ok m) c t =
    (k0_pay7 (F := Ideal) (total m c t), k0_pay8 (total m c t) (k0_pay4 (mean m c t)) keep (square m c t) (weight m c t),
      k0_pay1 (k0_pay5 (total m c t) (k0_pay4 (mean m c t)) keep), k0_pay2 (k0_pay6 (total m c t) (square m c t))) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S256x1408 .bf16 at x0
  change Vec Ideal S7x256x1408 .bf16 at x1
  change Vec Ideal S1x256x1408 .f32 at x2 x3 x4
  frame_out
  rw [sum_eq]

def second (x : Vec Ideal S2x2048x1408 .f32) : Vec Ideal S2048x1408 .f32 :=
  shapeCast S2048x1408 (extractStridedSlice S1x2048x1408 ![1, 0, 0] x slices_S2x2048x1408_S1x2048x1408_1_0_0) shapeCasts_S1x2048x1408_S2048x1408

theorem second_at (x : Vec Ideal S2x2048x1408 .f32) (i : S2048x1408.Idx) : second x i = x (ix3 1 (i 0) (i 1)) := by
  unfold second
  pointwise

theorem gradient : second ((dats m (ok m) 0 c).arrAt 5 (cfgM m (ok m)).N)
    = Cert.Reference21Ideal.Read.val_main_v10 (F := Ideal) (m ((c : Thread nD τ).loc main_arg0)) (m ((c : Thread nD τ).loc main_arg1)) := by
  funext i
  refine (second_at _ i).trans (((dats m (ok m) 0 c).arrAt_emb_eq_of_coversWhere 5
    (fun i : S2x2048x1408.Idx => Cert.Reference21Ideal.Read.val_main_v10 (F := Ideal) (m ((c : Thread nD τ).loc main_arg0)) (m ((c : Thread nD τ).loc main_arg1)) (ix2 (i 1) (i 2)))
    _ (covers _ (adm_eq m)).1 (fun t _ y => ?_) (ix3 1 (i 0) (i 1) : S2x2048x1408.Idx)).trans
      ((if_pos (Nat.div_one 1)).trans (congrArg _ (funext fun d => by fin_cases d <;> rfl))))
  blk_simp
  rw [after0_5, outs, ← Cert.Reference21Ideal.Read.val_main_v10_eq]
  pointwise [k0_pay1, k0_pay2, k0_pay4, k0_pay5, k0_pay6, k0_pay7, k0_pay8]
  simp only [total, own, land, weight, mean, square]
  blk_point [iblk, V, idx _ (adm_eq m) t]

theorem gradient_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v3) = second ((dats m (ok m) 0 c).arrAt 5 (cfgM m (ok m)).N) := by
  refine ((h c).2 main_v3 (show main_v3 ∈ Pipeline.restRefs sig spec0 by decide)).trans ?_
  show StableHlo.after hostOps1 _ (Proc.devRef .tc main_v3) = _
  after_results_simp
  exact congrArg second (Pipeline.withArrays_arr spec0 (launch0 (F := Ideal)).win.arr_inj c (V0 m c) (fun w => (dats m (ok m) 0 c).arrAt w (cfgM m (ok m)).N) 5)

theorem step : second ((dats m (ok m) 0 c).arrAt 6 (cfgM m (ok m)).N)
    = Cert.Reference21Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  funext i
  refine (second_at _ i).trans (((dats m (ok m) 0 c).arrAt_emb_eq_of_coversWhere 6
    (fun i : S2x2048x1408.Idx => Cert.Reference21Ideal.Read.val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 (i 1) (i 2)))
    _ (covers _ (adm_eq m)).2.1 (fun t _ y => ?_) (ix3 1 (i 0) (i 1) : S2x2048x1408.Idx)).trans
      ((if_pos (Nat.div_one 1)).trans (congrArg _ (funext fun d => by fin_cases d <;> rfl))))
  blk_simp
  rw [after0_6, outs, ← Cert.Reference21Ideal.Read.val_main_v34_eq]
  pointwise [k0_pay1, k0_pay2, k0_pay4, k0_pay5, k0_pay6, k0_pay7, k0_pay8]
  simp only [total, own, land, weight, mean, square]
  blk_point [iblk, V, idx _ (adm_eq m) t]

theorem step_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v5) = second ((dats m (ok m) 0 c).arrAt 6 (cfgM m (ok m)).N) := by
  refine ((h c).2 main_v5 (show main_v5 ∈ Pipeline.restRefs sig spec0 by decide)).trans ?_
  show StableHlo.after hostOps1 _ (Proc.devRef .tc main_v5) = _
  after_results_simp
  exact congrArg second (Pipeline.withArrays_arr spec0 (launch0 (F := Ideal)).win.arr_inj c (V0 m c) (fun w => (dats m (ok m) 0 c).arrAt w (cfgM m (ok m)).N) 6)

theorem new_mean : second ((dats m (ok m) 0 c).arrAt 7 (cfgM m (ok m)).N)
    = Cert.Reference21Ideal.Read.val_main_v15 (F := Ideal) (m ((c : Thread nD τ).loc main_arg0)) (m ((c : Thread nD τ).loc main_arg1)) (m ((c : Thread nD τ).loc main_arg3)) := by
  funext i
  refine (second_at _ i).trans (((dats m (ok m) 0 c).arrAt_emb_eq_of_coversWhere 7
    (fun i : S2x2048x1408.Idx => Cert.Reference21Ideal.Read.val_main_v15 (F := Ideal) (m ((c : Thread nD τ).loc main_arg0)) (m ((c : Thread nD τ).loc main_arg1)) (m ((c : Thread nD τ).loc main_arg3)) (ix2 (i 1) (i 2)))
    _ (covers _ (adm_eq m)).2.2.1 (fun t _ y => ?_) (ix3 1 (i 0) (i 1) : S2x2048x1408.Idx)).trans
      ((if_pos (Nat.div_one 1)).trans (congrArg _ (funext fun d => by fin_cases d <;> rfl))))
  blk_simp
  rw [after0_7, outs, ← Cert.Reference21Ideal.Read.val_main_v15_eq]
  pointwise [k0_pay1, k0_pay2, k0_pay4, k0_pay5, k0_pay6, k0_pay7, k0_pay8]
  simp only [total, own, land, weight, mean, square]
  blk_point [iblk, V, idx _ (adm_eq m) t]

theorem new_mean_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v7) = second ((dats m (ok m) 0 c).arrAt 7 (cfgM m (ok m)).N) := by
  refine ((h c).2 main_v7 (show main_v7 ∈ Pipeline.restRefs sig spec0 by decide)).trans ?_
  show StableHlo.after hostOps1 _ (Proc.devRef .tc main_v7) = _
  after_results_simp
  exact congrArg second (Pipeline.withArrays_arr spec0 (launch0 (F := Ideal)).win.arr_inj c (V0 m c) (fun w => (dats m (ok m) 0 c).arrAt w (cfgM m (ok m)).N) 7)

theorem new_square : second ((dats m (ok m) 0 c).arrAt 8 (cfgM m (ok m)).N)
    = Cert.Reference21Ideal.Read.val_main_v21 (F := Ideal) (m ((c : Thread nD τ).loc main_arg0)) (m ((c : Thread nD τ).loc main_arg1)) (m ((c : Thread nD τ).loc main_arg4)) := by
  funext i
  refine (second_at _ i).trans (((dats m (ok m) 0 c).arrAt_emb_eq_of_coversWhere 8
    (fun i : S2x2048x1408.Idx => Cert.Reference21Ideal.Read.val_main_v21 (F := Ideal) (m ((c : Thread nD τ).loc main_arg0)) (m ((c : Thread nD τ).loc main_arg1)) (m ((c : Thread nD τ).loc main_arg4)) (ix2 (i 1) (i 2)))
    _ (covers _ (adm_eq m)).2.2.2 (fun t _ y => ?_) (ix3 1 (i 0) (i 1) : S2x2048x1408.Idx)).trans
      ((if_pos (Nat.div_one 1)).trans (congrArg _ (funext fun d => by fin_cases d <;> rfl))))
  blk_simp
  rw [after0_8, outs, ← Cert.Reference21Ideal.Read.val_main_v21_eq]
  pointwise [k0_pay1, k0_pay2, k0_pay4, k0_pay5, k0_pay6, k0_pay7, k0_pay8]
  simp only [total, own, land, weight, mean, square]
  blk_point [iblk, V, idx _ (adm_eq m) t]

theorem new_square_ends (r : PUnit × MemSt nD τ sig (Elt Ideal))
    (h : Pipeline.FramePost (Pipeline.pin pcfgs fun _ => adm m (ok m)) (dats m (ok m)) 0 (Pipeline.afterTail pcfgs (fun _ => adm m (ok m)) (dats m (ok m)) 0 (V0 m) [hostOps1]) r) :
    r.2.mem ((c : Thread nD τ).loc main_v9) = second ((dats m (ok m) 0 c).arrAt 8 (cfgM m (ok m)).N) := by
  refine ((h c).2 main_v9 (show main_v9 ∈ Pipeline.restRefs sig spec0 by decide)).trans ?_
  show StableHlo.after hostOps1 _ (Proc.devRef .tc main_v9) = _
  after_results_simp
  exact congrArg second (Pipeline.withArrays_arr spec0 (launch0 (F := Ideal)).win.arr_inj c (V0 m c) (fun w => (dats m (ok m) 0 c).arrAt w (cfgM m (ok m)).N) 8)

attribute [local instance] Cert.Kernel21.Gen.facts Cert.Kernel21Ideal.Gen.facts Cert.Reference21Ideal.Gen.facts

theorem algebraic : Cert.algebraic_Kernel21Ideal_Reference21Ideal := by
  intro m g m' g' _ same
  refine ⟨fun c => second ((dats m (ok m) 0 c).arrAt 5 (cfgM m (ok m)).N), fun c => second ((dats m (ok m) 0 c).arrAt 6 (cfgM m (ok m)).N),
    fun c => second ((dats m (ok m) 0 c).arrAt 7 (cfgM m (ok m)).N), fun c => second ((dats m (ok m) 0 c).arrAt 8 (cfgM m (ok m)).N),
    (θ_run _ _ _).mono (fun r h c => ⟨gradient_ends m c r h.1, step_ends m c r h.1, new_mean_ends m c r h.1, new_square_ends m c r h.1, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference21Ideal.Value.run m' g')⟩
  all_goals obtain ⟨e0, e1, e2, e3, e4⟩ := same c
  · rw [e0, e1]; exact (gradient m c).symm
  · rw [e0, e1, e2, e3, e4]; exact (step m c).symm
  · rw [e0, e1, e3]; exact (new_mean m c).symm
  · rw [e0, e1, e4]; exact (new_square m c).symm

theorem defs_eq : @Cert.Kernel21Ideal.defs Bits _ _ = @Cert.Kernel21.defs Bits _ _ := by
  refine congrArg (Pipeline.defs Cert.Kernel21Ideal.pcfgs) (congrArg Defs.onTc (funext fun l => funext fun a => ?_))
  match l, a with
  | 0, (t, s) => rfl

set_option maxHeartbeats 2000000 in
theorem frame_kernel : Cert.quiescent_Kernel21 := fun m ρ _ => by
  have h := Cert.Kernel21Ideal.Gen.frame (F := Bits) m ρ (ok m)
  rw [defs_eq] at h
  exact h

theorem frame_ideal : Cert.quiescent_Kernel21Ideal := fun m ρ _ => Cert.Kernel21Ideal.Gen.frame m ρ (ok m)

theorem frame_reference : Cert.quiescent_Reference21Ideal := fun m ρ _ =>
  (θ_run _ _ _).mono (fun r h => ⟨fun c => (h c).2.2.2.2, sem_eq_zero_of_no_sems (by decide) r.2⟩)
    (Cert.Reference21Ideal.Value.run m ρ)

end Cert.FfnUpStep1

end
-- ==== Proof.FfnUpStep0.lean ====
module

public import proofs.«01_k».proof.Defs
public import proofs.«01_k».proof.Proof.Gen.Kernel22
public import proofs.«01_k».proof.Proof.Gen.Kernel22Ideal.Frame
public import proofs.«01_k».proof.Proof.Gen.Reference22Ideal.Read
public import Idealize.ShloMosaic.Lib.Pipeline.ValueKit
public import Idealize.ShloMosaic.Lib.Quiescent

/-! The optimiser's step of the first layer's up weight, written into arrays that hold the second layer's. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.FfnUpStep0

open Cert.Kernel22Ideal Cert.Kernel22Ideal.Gen

section
variable {F : FTy → Type} [FloatOps F] (m : (ℓ : Loc nD τ sig) → Buf (Elt F) ℓ)

def zero : pre0.Contents (Elt F) := fun j => match j with
  | 0 => fun _ => (0#32 : BitVec 32)

theorem table : tbl m = zero := by
  funext j
  match j with
  | 0 =>
    show StableHlo.after hostOps0 (fun b => m (0, b)) (Proc.devRef .tc main_v0) = _
    after_results_simp
    rfl

theorem own_index (i : grid0.Coords) : cc0_transform_0 (F := F) inb_S1_S1_0 numel1_S1 zero i = ![(i 0).val, 0] := by
  have h : (zero (F := F)).at 0 (Rect.unit (s := S1) ![0] S1.size inb_S1_S1_0) numel1_S1 = 0#32 := rfl
  unfold cc0_transform_0
  rw [h]
  revert i
  decide +kernel

theorem zero_ok : ok0 (F := F) zero := fun i => by
  rw [own_index]
  revert i
  decide +kernel

theorem ok : Ok m := by
  rw [Ok, table]
  exact zero_ok

theorem adm_eq : adm m (ok m) = ⟨zero, zero_ok⟩ := Subtype.ext (table m)
end

theorem idx (a : (pcfg0 (F := Ideal)).Adm) (h : a = ⟨zero, zero_ok⟩) : ∀ t : Fin (pcfg0.gridAt a.1).N,
    (pcfg0.win a (0 : Fin (cfg0 a).W)).index t = ![t.val, 0] ∧ (pcfg0.win a (1 : Fin (cfg0 a).W)).index t = ![0, t.val, 0] ∧ (pcfg0.win a (2 : Fin (cfg0 a).W)).index t = ![0, t.val, 0]
    ∧ (pcfg0.win a (3 : Fin (cfg0 a).W)).index t = ![0, t.val, 0] ∧ (pcfg0.win a (4 : Fin (cfg0 a).W)).index t = ![0, t.val, 0] ∧ (pcfg0.win a (5 : Fin (cfg0 a).W)).index t = ![0, t.val, 0]
    ∧ (pcfg0.win a (6 : Fin (cfg0 a).W)).index t = ![0, t.val, 0] ∧ (pcfg0.win a (7 : Fin (cfg0 a).W)).index t = ![0, t.val, 0] ∧ (pcfg0.win a (8 : Fin (cfg0 a).W)).index t = ![0, t.val, 0] := by
  subst h
  decide +kernel

theorem covers (a : (pcfg0 (F := Ideal)).Adm) (h : a = ⟨zero, zero_ok⟩) :
    ((cfg0 a).win 5).CoversWhere (fun β => β (0 : Fin 3) = 0) ∧ ((cfg0 a).win 6).CoversWhere (fun β => β (0 : Fin 3) = 0)
    ∧ ((cfg0 a).win 7).CoversWhere (fun β => β (0 : Fin 3) = 0) ∧ ((cfg0 a).win 8).CoversWhere (fun β => β (0 : Fin 3) = 0) := by
  subst h
  decide +kernel

variable (m : (ℓ : Loc nD τ sig) → Buf (Elt Ideal) ℓ) (c : Dev nD)

def own (t : Fin (cfgM m (ok m)).N) : Vec Ideal S256x1408 .bf16 := iblk m (ok m) c 0 t
def land (t : Fin (cfgM m (ok m)).N) : Vec Ideal S7x256x1408 .bf16 := iblk m (ok m) c 1 t
def weight (t : Fin (cfgM m (ok m)).N) : Vec Ideal S1x256x1408 .f32 := iblk m (ok m) c 2 t
def mean (t : Fin (cfgM m (ok m)).N) : Vec Ideal S1x256x1408 .f32 := iblk m (ok m) c 3 t
def square (t : Fin (cfgM m (ok m)).N) : Vec Ideal S1x256x1408 .f32 := iblk m (ok m) c 4 t

def total (t : Fin (cfgM m (ok m)).N) : Vec Ideal S256x1408 .f32 := fun y =>
  own m c t y + ∑ x, land m c t (ix3 x (y 0) (y 1))

theorem sum_eq (x0 : Vec Ideal S256x1408 .bf16) (x1 : Vec Ideal S7x256x1408 .bf16) :
    k0_pay3 x0 (View.ld x1 (Rect.unit ![0, 0, 0] ![1, 256, 1408] inb_S7x256x1408_S1x256x1408_0_0_0))
      (View.ld x1 (Rect.unit ![1, 0, 0] ![1, 256, 1408] inb_S7x256x1408_S1x256x1408_1_0_0))
      (View.ld x1 (Rect.unit ![2, 0, 0] ![1, 256, 1408] inb_S7x256x1408_S1x256x1408_2_0_0))
      (View.ld x1 (Rect.unit ![3, 0, 0] ![1, 256, 1408] inb_S7x256x1408_S1x256x1408_3_0_0))
      (View.ld x1 (Rect.unit ![4, 0, 0] ![1, 256, 1408] inb_S7x256x1408_S1x256x1408_4_0_0))
      (View.ld x1 (Rect.unit ![5, 0, 0] ![1, 256, 1408] inb_S7x256x1408_S1x256x1408_5_0_0))
      (View.ld x1 (Rect.unit ![6, 0, 0] ![1, 256, 1408] inb_S7x256x1408_S1x256x1408_6_0_0))
      = fun y => x0 y + ∑ x, x1 (ix3 x (y 0) (y 1)) := by
  funext y
  pointwise [k0_pay3]
  rw [Fin.sum_univ_seven]
  simp only [add_assoc (G := EReal)]

abbrev keep : Ideal .f32 := Scalar.ofBits .f32 0x3F666666#32

theorem outs (t : Fin (cfgM m (ok m)).N) : outsAt0 m (ok m) c t =
    (k0_pay7 (F := Ideal) (total m c t), k0_pay8 (total m c t) (k0_pay4 (mean m c t)) keep (square m c t) (weight m c t),
      k0_pay1 (k0_pay5 (total m c t) (k0_pay4 (mean m c t)) keep), k0_pay2 (k0_pay6 (total m c t) (square m c t))) := by
  unfold total own land weight mean square outsAt0
  generalize iblk m (ok m) c 0 t = x0
  generalize iblk m (ok m) c 1 t = x1
  generalize iblk m (ok m) c 2 t = x2
  generalize iblk m (ok m) c 3 t = x3
  generalize iblk m (ok m) c 4 t = x4
  change Vec Ideal S256x1408 .bf16 at x0
  change Vec Ideal S7x256x1408 .bf16 at x1
  change Vec Ideal S1x256x1408 .f32 at x2 x3 x4
  frame_out
  rw [sum_eq]

theorem stack_at (a b : Vec Ideal Cert.Reference22Ideal.S2048x1408 .f32) (i : Cert.Reference22Ideal.S2x2048x1408.Idx) :
    concatenate Cert.Reference22Ideal.S2x2048x1408 0
      [⟨Cert.Reference22Ideal.S1x2048x1408, broadcastInDim Cert.Reference22Ideal.S1x2048x1408 ![1, 2] Cert.Reference22Ideal.Gen.bcast_S2048x1408_S1x2048x1408_1_2 a⟩,
        ⟨Cert.Reference22Ideal.S1x2048x1408, broadcastInDim Cert.Reference22Ideal.S1x2048x1408 ![1, 2] Cert.Reference22Ideal.Gen.bcast_S2048x1408_S1x2048x1408_1_2 b⟩]
      Cert.Reference22Ideal.Gen.concatenates_S1x2048x1408_S1x2048x1408_S2x2048x1408_d0 i
      = if (i 0).val = 0 then a (ix2 (i 1) (i 2)) else b (ix2 (i 1) (i 2)) := by
  pointwise
  rcases Nat.eq_zero_or_pos (i 0).val with h | h
  · rw [dif_pos (by omega), if_pos h]
  · rw [dif_neg (by omega), if_neg (by omega)]

theorem other_at (x : Vec Ideal Cert.Reference22Ideal.S2x2048x1408 .f32) (i : Cert.Reference22Ideal.S2x2048x1408.Idx) (h : ¬ (i 0).val = 0) :
    shapeCast Cert.Reference22Ideal.S2048x1408 (extractStridedSlice Cert.Reference22Ideal.S1x2048x1408 ![1, 0, 0] x
      Cert.Reference22Ideal.Gen.slices_S2x2048x1408_S1x2048x1408_1_0_0) Cert.Reference22Ideal.Gen.shapeCasts_S1x2048x1408_S2048x1408 (ix2 (i 1) (i 2)) = x i := by
  have h1 : (1 : Fin 2) = i 0 := Fin.ext (by have := (i 0).isLt; simp at this; simp; omega)
  pointwise
  rw [h1]
  exact congrArg x (funext fun d => by fin_cases d <;> rfl)

theorem kept (a : Vec Ideal Cert.Reference22Ideal.S2048x1408 .f32) (x : Vec Ideal Cert.Reference22Ideal.S2x2048x1408 .f32)
    (i : Cert.Reference22Ideal.S2x2048x1408.Idx) (h : ¬ (i 0).val = 0) :
    concatenate Cert.Reference22Ideal.S2x2048x1408 0
      [⟨Cert.Reference22Ideal.S1x2048x1408, broadcastInDim Cert.Reference22Ideal.S1x2048x1408 ![1, 2] Cert.Reference22Ideal.Gen.bcast_S2048x1408_S1x2048x1408_1_2 a⟩,
        ⟨Cert.Reference22Ideal.S1x2048x1408, broadcastInDim Cert.Reference22Ideal.S1x2048x1408 ![1, 2] Cert.Reference22Ideal.Gen.bcast_S2048x1408_S1x2048x1408_1_2
          (shapeCast Cert.Reference22Ideal.S2048x1408 (extractStridedSlice Cert.Reference22Ideal.S1x2048x1408 ![1, 0, 0] x
            Cert.Reference22Ideal.Gen.slices_S2x2048x1408_S1x2048x1408_1_0_0) Cert.Reference22Ideal.Gen.shapeCasts_S1x2048x1408_S2048x1408)⟩]
      Cert.Reference22Ideal.Gen.concatenates_S1x2048x1408_S1x2048x1408_S2x2048x1408_d0 i = x i := by
  rw [stack_at, if_neg h, other_at x i h]

theorem carried_gradient : V m c main_v1_0 = m ((c : Thread nD τ).loc main_arg5) := by
  show StableHlo.after hostOps0 (fun b => m (c, b)) (Proc.devRef .tc main_v1_0) = _
  after_results_simp
  rfl

theorem carried_step : V m c main_v1_1 = m ((c : Thread nD τ).loc main_arg6) := by
  show StableHlo.after hostOps0 (fun b => m (c, b)) (Proc.devRef .tc main_v1_1) = _
  after_results_simp
  rfl

theorem carried_new_mean : V m c main_v1_2 = m ((c : Thread nD τ).loc main_arg7) := by
  show StableHlo.after hostOps0 (fun b => m (c, b)) (Proc.devRef .tc main_v1_2) = _
  after_results_simp
  rfl

theorem carried_new_square : V m c main_v1_3 = m ((c : Thread nD τ).loc main_arg8) := by
  show StableHlo.after hostOps0 (fun b => m (c, b)) (Proc.devRef .tc main_v1_3) = _
  after_results_simp
  rfl

theorem gradient : (dats m (ok m) 0 c).arrAt 5 (cfgM m (ok m)).N
    = Cert.Reference22Ideal.Read.val_main_v39 (F := Ideal) (m ((c : Thread nD τ).loc main_arg0)) (m ((c : Thread nD τ).loc main_arg1)) (m ((c : Thread nD τ).loc main_arg5)) := by
  refine (dats m (ok m) 0 c).arrAt_eq_of_coversWhere_of_agree 5 _ _ (covers _ (adm_eq m)).1 (fun t _ y => ?_) (fun j hj => ?_)
  · blk_simp
    rw [after0_5, outs, ← Cert.Reference22Ideal.Read.val_main_v39_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference22Ideal.Read.val_main_v39_eq]
    exact (congrFun (carried_gradient m c) _).trans (kept _ _ _ fun h => hj ((Nat.div_one _).trans h)).symm

theorem step : (dats m (ok m) 0 c).arrAt 6 (cfgM m (ok m)).N
    = Cert.Reference22Ideal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) := by
  refine (dats m (ok m) 0 c).arrAt_eq_of_coversWhere_of_agree 6 _ _ (covers _ (adm_eq m)).2.1 (fun t _ y => ?_) (fun j hj => ?_)
  · blk_simp
    rw [after0_6, outs, ← Cert.Reference22Ideal.Read.val_main_v44_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference22Ideal.Read.val_main_v44_eq]
    exact (congrFun (carried_step m c) _).trans (kept _ _ _ fun h => hj ((Nat.div_one _).trans h)).symm

theorem new_mean : (dats m (ok m) 0 c).arrAt 7 (cfgM m (ok m)).N
    = Cert.Reference22Ideal.Read.val_main_v49 (F := Ideal) (m ((c : Thread nD τ).loc main_arg0)) (m ((c : Thread nD τ).loc main_arg1)) (m ((c : Thread nD τ).loc main_arg3)) (m ((c : Thread nD τ).loc main_arg7)) := by
  refine (dats m (ok m) 0 c).arrAt_eq_of_coversWhere_of_agree 7 _ _ (covers _ (adm_eq m)).2.2.1 (fun t _ y => ?_) (fun j hj => ?_)
  · blk_simp
    rw [after0_7, outs, ← Cert.Reference22Ideal.Read.val_main_v49_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference22Ideal.Read.val_main_v49_eq]
    exact (congrFun (carried_new_mean m c) _).trans (kept _ _ _ fun h => hj ((Nat.div_one _).trans h)).symm

theorem new_square : (dats m (ok m) 0 c).arrAt 8 (cfgM m (ok m)).N
    = Cert.Reference22Ideal.Read.val_main_v54 (F := Ideal) (m ((c : Thread nD τ).loc main_arg0)) (m ((c : Thread nD τ).loc main_arg1)) (m ((c : Thread nD τ).loc main_arg4)) (m ((c : Thread nD τ).loc main_arg8)) := by
  refine (dats m (ok m) 0 c).arrAt_eq_of_coversWhere_of_agree 8 _ _ (covers _ (adm_eq m)).2.2.2 (fun t _ y => ?_) (fun j hj => ?_)
  · blk_simp
    rw [after0_8, outs, ← Cert.Reference22Ideal.Read.val_main_v54_eq]
    refine Eq.trans ?_ (stack_at _ _ _).symm
    rw [if_pos (by blk_simp [idx _ (adm_eq m) t])]
    pointwise [k0_pay1, k0_pay2, k0_pay4, k0_pay5, k0_pay6, k0_pay7, k0_pay8]
    simp only [total, own, land, weight, mean, square]
    blk_point [iblk, V, idx _ (adm_eq m) t]
  · rw [A_eq, ← Cert.Reference22Ideal.Read.val_main_v54_eq]
    exact (congrFun (carried_new_square m c) _).trans (kept _ _ _ fun h => hj ((Nat.div_one _).trans h)).symm

attribute [local instance] Cert.Kernel22.Gen.facts Cert.Kernel22Ideal.Gen.facts Cert.Reference22Ideal.Gen.facts

theorem algebraic : Cert.algebraic_Kernel22Ideal_Reference22Ideal := by
  intro m g m' g' _ same
  refine ⟨fun c => (dats m (ok m) 0 c).arrAt 5 (cfgM m (ok m)).N, fun c => (dats m (ok m) 0 c).arrAt 6 (cfgM m (ok m)).N,
    fun c => (dats m (ok m) 0 c).arrAt 7 (cfgM m (ok m)).N, fun c => (dats m (ok m) 0 c).arrAt 8 (cfgM m (ok m)).N,
    (θ_run _ _ _).mono (fun r h c => ⟨(h.1 c).1 5, (h.1 c).1 6, (h.1 c).1 7, (h.1 c).1 8, h.2 c⟩)
      (θ_run_and (run_main m g (ok m)) (unchanged m g (ok m))),
    (θ_run _ _ _).mono (fun r h c => ⟨(h c).1.trans ?_, (h c).2.1.trans ?_, (h c).2.2.1.trans ?_, (h c).2.2.2.1.trans ?_,
      (h c).2.2.2.2⟩) (Cert.Reference22Ideal.Value.run m' g')⟩
  all_goals obtain ⟨e0, e1, e2, e3, e4, e5, e6, e7, e8⟩ := same c
  · rw [e0, e1, e5]; exact (gradient m c).symm
  · rw [e0, e1, e2, e3, e4, e6]; exact (step m c).symm
  · rw [e0, e1, e3, e7]; exact (new_mean m c).symm
  · rw [e0, e1, e4, e8]; exact (new_square m c).symm

theorem defs_eq : @Cert.Kernel22Ideal.defs Bits _ _ = @Cert.Kernel22.defs Bits _ _ := by
  refine congrArg (Pipeline.defs Cert.Kernel22Ideal.pcfgs) (congrArg Defs.onTc (funext fun l => funext fun a => ?_))
  match l, a with
  | 0, (t, s) => rfl

set_option maxHeartbeats 2000000 in
theorem frame_kernel : Cert.quiescent_Kernel22 := fun m ρ _ => by
  have h := Cert.Kernel22Ideal.Gen.frame (F := Bits) m ρ (ok m)
  rw [defs_eq] at h
  exact h

theorem frame_ideal : Cert.quiescent_Kernel22Ideal := fun m ρ _ => Cert.Kernel22Ideal.Gen.frame m ρ (ok m)

theorem frame_reference : Cert.quiescent_Reference22Ideal := fun m ρ _ =>
  (θ_run _ _ _).mono (fun r h => ⟨fun c => (h c).2.2.2.2, sem_eq_zero_of_no_sems (by decide) r.2⟩)
    (Cert.Reference22Ideal.Value.run m ρ)

end Cert.FfnUpStep0

end
-- ==== Proof.Loss.lean ====
module

public import proofs.«01_k».proof.Defs
public import proofs.«01_k».proof.Proof.Gen.Kernel23.Frame
public import proofs.«01_k».proof.Proof.Gen.Kernel23Ideal.Value
public import proofs.«01_k».proof.Proof.Gen.Reference23Ideal.Read
public import Idealize.ShloMosaic.Lib.Pipeline.ValueKit
public import Idealize.ShloMosaic.Lib.Quiescent

/-! The loss: the squared error behind the last layer norm. The kernel sums it over the rows of eight blocks first, column by column, and scales the whole sum at the end; the reference scales every row's mean. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.Loss

open Cert.Kernel23Ideal Cert.Kernel23Ideal.Gen

theorem sq_nonneg (x : EReal) : 0 ≤ x * x := by
  rcases le_total 0 x with h | h
  · exact mul_nonneg h h
  · rw [← neg_mul_neg]; exact mul_nonneg (EReal.neg_nonneg.mpr h) (EReal.neg_nonneg.mpr h)

theorem sum_scale {ι : Type*} (s : Finset ι) (f : ι → EReal) (h : ∀ i, 0 ≤ f i) (c : EReal) : (∑ i ∈ s, f i) * c = ∑ i ∈ s, f i * c := by
  classical
  induction s using Finset.induction_on with
  | empty => simp
  | insert a s ha ih => rw [Finset.sum_insert ha, Finset.sum_insert ha, EReal.right_distrib_of_nonneg (h a) (Finset.sum_nonneg fun i _ => h i), ih]

theorem half : Ideal.ofBits .f32 0x3F000000#32 = ((1 / 2 : ℝ) : EReal) := by
  simp [Ideal.ofBits, Ideal.ieee, -EReal.coe_mul]; norm_num
theorem width : Ideal.ofBits .f32 0x45000000#32 = ((2048 : ℝ) : EReal) := by
  simp [Ideal.ofBits, Ideal.ieee, -EReal.coe_mul]; norm_num
theorem scale : Ideal.ofBits .f32 0x39800000#32 = ((1 / 4096 : ℝ) : EReal) := by
  simp [Ideal.ofBits, Ideal.ieee, -EReal.coe_mul]; norm_num

theorem idx : ∀ t : Fin cfg0.N, win0_0.index t = ![t.val, 0] ∧ win0_1.index t = ![0, 0] ∧ win0_2.index t = ![0, 0]
    ∧ win0_3.index t = ![t.val, 0] ∧ win0_4.index t = ![0, 0] :=
  (by decide +kernel : ∀ t : Fin grid0.N, _)

theorem zero (j) : k0_pay4 (F := Ideal) j = 0 := by pointwise [k0_pay4]

theorem last (acc : FVec Ideal S1x2048 .f32) (j) :
    k0_pay1 acc j = (∑ k : Fin 2048, acc (ix2 0 k)) * ((1 / 4096 : ℝ) : EReal) := by
  rw [← scale]
  pointwise [k0_pay1]

theorem step (x : FVec Ideal S512x2048 .f32) (g b : FVec Ideal S1x2048 .f32) (y : FVec Ideal S512x2048 .f32) (acc : FVec Ideal S1x2048 .f32) (j) :
    k0_pay9 (F := Ideal) x g b y acc j = acc j + ∑ r : Fin 512, k0_pay8 (F := Ideal) x g b y (ix2 r (j 1)) * k0_pay8 (F := Ideal) x g b y (ix2 r (j 1)) := by
  unfold k0_pay9
  generalize k0_pay8 (F := Ideal) x g b y = e
  pointwise

open Cert.Reference23Ideal.Read in
theorem error (x : FVec Ideal S512x2048 .f32) (g b : FVec Ideal S1x2048 .f32) (y : FVec Ideal S512x2048 .f32)
    (X Y : FVec Ideal S4096x2048 .f32) (r : Fin 512) (i : Fin 4096) (k : Fin 2048) (hx : ∀ l : Fin 2048, x (ix2 r l) = X (ix2 i l)) (hy : y (ix2 r k) = Y (ix2 i k)) :
    k0_pay8 (F := Ideal) x g b y (ix2 r k) = val_main_v26 (F := Ideal) X g b Y (ix2 i k) := by
  unfold val_main_v26 val_main_v25 val_main_v24 val_main_v23 val_main_v22 val_main_v21 val_main_v20 val_main_v19 val_main_v18 val_main_v17
    val_main_v16 val_main_v15 val_main_cst_3 val_main_v14 val_main_v13 val_main_v12 val_main_v11 val_main_cst_2 val_main_v10 val_main_v9 val_main_cst_1
    val_main_v8 val_main_v7 val_main_v6 val_main_v5 val_main_v4 val_main_cst_0 val_main_v3 val_main_v2 val_main_cst val_main_v1 val_main_v0
  pointwise [k0_pay5, k0_pay6, k0_pay7, k0_pay8]
  simp only [hx, hy]

open Cert.Reference23Ideal.Read in
theorem total (X Y : FVec Ideal S4096x2048 .f32) (g b : FVec Ideal S1x2048 .f32) (j : S1x1.Idx) :
    val_main_v33 (F := Ideal) X g b Y j
      = (∑ i : Fin 4096, ∑ k : Fin 2048, val_main_v26 (F := Ideal) X g b Y (ix2 i k) * val_main_v26 (F := Ideal) X g b Y (ix2 i k)) * ((1 / 4096 : ℝ) : EReal) := by
  unfold val_main_v33 val_main_v32 val_main_cst_7 val_main_v31 val_main_cst_6 val_main_v30 val_main_v29 val_main_cst_5 val_main_v28 val_main_cst_4 val_main_v27
  generalize val_main_v26 (F := Ideal) X g b Y = e
  pointwise
  rw [half, width]
  simp only [Ideal.div_coe (show (2048 : ℝ) ≠ 0 by norm_num)]
  rw [← sum_scale _ _ (fun i => Finset.sum_nonneg fun k _ => sq_nonneg _), mul_comm, mul_assoc, ← EReal.coe_mul]
  norm_num

theorem rows_one (m : (ℓ : Loc nD τ sig) → Buf (Elt Ideal) ℓ) (c : Dev nD) (t : Fin cfg0.N) : iblk m c 1 t = m ((c : Thread nD τ).loc main_arg1) := by
  funext y
  blk_point [iblk, V, idx t]

theorem rows_two (m : (ℓ : Loc nD τ sig) → Buf (Elt Ideal) ℓ) (c : Dev nD) (t : Fin cfg0.N) : iblk m c 2 t = m ((c : Thread nD τ).loc main_arg2) := by
  funext y
  blk_point [iblk, V, idx t]

theorem final (m : (ℓ : Loc nD τ sig) → Buf (Elt Ideal) ℓ) (c : Dev nD) : (dats m 0 c).arrAt 4 (cfgs 0).N
    = Cert.Reference23Ideal.Read.val_main_v33 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have h7 : t.val % 8 = 7 := (flush0_4 t).mp hf
  have h0 : ¬ t.val % 8 = 0 := by omega
  have hout : (outsAt0 m c t.val t.isLt).1 y = (∑ k : Fin 2048, (outsAt0 m c t.val t.isLt).2.2.2.2.2 (ix2 0 k)) * ((1 / 4096 : ℝ) : EReal) := by
    rw [outsAt0_C m c t h0 h7]; frame_out; rw [last]
  blk_simp
  rw [after0_4]
  refine hout.trans ?_
  rw [total]
  refine congrArg (fun a : EReal => a * ((1 / 4096 : ℝ) : EReal)) ((Fin.sum_fin_congr fun k => ?_).trans Finset.sum_comm)
  rw [Pipeline.eq_sum_fin_of_reset_step_apply_of_flush (fun n h => (outsAt0 m c n h).2.2.2.2.2) 8 (fun _ => 0)
    (fun p j => ∑ r : Fin 512, k0_pay8 (F := Ideal) (iblk m c 0 p) (iblk m c 1 p) (iblk m c 2 p) (iblk m c 3 p) (ix2 r (j 1)) * k0_pay8 (F := Ideal) (iblk m c 0 p) (iblk m c 1 p) (iblk m c 2 p) (iblk m c 3 p) (ix2 r (j 1)))
    (fun t h j => by rw [outsAt0_A m c t h (by omega)]; frame_out; rw [step, zero])
    (fun t h j => by
      by_cases h' : t.val % 8 = 7
      · rw [outsAt0_C m c t h h']; frame_out; rw [step, (Memref.isWhole_whole cc0_scratch0).read_unread]
      · rw [outsAt0_B m c t h h']; frame_out; rw [step, (Memref.isWhole_whole cc0_scratch0).read_unread])
    t h7 (ix2 0 k), zero_add]
  refine Fin.sum_mul_add_congr fun s r hl => ?_
  have hp : (8 * (t.val / 8) + s.val) = s.val := by have := Nat.lt_of_lt_of_eq t.isLt N_0; omega
  have key : k0_pay8 (F := Ideal) (iblk m c 0 ⟨_, Pipeline.run_point_lt_of_flush t h7 s⟩) (iblk m c 1 ⟨_, Pipeline.run_point_lt_of_flush t h7 s⟩) (iblk m c 2 ⟨_, Pipeline.run_point_lt_of_flush t h7 s⟩) (iblk m c 3 ⟨_, Pipeline.run_point_lt_of_flush t h7 s⟩) (ix2 r k)
      = Cert.Reference23Ideal.Read.val_main_v26 (F := Ideal) (m ((c : Thread nD τ).loc main_arg0)) (m ((c : Thread nD τ).loc main_arg1)) (m ((c : Thread nD τ).loc main_arg2)) (m ((c : Thread nD τ).loc main_arg3)) (ix2 ⟨s.val * 512 + r.val, hl⟩ k) := by
    rw [show iblk m c 1 ⟨_, Pipeline.run_point_lt_of_flush t h7 s⟩ = m ((c : Thread nD τ).loc main_arg1) from rows_one m c _,
      show iblk m c 2 ⟨_, Pipeline.run_point_lt_of_flush t h7 s⟩ = m ((c : Thread nD τ).loc main_arg2) from rows_two m c _]
    refine error _ _ _ _ _ _ _ _ _ (fun l => ?_) ?_
    · generalize hq : (⟨s.val * 512 + r.val, hl⟩ : Fin 4096) = q
      have hv : q.val = s.val * 512 + r.val := by rw [← hq]
      blk_point [iblk, V, idx ⟨_, Pipeline.run_point_lt_of_flush t h7 s⟩] <;> omega
    · generalize hq : (⟨s.val * 512 + r.val, hl⟩ : Fin 4096) = q
      have hv : q.val = s.val * 512 + r.val := by rw [← hq]
      blk_point [iblk, V, idx ⟨_, Pipeline.run_point_lt_of_flush t h7 s⟩] <;> omega
  exact congrArg₂ (fun a b : EReal => a * b) key key

attribute [local instance] Cert.Kernel23.Gen.facts Cert.Kernel23Ideal.Gen.facts Cert.Reference23Ideal.Gen.facts

theorem algebraic : Cert.algebraic_Kernel23Ideal_Reference23Ideal := by
  intro m g m' g' _ same
  refine ⟨fun c => (dats m 0 c).arrAt 4 cfg0.N, (θ_run _ _ _).mono (fun r h c => ⟨(h c).1, (h c).2.2.2.2.2⟩) (Cert.Kernel23Ideal.Value.run_blocks m g),
    (θ_run _ _ _).mono (fun r h c => ⟨(h c).1.trans ?_, (h c).2⟩) (Cert.Reference23Ideal.Value.run m' g')⟩
  obtain ⟨e0, e1, e2, e3⟩ := same c
  rw [Cert.Reference23Ideal.Read.val_main_v33_eq, e0, e1, e2, e3]
  exact (final m c).symm

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := fun m ρ _ =>
  (θ_run _ _ _).mono (fun r h => ⟨fun c => (h c).2, sem_eq_zero_of_no_sems (by decide) r.2⟩)
    (Cert.Reference23Ideal.Value.run m ρ)

end Cert.Loss

end
-- ==== Proof.EvInFwd.lean ====
module

public import proofs.«01_k».proof.Defs
public import proofs.«01_k».proof.Proof.Gen.Kernel24
public import proofs.«01_k».proof.Proof.Gen.Kernel24Ideal.Value
public import proofs.«01_k».proof.Proof.Gen.Reference24Ideal.Read
public import Idealize.ShloMosaic.Lib.Pipeline.ValueKit
public import Idealize.ShloMosaic.Lib.Quiescent

/-! The even mixer's input projection, its output in three parts. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.EvInFwd

open Cert.Kernel24Ideal Cert.Kernel24Ideal.Gen

theorem idx : ∀ t : Fin cfg0.N, win0_0.index t = ![t.val / 3, 0]
    ∧ win0_1.index t = ![0, t.val % 3]
    ∧ win0_2.index t = ![t.val % 3, t.val / 3, 0] :=
  (by decide +kernel : ∀ t : Fin grid0.N, _)

theorem final (m : (ℓ : Loc nD τ sig) → Buf (Elt Ideal) ℓ) (c : Dev nD) : (dats m 0 c).arrAt 2 (cfgs 0).N
    = Cert.Reference24Ideal.Read.val_main_v9 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference24Ideal.Read.val_main_v9_eq]
  frame_out
  have e : (((View.whole main_v0).slice (win0_2.rect t)).emb y 0).val = t.val % 3 + (y 0).val := by
    blk_point [idx t]
  pointwise [k0_pay1]
  blk_point [iblk, V, idx t] <;> omega

attribute [local instance] Cert.Kernel24.Gen.facts Cert.Kernel24Ideal.Gen.facts Cert.Reference24Ideal.Gen.facts

theorem algebraic : Cert.algebraic_Kernel24Ideal_Reference24Ideal := by
  intro m g m' g' _ same
  refine ⟨fun c => (dats m 0 c).arrAt 2 cfg0.N, Cert.Kernel24Ideal.Value.run_blocks m g,
    (θ_run _ _ _).mono (fun r h c => ⟨(h c).1.trans ?_, (h c).2⟩) (Cert.Reference24Ideal.Value.run m' g')⟩
  rw [(same c).1, (same c).2]
  exact (final m c).symm

theorem defs_eq : @Cert.Kernel24Ideal.defs Bits _ _ = @Cert.Kernel24.defs Bits _ _ := by
  refine congrArg (Pipeline.defs Cert.Kernel24Ideal.pcfgs) (congrArg Defs.onTc (funext fun l => funext fun a => ?_))
  match l, a with
  | 0, (t, s) => rfl

theorem frame_kernel : Cert.quiescent_Kernel24 := fun m ρ _ => by
  have h := Cert.Kernel24Ideal.Gen.frame (F := Bits) m ρ
  rw [defs_eq] at h
  exact h

theorem frame_ideal : Cert.quiescent_Kernel24Ideal := fun m ρ _ => Cert.Kernel24Ideal.Gen.frame m ρ

theorem frame_reference : Cert.quiescent_Reference24Ideal := fun m ρ _ =>
  (θ_run _ _ _).mono (fun r h => ⟨fun c => (h c).2, sem_eq_zero_of_no_sems (by decide) r.2⟩)
    (Cert.Reference24Ideal.Value.run m ρ)

end Cert.EvInFwd

end
-- ==== Proof.OdInFwd.lean ====
module

public import proofs.«01_k».proof.Defs
public import proofs.«01_k».proof.Proof.Gen.Kernel25
public import proofs.«01_k».proof.Proof.Gen.Kernel25Ideal.Value
public import proofs.«01_k».proof.Proof.Gen.Reference25Ideal.Read
public import Idealize.ShloMosaic.Lib.Pipeline.ValueKit
public import Idealize.ShloMosaic.Lib.Quiescent

/-! The recurrent mixer's input projection, its output in four parts. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OdInFwd

open Cert.Kernel25Ideal Cert.Kernel25Ideal.Gen

theorem idx : ∀ t : Fin cfg0.N, win0_0.index t = ![t.val / 8, 0]
    ∧ win0_1.index t = ![0, t.val % 8]
    ∧ win0_2.index t = ![t.val % 8 / 2, t.val / 8, t.val % 8 % 2] :=
  (by decide +kernel : ∀ t : Fin grid0.N, _)

theorem final (m : (ℓ : Loc nD τ sig) → Buf (Elt Ideal) ℓ) (c : Dev nD) : (dats m 0 c).arrAt 2 (cfgs 0).N
    = Cert.Reference25Ideal.Read.val_main_v11 (F := Ideal) (m ((c : Thread nD τ).loc main_arg0)) (m ((c : Thread nD τ).loc main_arg1)) := by
  refine (dats m 0 c).arrAt_eq_of_covers 2 _ (by decide +kernel) fun t _ y => ?_
  blk_simp
  rw [after0_2, ← Cert.Reference25Ideal.Read.val_main_v11_eq]
  frame_out
  have e : (((View.whole main_v0).slice (win0_2.rect t)).emb y 0).val = t.val % 8 / 2 + (y 0).val := by
    blk_point [idx t]
  pointwise [k0_pay1]
  blk_point [iblk, V, idx t] <;> omega

attribute [local instance] Cert.Kernel25.Gen.facts Cert.Kernel25Ideal.Gen.facts Cert.Reference25Ideal.Gen.facts

theorem algebraic : Cert.algebraic_Kernel25Ideal_Reference25Ideal := by
  intro m g m' g' _ same
  refine ⟨fun c => (dats m 0 c).arrAt 2 cfg0.N, Cert.Kernel25Ideal.Value.run_blocks m g,
    (θ_run _ _ _).mono (fun r h c => ⟨(h c).1.trans ?_, (h c).2⟩) (Cert.Reference25Ideal.Value.run m' g')⟩
  rw [(same c).1, (same c).2]
  exact (final m c).symm

theorem defs_eq : @Cert.Kernel25Ideal.defs Bits _ _ = @Cert.Kernel25.defs Bits _ _ := by
  refine congrArg (Pipeline.defs Cert.Kernel25Ideal.pcfgs) (congrArg Defs.onTc (funext fun l => funext fun a => ?_))
  match l, a with
  | 0, (t, s) => rfl

theorem frame_kernel : Cert.quiescent_Kernel25 := fun m ρ _ => by
  have h := Cert.Kernel25Ideal.Gen.frame (F := Bits) m ρ
  rw [defs_eq] at h
  exact h

theorem frame_ideal : Cert.quiescent_Kernel25Ideal := fun m ρ _ => Cert.Kernel25Ideal.Gen.frame m ρ

theorem frame_reference : Cert.quiescent_Reference25Ideal := fun m ρ _ =>
  (θ_run _ _ _).mono (fun r h => ⟨fun c => (h c).2, sem_eq_zero_of_no_sems (by decide) r.2⟩)
    (Cert.Reference25Ideal.Value.run m ρ)

end Cert.OdInFwd

end
-- ==== Proof.EvOutFwd.lean ====
module

public import proofs.«01_k».proof.Defs
public import proofs.«01_k».proof.Proof.Gen.Kernel26
public import proofs.«01_k».proof.Proof.Gen.Kernel26Ideal.Value
public import proofs.«01_k».proof.Proof.Gen.Reference26Ideal.Read
public import Idealize.ShloMosaic.Lib.Pipeline.ValueKit
public import Idealize.ShloMosaic.Lib.Quiescent

/-! The even mixer's output projection, with the scaled residual added. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.EvOutFwd

open Cert.Kernel26Ideal Cert.Kernel26Ideal.Gen

theorem idx : ∀ t : Fin cfg0.N, win0_0.index t = ![t.val / 2, 0]
    ∧ win0_1.index t = ![0, t.val % 2]
    ∧ win0_2.index t = ![t.val / 2, t.val % 2]
    ∧ win0_3.index t = ![t.val / 2, t.val % 2] :=
  (by decide +kernel : ∀ t : Fin grid0.N, _)

theorem final (m : (ℓ : Loc nD τ sig) → Buf (Elt Ideal) ℓ) (c : Dev nD) : (dats m 0 c).arrAt 3 (cfgs 0).N
    = Cert.Reference26Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, ← Cert.Reference26Ideal.Read.val_main_v5_eq]
  frame_out
  pointwise [k0_pay1]
  rw [add_comm]
  blk_point [iblk, V, idx t]

attribute [local instance] Cert.Kernel26.Gen.facts Cert.Kernel26Ideal.Gen.facts Cert.Reference26Ideal.Gen.facts

theorem algebraic : Cert.algebraic_Kernel26Ideal_Reference26Ideal := by
  intro m g m' g' _ same
  refine ⟨fun c => (dats m 0 c).arrAt 3 cfg0.N, Cert.Kernel26Ideal.Value.run_blocks m g,
    (θ_run _ _ _).mono (fun r h c => ⟨(h c).1.trans ?_, (h c).2⟩) (Cert.Reference26Ideal.Value.run m' g')⟩
  rw [(same c).1, (same c).2.1, (same c).2.2]
  exact (final m c).symm

theorem defs_eq : @Cert.Kernel26Ideal.defs Bits _ _ = @Cert.Kernel26.defs Bits _ _ := by
  refine congrArg (Pipeline.defs Cert.Kernel26Ideal.pcfgs) (congrArg Defs.onTc (funext fun l => funext fun a => ?_))
  match l, a with
  | 0, (t, s) => rfl

theorem frame_kernel : Cert.quiescent_Kernel26 := fun m ρ _ => by
  have h := Cert.Kernel26Ideal.Gen.frame (F := Bits) m ρ
  rw [defs_eq] at h
  exact h

theorem frame_ideal : Cert.quiescent_Kernel26Ideal := fun m ρ _ => Cert.Kernel26Ideal.Gen.frame m ρ

theorem frame_reference : Cert.quiescent_Reference26Ideal := fun m ρ _ =>
  (θ_run _ _ _).mono (fun r h => ⟨fun c => (h c).2, sem_eq_zero_of_no_sems (by decide) r.2⟩)
    (Cert.Reference26Ideal.Value.run m ρ)

end Cert.EvOutFwd

end
-- ==== Proof.DownFwd.lean ====
module

public import proofs.«01_k».proof.Defs
public import proofs.«01_k».proof.Proof.Gen.Kernel27
public import proofs.«01_k».proof.Proof.Gen.Kernel27Ideal.Value
public import proofs.«01_k».proof.Proof.Gen.Reference27Ideal.Read
public import Idealize.ShloMosaic.Lib.Pipeline.ValueKit
public import Idealize.ShloMosaic.Lib.Quiescent

/-! The feed-forward down projection, with the scaled residual added; the product is accumulated over two points. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.DownFwd

open Cert.Kernel27Ideal Cert.Kernel27Ideal.Gen

theorem idx : ∀ t : Fin cfg0.N, win0_0.index t = ![t.val / 4, t.val % 2]
    ∧ win0_1.index t = ![t.val % 2, t.val / 2 % 2]
    ∧ win0_2.index t = ![t.val / 4, t.val / 2 % 2]
    ∧ win0_3.index t = ![t.val / 4, t.val / 2 % 2] :=
  (by decide +kernel : ∀ t : Fin grid0.N, _)

theorem zero (j) : k0_pay1 (F := Ideal) j = 0 := by pointwise [k0_pay1]

theorem step (acc : FVec Ideal S1024x1024 .f32) (x0 : FVec Ideal S1024x2816 .bf16) (x1 : FVec Ideal S2816x1024 .bf16) (j) :
    k0_pay2 acc x0 x1 j = acc j + ∑ k : Fin 2816, x0 (ix2 (j 0) k) * x1 (ix2 k (j 1)) := by pointwise [k0_pay2]

theorem last (acc x2 : FVec Ideal S1024x1024 .f32) (j) :
    k0_pay3 acc x2 j = acc j + Ideal.ofBits .f32 0x3FB504F3#32 * x2 j := by pointwise [k0_pay3]

theorem final (m : (ℓ : Loc nD τ sig) → Buf (Elt Ideal) ℓ) (c : Dev nD) : (dats m 0 c).arrAt 3 (cfgs 0).N
    = Cert.Reference27Ideal.Read.val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h1 : t.val % 2 = 1 := (flush0_3 t).mp hf
  have h0 : ¬ t.val % 2 = 0 := by omega
  have hout : (outsAt0 m c t.val t.isLt).1 y = (outsAt0 m c t.val t.isLt).2 y + Ideal.ofBits .f32 0x3FB504F3#32 * iblk m c 2 t y := by
    rw [outsAt0_B m c t h0 h1]; frame_out; rw [last]
  blk_simp
  rw [after0_3]
  refine hout.trans ?_
  rw [Pipeline.eq_sum_fin_of_reset_step_apply_of_flush (fun n h => (outsAt0 m c n h).2) 2 (fun _ => 0)
    (fun p j => ∑ k : Fin 2816, (show FVec Ideal S1024x2816 .bf16 from iblk m c 0 p) (ix2 (j 0) k) * (show FVec Ideal S2816x1024 .bf16 from iblk m c 1 p) (ix2 k (j 1)))
    (fun t h j => by rw [outsAt0_A m c t h (by omega)]; frame_out; rw [step, zero])
    (fun t h j => by rw [outsAt0_B m c t h (by omega)]; frame_out; rw [step, (Memref.isWhole_whole cc0_scratch0).read_unread])
    t h1 y, zero_add, ← Cert.Reference27Ideal.Read.val_main_v5_eq]
  pointwise
  rw [add_comm]
  refine congrArg₂ (fun a b : EReal => a + b) ?_ (Fin.sum_mul_add_congr fun s k hl => ?_)
  · blk_point [iblk, V, idx t]
  · generalize hq : (⟨s.val * 2816 + k.val, hl⟩ : Fin 5632) = q
    have hv : q.val = s.val * 2816 + k.val := by rw [← hq]
    blk_point [iblk, V, idx t, idx ⟨_, Pipeline.run_point_lt_of_flush t h1 s⟩] <;> omega

attribute [local instance] Cert.Kernel27.Gen.facts Cert.Kernel27Ideal.Gen.facts Cert.Reference27Ideal.Gen.facts

theorem algebraic : Cert.algebraic_Kernel27Ideal_Reference27Ideal := by
  intro m g m' g' _ same
  refine ⟨fun c => (dats m 0 c).arrAt 3 cfg0.N, Cert.Kernel27Ideal.Value.run_blocks m g,
    (θ_run _ _ _).mono (fun r h c => ⟨(h c).1.trans ?_, (h c).2⟩) (Cert.Reference27Ideal.Value.run m' g')⟩
  rw [(same c).1, (same c).2.1, (same c).2.2]
  exact (final m c).symm

theorem defs_eq : @Cert.Kernel27Ideal.defs Bits _ _ = @Cert.Kernel27.defs Bits _ _ := by
  refine congrArg (Pipeline.defs Cert.Kernel27Ideal.pcfgs) (congrArg Defs.onTc (funext fun l => funext fun a => ?_))
  match l, a with
  | 0, (t, s) => rfl

theorem frame_kernel : Cert.quiescent_Kernel27 := fun m ρ _ => by
  have h := Cert.Kernel27Ideal.Gen.frame (F := Bits) m ρ
  rw [defs_eq] at h
  exact h

theorem frame_ideal : Cert.quiescent_Kernel27Ideal := fun m ρ _ => Cert.Kernel27Ideal.Gen.frame m ρ

theorem frame_reference : Cert.quiescent_Reference27Ideal := fun m ρ _ =>
  (θ_run _ _ _).mono (fun r h => ⟨fun c => (h c).2, sem_eq_zero_of_no_sems (by decide) r.2⟩)
    (Cert.Reference27Ideal.Value.run m ρ)

end Cert.DownFwd

end
-- ==== Proof.OdOutFwd.lean ====
module

public import proofs.«01_k».proof.Defs
public import proofs.«01_k».proof.Proof.Gen.Kernel28
public import proofs.«01_k».proof.Proof.Gen.Kernel28Ideal.Value
public import proofs.«01_k».proof.Proof.Gen.Reference28Ideal.Read
public import Idealize.ShloMosaic.Lib.Pipeline.ValueKit
public import Idealize.ShloMosaic.Lib.Quiescent

/-! The recurrent mixer's output projection, with the scaled residual added, and the layer norm of the rows behind it. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.OdOutFwd

open Cert.Kernel28Ideal Cert.Kernel28Ideal.Gen

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

open Cert.Reference28Ideal.Read in
theorem norm (x : FVec Ideal S512x2048 .bf16) (w W : FVec Ideal S2048x2048 .bf16) (a : FVec Ideal S512x2048 .f32) (g b : FVec Ideal S1x2048 .f32)
    (X : FVec Ideal S4096x2048 .bf16) (A : FVec Ideal S4096x2048 .f32) (r : Fin 512) (i : Fin 4096) (k : Fin 2048)
    (h : ∀ l : Fin 2048, k0_pay1 (F := Ideal) x w a (ix2 r l) = val_main_v5 (F := Ideal) X W A (ix2 i l)) :
    k0_pay2 (F := Ideal) x w a g b (ix2 r k) = val_main_v31 (F := Ideal) X W A g b (ix2 i k) := by
  unfold val_main_v31 val_main_v30 val_main_v29 val_main_v28 val_main_v27 val_main_v26 val_main_v25 val_main_v24 val_main_v23 val_main_v22 val_main_v21
    val_main_cst_4 val_main_v20 val_main_v19 val_main_v18 val_main_v17 val_main_cst_3 val_main_v16 val_main_v15 val_main_cst_2 val_main_v14
    val_main_v13 val_main_v12 val_main_v11 val_main_v10 val_main_cst_1 val_main_v9 val_main_v8 val_main_cst_0 val_main_v7 val_main_v6 k0_pay2
  generalize k0_pay1 (F := Ideal) x w a = z at h ⊢
  generalize val_main_v5 (F := Ideal) X W A = Z at h ⊢
  pointwise
  simp only [h]

theorem row_arg3 (m : (ℓ : Loc nD τ sig) → Buf (Elt Ideal) ℓ) (c : Dev nD) (t : Fin cfg0.N) : iblk m c 3 t = m ((c : Thread nD τ).loc main_arg3) := by
  funext y
  blk_point [iblk, V, idx t]

theorem row_arg4 (m : (ℓ : Loc nD τ sig) → Buf (Elt Ideal) ℓ) (c : Dev nD) (t : Fin cfg0.N) : iblk m c 4 t = m ((c : Thread nD τ).loc main_arg4) := by
  funext y
  blk_point [iblk, V, idx t]

theorem sum_block (m : (ℓ : Loc nD τ sig) → Buf (Elt Ideal) ℓ) (c : Dev nD) (t : Fin cfg0.N) (r : Fin 512) (i : Fin 4096) (hi : i.val = t.val * 512 + r.val) (l : Fin 2048) :
    k0_pay1 (F := Ideal) (iblk m c 0 t) (iblk m c 1 t) (iblk m c 2 t) (ix2 r l) = Cert.Reference28Ideal.Read.val_main_v5 (F := Ideal) (m ((c : Thread nD τ).loc main_arg0)) (m ((c : Thread nD τ).loc main_arg1)) (m ((c : Thread nD τ).loc main_arg2)) (ix2 i l) := by
  rw [← Cert.Reference28Ideal.Read.val_main_v5_eq]
  pointwise [k0_pay1]
  rw [add_comm]
  blk_point [iblk, V, idx t] <;> omega

theorem norm_block (m : (ℓ : Loc nD τ sig) → Buf (Elt Ideal) ℓ) (c : Dev nD) (t : Fin cfg0.N) (y : S512x2048.Idx) (z : S4096x2048.Idx)
    (h0 : (z 0).val = t.val * 512 + (y 0).val) (h1 : (z 1).val = (y 1).val) :
    k0_pay2 (F := Ideal) (iblk m c 0 t) (iblk m c 1 t) (iblk m c 2 t) (iblk m c 3 t) (iblk m c 4 t) y = Cert.Reference28Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) z := by
  have hy : y = ix2 (y 0) (y 1) := funext fun a => match a with | 0 => rfl | 1 => rfl
  have hz : z = ix2 (z 0) (y 1) := funext fun a => match a with | 0 => rfl | 1 => Fin.ext h1
  rw [row_arg3, row_arg4, hy, hz]
  exact norm _ _ _ _ _ _ _ _ (y 0) (z 0) (y 1) (sum_block m c t (y 0) (z 0) h0)

theorem final_sum (m : (ℓ : Loc nD τ sig) → Buf (Elt Ideal) ℓ) (c : Dev nD) : (dats m 0 c).arrAt 5 (cfgs 0).N = Cert.Reference28Ideal.Read.val_main_v5 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5, ← Cert.Reference28Ideal.Read.val_main_v5_eq]
  frame_out
  pointwise [k0_pay1]
  rw [add_comm]
  blk_point [iblk, V, idx t]

theorem final_norm (m : (ℓ : Loc nD τ sig) → Buf (Elt Ideal) ℓ) (c : Dev nD) : (dats m 0 c).arrAt 6 (cfgs 0).N = Cert.Reference28Ideal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  frame_out
  exact norm_block m c t y _ (by blk_point [idx t]) (by blk_point [idx t])

theorem final_round (m : (ℓ : Loc nD τ sig) → Buf (Elt Ideal) ℓ) (c : Dev nD) : (dats m 0 c).arrAt 7 (cfgs 0).N = Cert.Reference28Ideal.Read.val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t _ y => ?_
  blk_simp
  rw [after0_7]
  frame_out
  exact norm_block m c t y _ (by blk_point [idx t]) (by blk_point [idx t])

attribute [local instance] Cert.Kernel28.Gen.facts Cert.Kernel28Ideal.Gen.facts Cert.Reference28Ideal.Gen.facts

theorem algebraic : Cert.algebraic_Kernel28Ideal_Reference28Ideal := by
  intro m g m' g' _ same
  refine ⟨fun c => (dats m 0 c).arrAt 5 cfg0.N, fun c => (dats m 0 c).arrAt 6 cfg0.N, fun c => (dats m 0 c).arrAt 7 cfg0.N, Cert.Kernel28Ideal.Value.run_blocks m g,
    (θ_run _ _ _).mono (fun r h c => ⟨(h c).1.trans ?_, (h c).2.1.trans ?_, (h c).2.2.1.trans ?_, (h c).2.2.2⟩) (Cert.Reference28Ideal.Value.run m' g')⟩
  all_goals obtain ⟨e0, e1, e2, e3, e4⟩ := same c
  · rw [Cert.Reference28Ideal.Read.val_main_v5_eq, e0, e1, e2]
    exact (final_sum m c).symm
  · rw [Cert.Reference28Ideal.Read.val_main_v31_eq, e0, e1, e2, e3, e4]
    exact (final_norm m c).symm
  · rw [Cert.Reference28Ideal.Read.val_main_v32_eq, e0, e1, e2, e3, e4]
    exact (final_round m c).symm

theorem defs_eq : @Cert.Kernel28Ideal.defs Bits _ _ = @Cert.Kernel28.defs Bits _ _ := by
  refine congrArg (Pipeline.defs Cert.Kernel28Ideal.pcfgs) (congrArg Defs.onTc (funext fun l => funext fun a => ?_))
  match l, a with
  | 0, (t, s) => rfl

theorem frame_kernel : Cert.quiescent_Kernel28 := fun m ρ _ => by
  have h := Cert.Kernel28Ideal.Gen.frame (F := Bits) m ρ
  rw [defs_eq] at h
  exact h

theorem frame_ideal : Cert.quiescent_Kernel28Ideal := fun m ρ _ => Cert.Kernel28Ideal.Gen.frame m ρ

theorem frame_reference : Cert.quiescent_Reference28Ideal := fun m ρ _ =>
  (θ_run _ _ _).mono (fun r h => ⟨fun c => (h c).2.2.2, sem_eq_zero_of_no_sems (by decide) r.2⟩)
    (Cert.Reference28Ideal.Value.run m ρ)

end Cert.OdOutFwd

end
-- ==== Proof.LnFwd.lean ====
module

public import proofs.«01_k».proof.Defs
public import proofs.«01_k».proof.Proof.Gen.Kernel29
public import proofs.«01_k».proof.Proof.Gen.Kernel29Ideal.Value
public import proofs.«01_k».proof.Proof.Gen.Reference29Ideal.Read
public import Idealize.ShloMosaic.Lib.Pipeline.ValueKit
public import Idealize.ShloMosaic.Lib.Quiescent

/-! The layer norm of the rows, and the same rounded for the products. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.LnFwd

open Cert.Kernel29Ideal Cert.Kernel29Ideal.Gen

theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

open Cert.Reference29Ideal.Read in
theorem norm (x : FVec Ideal S512x2048 .f32) (g b : FVec Ideal S1x2048 .f32) (X : FVec Ideal S4096x2048 .f32) (r : Fin 512) (i : Fin 4096) (k : Fin 2048)
    (h : ∀ l : Fin 2048, x (ix2 r l) = X (ix2 i l)) :
    k0_pay1 (F := Ideal) x g b (ix2 r k) = val_main_v25 (F := Ideal) X g b (ix2 i k) := by
  unfold val_main_v25 val_main_v24 val_main_v23 val_main_v22 val_main_v21 val_main_v20 val_main_v19 val_main_v18 val_main_v17 val_main_v16 val_main_v15
    val_main_cst_3 val_main_v14 val_main_v13 val_main_v12 val_main_v11 val_main_cst_2 val_main_v10 val_main_v9 val_main_cst_1 val_main_v8 val_main_v7
    val_main_v6 val_main_v5 val_main_v4 val_main_cst_0 val_main_v3 val_main_v2 val_main_cst val_main_v1 val_main_v0
  pointwise [k0_pay1]
  simp only [h]

theorem row_arg1 (m : (ℓ : Loc nD τ sig) → Buf (Elt Ideal) ℓ) (c : Dev nD) (t : Fin cfg0.N) : iblk m c 1 t = m ((c : Thread nD τ).loc main_arg1) := by
  funext y
  blk_point [iblk, V, idx t]

theorem row_arg2 (m : (ℓ : Loc nD τ sig) → Buf (Elt Ideal) ℓ) (c : Dev nD) (t : Fin cfg0.N) : iblk m c 2 t = m ((c : Thread nD τ).loc main_arg2) := by
  funext y
  blk_point [iblk, V, idx t]

theorem norm_block (m : (ℓ : Loc nD τ sig) → Buf (Elt Ideal) ℓ) (c : Dev nD) (t : Fin cfg0.N) (y : S512x2048.Idx) (z : S4096x2048.Idx)
    (h0 : (z 0).val = t.val * 512 + (y 0).val) (h1 : (z 1).val = (y 1).val) :
    k0_pay1 (F := Ideal) (iblk m c 0 t) (iblk m c 1 t) (iblk m c 2 t) y = Cert.Reference29Ideal.Read.val_main_v25 (F := Ideal) (m ((c : Thread nD τ).loc main_arg0)) (m ((c : Thread nD τ).loc main_arg1)) (m ((c : Thread nD τ).loc main_arg2)) z := by
  have hy : y = ix2 (y 0) (y 1) := funext fun a => match a with | 0 => rfl | 1 => rfl
  have hz : z = ix2 (z 0) (y 1) := funext fun a => match a with | 0 => rfl | 1 => Fin.ext h1
  rw [row_arg1, row_arg2, hy, hz]
  refine norm _ _ _ _ (y 0) (z 0) (y 1) fun l => ?_
  blk_point [iblk, V, idx t] <;> omega

theorem final_norm (m : (ℓ : Loc nD τ sig) → Buf (Elt Ideal) ℓ) (c : Dev nD) : (dats m 0 c).arrAt 3 (cfgs 0).N = Cert.Reference29Ideal.Read.val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  exact norm_block m c t y _ (by blk_point [idx t]) (by blk_point [idx t])

theorem final_round (m : (ℓ : Loc nD τ sig) → Buf (Elt Ideal) ℓ) (c : Dev nD) : (dats m 0 c).arrAt 4 (cfgs 0).N = Cert.Reference29Ideal.Read.val_main_v26 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  frame_out
  exact norm_block m c t y _ (by blk_point [idx t]) (by blk_point [idx t])

attribute [local instance] Cert.Kernel29.Gen.facts Cert.Kernel29Ideal.Gen.facts Cert.Reference29Ideal.Gen.facts

theorem algebraic : Cert.algebraic_Kernel29Ideal_Reference29Ideal := by
  intro m g m' g' _ same
  refine ⟨fun c => (dats m 0 c).arrAt 3 cfg0.N, fun c => (dats m 0 c).arrAt 4 cfg0.N, Cert.Kernel29Ideal.Value.run_blocks m g,
    (θ_run _ _ _).mono (fun r h c => ⟨(h c).1.trans ?_, (h c).2.1.trans ?_, (h c).2.2⟩) (Cert.Reference29Ideal.Value.run m' g')⟩
  all_goals obtain ⟨e0, e1, e2⟩ := same c
  · rw [Cert.Reference29Ideal.Read.val_main_v25_eq, e0, e1, e2]
    exact (final_norm m c).symm
  · rw [Cert.Reference29Ideal.Read.val_main_v26_eq, e0, e1, e2]
    exact (final_round m c).symm

theorem defs_eq : @Cert.Kernel29Ideal.defs Bits _ _ = @Cert.Kernel29.defs Bits _ _ := by
  refine congrArg (Pipeline.defs Cert.Kernel29Ideal.pcfgs) (congrArg Defs.onTc (funext fun l => funext fun a => ?_))
  match l, a with
  | 0, (t, s) => rfl

theorem frame_kernel : Cert.quiescent_Kernel29 := fun m ρ _ => by
  have h := Cert.Kernel29Ideal.Gen.frame (F := Bits) m ρ
  rw [defs_eq] at h
  exact h

theorem frame_ideal : Cert.quiescent_Kernel29Ideal := fun m ρ _ => Cert.Kernel29Ideal.Gen.frame m ρ

theorem frame_reference : Cert.quiescent_Reference29Ideal := fun m ρ _ =>
  (θ_run _ _ _).mono (fun r h => ⟨fun c => (h c).2.2, sem_eq_zero_of_no_sems (by decide) r.2⟩)
    (Cert.Reference29Ideal.Value.run m ρ)

end Cert.LnFwd

end
-- ==== Proof.LnBwd.lean ====
module

public import proofs.«01_k».proof.Defs
public import proofs.«01_k».proof.Proof.Gen.Kernel30.Frame
public import proofs.«01_k».proof.Proof.Gen.Kernel30Ideal.Value
public import proofs.«01_k».proof.Proof.Gen.Reference30Ideal.Read
public import Idealize.ShloMosaic.Lib.Pipeline.ValueKit
public import Idealize.ShloMosaic.Lib.Quiescent

/-! The gradients of a layer norm's scale and shift, summed over the rows of eight blocks. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.LnBwd

open Cert.Kernel30Ideal Cert.Kernel30Ideal.Gen

theorem idx : ∀ t : Fin cfg0.N, win0_0.index t = ![t.val, 0] ∧ win0_1.index t = ![0, 0] ∧ win0_2.index t = ![t.val, 0]
    ∧ win0_5.index t = ![0, 0] ∧ win0_6.index t = ![0, 0] :=
  (by decide +kernel : ∀ t : Fin grid0.N, _)

theorem zero_scale (j) : k0_pay3 (F := Ideal) j = 0 := by pointwise [k0_pay3]
theorem zero_shift (j) : k0_pay4 (F := Ideal) j = 0 := by pointwise [k0_pay4]

theorem step_scale (x d : FVec Ideal S512x2048 .f32) (acc : FVec Ideal S1x2048 .f32) (j) :
    k0_pay8 (F := Ideal) x d acc j = acc j + ∑ r : Fin 512, d (ix2 r (j 1)) * k0_pay7 (F := Ideal) x (ix2 r (j 1)) := by
  unfold k0_pay8
  generalize k0_pay7 (F := Ideal) x = e
  pointwise

theorem step_shift (d : FVec Ideal S512x2048 .f32) (acc : FVec Ideal S1x2048 .f32) (j) :
    k0_pay9 (F := Ideal) d acc j = acc j + ∑ r : Fin 512, d (ix2 r (j 1)) := by
  pointwise [k0_pay9]

open Cert.Reference30Ideal.Read in
theorem normed (x : FVec Ideal S512x2048 .f32) (X : FVec Ideal S4096x2048 .f32) (r : Fin 512) (i : Fin 4096) (k : Fin 2048) (h : ∀ l : Fin 2048, x (ix2 r l) = X (ix2 i l)) :
    k0_pay7 (F := Ideal) x (ix2 r k) = val_main_v20 (F := Ideal) X (ix2 i k) := by
  unfold val_main_v20 val_main_v19 val_main_v18 val_main_v17 val_main_v16 val_main_cst_4 val_main_v15 val_main_v14 val_main_v13 val_main_v12
    val_main_cst_3 val_main_v11 val_main_v10 val_main_cst_2 val_main_v9 val_main_v8 val_main_v7 val_main_v6 val_main_v5 val_main_cst_1 val_main_v4
    val_main_v3 val_main_cst_0
  pointwise [k0_pay5, k0_pay6, k0_pay7]
  simp only [h]

open Cert.Reference30Ideal.Read in
theorem total_scale (X D : FVec Ideal S4096x2048 .f32) (j : S1x2048.Idx) :
    val_main_v36 (F := Ideal) X D j = ∑ i : Fin 4096, D (ix2 i (j 1)) * val_main_v20 (F := Ideal) X (ix2 i (j 1)) := by
  unfold val_main_v36 val_main_v34 val_main_cst_8 val_main_v33 val_main_v32 val_main_cst_7 val_main_v31 val_main_v27
  generalize val_main_v20 (F := Ideal) X = e
  pointwise
  rw [Fin.sum_univ_one]
  exact Finset.sum_congr rfl fun i _ => mul_comm (_ : EReal) _

open Cert.Reference30Ideal.Read in
theorem total_shift (D : FVec Ideal S4096x2048 .f32) (j : S1x2048.Idx) :
    val_main_v35 (F := Ideal) D j = ∑ i : Fin 4096, D (ix2 i (j 1)) := by
  unfold val_main_v35 val_main_v30 val_main_cst_6 val_main_v29 val_main_v28 val_main_cst_5
  pointwise
  rw [Fin.sum_univ_one]

theorem block_zero (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 0 t) (ix2 r l) = m ((c : Thread nD τ).loc main_arg0) (ix2 i l) := by
  blk_point [iblk, V, idx t] <;> omega

theorem block_two (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 2 t) (ix2 r l) = m ((c : Thread nD τ).loc main_arg2) (ix2 i l) := by
  blk_point [iblk, V, idx t] <;> omega

theorem final_scale_first (m : (ℓ : Loc nD τ sig) → Buf (Elt Ideal) ℓ) (c : Dev nD) (t : Fin cfg0.N) (h : t.val % 8 = 0) (j : S1x2048.Idx) :
    (show FVec Ideal S1x2048 .f32 from (outsAt0 m c t.val t.isLt).2.2.1) j = ∑ r : Fin 512, (show FVec Ideal S512x2048 .f32 from iblk m c 2 t) (ix2 r (j 1)) * k0_pay7 (F := Ideal) (iblk m c 0 t) (ix2 r (j 1)) := by
  rw [outsAt0_A m c t h]
  frame_out
  rw [step_scale, zero_scale, zero_add]

theorem final_scale_next (m : (ℓ : Loc nD τ sig) → Buf (Elt Ideal) ℓ) (c : Dev nD) (t : Fin cfg0.N) (h : ¬ t.val % 8 = 0) (j : S1x2048.Idx) :
    (show FVec Ideal S1x2048 .f32 from (outsAt0 m c t.val t.isLt).2.2.1) j = (show FVec Ideal S1x2048 .f32 from (outsAt0 m c (t.val - 1) (Nat.lt_of_le_of_lt (Nat.sub_le _ _) t.isLt)).2.2.1) j + ∑ r : Fin 512, (show FVec Ideal S512x2048 .f32 from iblk m c 2 t) (ix2 r (j 1)) * k0_pay7 (F := Ideal) (iblk m c 0 t) (ix2 r (j 1)) := by
  rw [outsAt0_B m c t h]
  frame_out
  rw [step_scale]

theorem final_scale_sum (m : (ℓ : Loc nD τ sig) → Buf (Elt Ideal) ℓ) (c : Dev nD) (t : Fin cfg0.N) (h7 : t.val % 8 = 7) (j : S1x2048.Idx) :
    (show FVec Ideal S1x2048 .f32 from (outsAt0 m c t.val t.isLt).2.2.1) j = ∑ s : Fin 8, ∑ r : Fin 512, (show FVec Ideal S512x2048 .f32 from iblk m c 2 ⟨8 * (t.val / 8) + s.val, Pipeline.run_point_lt_of_flush t h7 s⟩) (ix2 r (j 1)) * k0_pay7 (F := Ideal) (iblk m c 0 ⟨8 * (t.val / 8) + s.val, Pipeline.run_point_lt_of_flush t h7 s⟩) (ix2 r (j 1)) := by
  refine (Pipeline.eq_sum_fin_of_reset_step_apply_of_flush (N := cfg0.N) (fun n h => (show FVec Ideal S1x2048 .f32 from (outsAt0 m c n h).2.2.1)) 8 (fun _ => 0)
    (fun p j => ∑ r : Fin 512, (show FVec Ideal S512x2048 .f32 from iblk m c 2 p) (ix2 r (j 1)) * k0_pay7 (F := Ideal) (iblk m c 0 p) (ix2 r (j 1))) (fun t h j => ?_) (fun t h j => ?_) t h7 j).trans (zero_add _)
  · rw [zero_add]
    exact final_scale_first m c t h j
  · exact final_scale_next m c t h j

theorem final_scale (m : (ℓ : Loc nD τ sig) → Buf (Elt Ideal) ℓ) (c : Dev nD) : (dats m 0 c).arrAt 5 (cfgs 0).N = Cert.Reference30Ideal.Read.val_main_v36 (F := Ideal) (m ((c : Thread nD τ).loc main_arg0)) (m ((c : Thread nD τ).loc main_arg2)) := by
  refine (dats m 0 c).arrAt_eq_of_covers 5 _ (by decide +kernel) fun t hf y => ?_
  have h7 : t.val % 8 = 7 := (flush0_5 t).mp hf
  blk_simp
  rw [after0_5]
  refine (final_scale_sum m c t h7 y).trans ?_
  rw [total_scale]
  have hy : (((View.whole main_v0_2).slice (win0_5.rect t)).emb y 1).val = (y 1).val := by blk_point [idx t]
  generalize (((View.whole main_v0_2).slice (win0_5.rect t)).emb y) = z at hy ⊢
  rw [show z 1 = y 1 from Fin.ext hy]
  refine Fin.sum_mul_add_congr fun s r hl => ?_
  have hi : (⟨s.val * 512 + r.val, hl⟩ : Fin 4096).val = (8 * (t.val / 8) + s.val) * 512 + r.val := by
    have := Nat.lt_of_lt_of_eq t.isLt N_0
    show s.val * 512 + r.val = _
    omega
  generalize (⟨s.val * 512 + r.val, hl⟩ : Fin 4096) = i at hi ⊢
  have hd := block_two m c ⟨8 * (t.val / 8) + s.val, Pipeline.run_point_lt_of_flush t h7 s⟩ r i hi (y 1)
  have hx := normed (iblk m c 0 ⟨8 * (t.val / 8) + s.val, Pipeline.run_point_lt_of_flush t h7 s⟩) (m ((c : Thread nD τ).loc main_arg0)) r i (y 1)
    (block_zero m c ⟨8 * (t.val / 8) + s.val, Pipeline.run_point_lt_of_flush t h7 s⟩ r i hi)
  exact congrArg₂ (fun a b : EReal => a * b) hd hx

theorem final_shift_first (m : (ℓ : Loc nD τ sig) → Buf (Elt Ideal) ℓ) (c : Dev nD) (t : Fin cfg0.N) (h : t.val % 8 = 0) (j : S1x2048.Idx) :
    (show FVec Ideal S1x2048 .f32 from (outsAt0 m c t.val t.isLt).2.2.2) j = ∑ r : Fin 512, (show FVec Ideal S512x2048 .f32 from iblk m c 2 t) (ix2 r (j 1)) := by
  rw [outsAt0_A m c t h]
  frame_out
  rw [step_shift, zero_shift, zero_add]

theorem final_shift_next (m : (ℓ : Loc nD τ sig) → Buf (Elt Ideal) ℓ) (c : Dev nD) (t : Fin cfg0.N) (h : ¬ t.val % 8 = 0) (j : S1x2048.Idx) :
    (show FVec Ideal S1x2048 .f32 from (outsAt0 m c t.val t.isLt).2.2.2) j = (show FVec Ideal S1x2048 .f32 from (outsAt0 m c (t.val - 1) (Nat.lt_of_le_of_lt (Nat.sub_le _ _) t.isLt)).2.2.2) j + ∑ r : Fin 512, (show FVec Ideal S512x2048 .f32 from iblk m c 2 t) (ix2 r (j 1)) := by
  rw [outsAt0_B m c t h]
  frame_out
  rw [step_shift]

theorem final_shift_sum (m : (ℓ : Loc nD τ sig) → Buf (Elt Ideal) ℓ) (c : Dev nD) (t : Fin cfg0.N) (h7 : t.val % 8 = 7) (j : S1x2048.Idx) :
    (show FVec Ideal S1x2048 .f32 from (outsAt0 m c t.val t.isLt).2.2.2) j = ∑ s : Fin 8, ∑ r : Fin 512, (show FVec Ideal S512x2048 .f32 from iblk m c 2 ⟨8 * (t.val / 8) + s.val, Pipeline.run_point_lt_of_flush t h7 s⟩) (ix2 r (j 1)) := by
  refine (Pipeline.eq_sum_fin_of_reset_step_apply_of_flush (N := cfg0.N) (fun n h => (show FVec Ideal S1x2048 .f32 from (outsAt0 m c n h).2.2.2)) 8 (fun _ => 0)
    (fun p j => ∑ r : Fin 512, (show FVec Ideal S512x2048 .f32 from iblk m c 2 p) (ix2 r (j 1))) (fun t h j => ?_) (fun t h j => ?_) t h7 j).trans (zero_add _)
  · rw [zero_add]
    exact final_shift_first m c t h j
  · exact final_shift_next m c t h j

theorem final_shift (m : (ℓ : Loc nD τ sig) → Buf (Elt Ideal) ℓ) (c : Dev nD) : (dats m 0 c).arrAt 6 (cfgs 0).N = Cert.Reference30Ideal.Read.val_main_v35 (F := Ideal) (m ((c : Thread nD τ).loc main_arg2)) := by
  refine (dats m 0 c).arrAt_eq_of_covers 6 _ (by decide +kernel) fun t hf y => ?_
  have h7 : t.val % 8 = 7 := (flush0_6 t).mp hf
  blk_simp
  rw [after0_6]
  refine (final_shift_sum m c t h7 y).trans ?_
  rw [total_shift]
  have hy : (((View.whole main_v0_3).slice (win0_6.rect t)).emb y 1).val = (y 1).val := by blk_point [idx t]
  generalize (((View.whole main_v0_3).slice (win0_6.rect t)).emb y) = z at hy ⊢
  rw [show z 1 = y 1 from Fin.ext hy]
  refine Fin.sum_mul_add_congr fun s r hl => ?_
  have hi : (⟨s.val * 512 + r.val, hl⟩ : Fin 4096).val = (8 * (t.val / 8) + s.val) * 512 + r.val := by
    have := Nat.lt_of_lt_of_eq t.isLt N_0
    show s.val * 512 + r.val = _
    omega
  generalize (⟨s.val * 512 + r.val, hl⟩ : Fin 4096) = i at hi ⊢
  exact block_two m c ⟨8 * (t.val / 8) + s.val, Pipeline.run_point_lt_of_flush t h7 s⟩ r i hi (y 1)

attribute [local instance] Cert.Kernel30.Gen.facts Cert.Kernel30Ideal.Gen.facts Cert.Reference30Ideal.Gen.facts

theorem algebraic : Cert.algebraic_Kernel30Ideal_Reference30Ideal := by
  intro m g m' g' _ same
  refine ⟨fun c => (dats m 0 c).arrAt 5 cfg0.N, fun c => (dats m 0 c).arrAt 6 cfg0.N, (θ_run _ _ _).mono (fun r h c => (h c).2.2) (Cert.Kernel30Ideal.Value.run_blocks m g),
    (θ_run _ _ _).mono (fun r h c => ⟨(h c).1.trans ?_, (h c).2.1.trans ?_, (h c).2.2⟩) (Cert.Reference30Ideal.Value.run m' g')⟩
  all_goals obtain ⟨e0, e1, e2⟩ := same c
  · refine (Cert.Reference30Ideal.Read.val_main_v36_eq _ _).trans ?_
    rw [e0, e2]
    exact (final_scale m c).symm
  · refine (Cert.Reference30Ideal.Read.val_main_v35_eq _).trans ?_
    rw [e2]
    exact (final_shift m c).symm

theorem frame_kernel : Cert.quiescent_Kernel30 := fun m ρ _ => Cert.Kernel30.Gen.frame m ρ

theorem frame_ideal : Cert.quiescent_Kernel30Ideal := fun m ρ _ => Cert.Kernel30Ideal.Gen.frame m ρ

theorem frame_reference : Cert.quiescent_Reference30Ideal := fun m ρ _ =>
  (θ_run _ _ _).mono (fun r h => ⟨fun c => (h c).2.2, sem_eq_zero_of_no_sems (by decide) r.2⟩)
    (Cert.Reference30Ideal.Value.run m ρ)

end Cert.LnBwd

end
-- ==== Proof.LossBwd.lean ====
module

public import proofs.«01_k».proof.Defs
public import proofs.«01_k».proof.Proof.Gen.Kernel31.Frame
public import proofs.«01_k».proof.Proof.Gen.Kernel31Ideal.Value
public import proofs.«01_k».proof.Proof.Gen.Reference31Ideal.Read
public import Idealize.ShloMosaic.Lib.Pipeline.ValueKit
public import Idealize.ShloMosaic.Lib.Quiescent

/-! The gradients of the loss with respect to the last layer norm's scale and shift, summed over the rows of eight blocks. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.LossBwd

open Cert.Kernel31Ideal Cert.Kernel31Ideal.Gen

theorem half : Ideal.ofBits .f32 0x3F000000#32 = ((1 / 2 : ℝ) : EReal) := by
  simp [Ideal.ofBits, Ideal.ieee, -EReal.coe_mul]; norm_num
theorem width : Ideal.ofBits .f32 0x45000000#32 = ((2048 : ℝ) : EReal) := by
  simp [Ideal.ofBits, Ideal.ieee, -EReal.coe_mul]; norm_num
theorem scale : Ideal.ofBits .f32 0x3A000000#32 = ((1 / 2048 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem idx : ∀ t : Fin cfg0.N, win0_0.index t = ![t.val, 0] ∧ win0_1.index t = ![0, 0] ∧ win0_2.index t = ![0, 0]
    ∧ win0_3.index t = ![t.val, 0] ∧ win0_7.index t = ![0, 0] ∧ win0_8.index t = ![0, 0] :=
  (by decide +kernel : ∀ t : Fin grid0.N, _)

theorem zero_scale (j) : k0_pay2 (F := Ideal) j = 0 := by pointwise [k0_pay2]
theorem zero_shift (j) : k0_pay3 (F := Ideal) j = 0 := by pointwise [k0_pay3]

theorem step_scale (n e : FVec Ideal S512x2048 .f32) (acc : FVec Ideal S1x2048 .f32) (j) :
    k0_pay11 (F := Ideal) n e (Scalar.ofBits .f32 0x3A000000#32) acc j = acc j + ∑ r : Fin 512, n (ix2 r (j 1)) * (e (ix2 r (j 1)) * ((1 / 2048 : ℝ) : EReal)) := by
  rw [← scale]
  pointwise [k0_pay10, k0_pay11]
  exact congrArg (fun s : EReal => acc j + s) (Finset.sum_congr rfl fun r _ => mul_comm (_ : EReal) _)

theorem step_shift (e : FVec Ideal S512x2048 .f32) (acc : FVec Ideal S1x2048 .f32) (j) :
    k0_pay12 (F := Ideal) e (Scalar.ofBits .f32 0x3A000000#32) acc j = acc j + ∑ r : Fin 512, e (ix2 r (j 1)) * ((1 / 2048 : ℝ) : EReal) := by
  rw [← scale]
  pointwise [k0_pay10, k0_pay12]

open Cert.Reference31Ideal.Read in
theorem normed (x : FVec Ideal S512x2048 .f32) (X : FVec Ideal S4096x2048 .f32) (r : Fin 512) (i : Fin 4096) (k : Fin 2048) (h : ∀ l : Fin 2048, x (ix2 r l) = X (ix2 i l)) :
    k0_pay7 (F := Ideal) x (ix2 r k) = val_main_v19 (F := Ideal) X (ix2 i k) := by
  unfold val_main_v19 val_main_v18 val_main_v17 val_main_v16 val_main_v15 val_main_cst_3 val_main_v14 val_main_v13 val_main_v12 val_main_v11
    val_main_cst_2 val_main_v10 val_main_v9 val_main_cst_1 val_main_v8 val_main_v7 val_main_v6 val_main_v5 val_main_v4 val_main_cst_0 val_main_v3
    val_main_v2 val_main_cst
  pointwise [k0_pay5, k0_pay6, k0_pay7]
  simp only [h]

open Cert.Reference31Ideal.Read in
theorem error (x : FVec Ideal S512x2048 .f32) (g b : FVec Ideal S1x2048 .f32) (y : FVec Ideal S512x2048 .f32)
    (X Y : FVec Ideal S4096x2048 .f32) (r : Fin 512) (i : Fin 4096) (k : Fin 2048) (hx : ∀ l : Fin 2048, x (ix2 r l) = X (ix2 i l)) (hy : y (ix2 r k) = Y (ix2 i k)) :
    k0_pay8 (F := Ideal) x g b y (ix2 r k) = val_main_v26 (F := Ideal) X g b Y (ix2 i k) := by
  have h := normed x X r i k hx
  unfold val_main_v26 val_main_v25 val_main_v24 val_main_v23 val_main_v22 val_main_v21 val_main_v20 val_main_v1 val_main_v0 k0_pay8
  generalize k0_pay7 (F := Ideal) x = n at h ⊢
  generalize val_main_v19 (F := Ideal) X = N at h ⊢
  pointwise
  rw [h, hy]

open Cert.Reference31Ideal.Read in
theorem down (X Y : FVec Ideal S4096x2048 .f32) (g b : FVec Ideal S1x2048 .f32) (i : Fin 4096) (k : Fin 2048) :
    val_main_v43 (F := Ideal) X g b Y (ix2 i k) = val_main_v26 (F := Ideal) X g b Y (ix2 i k) * ((1 / 2048 : ℝ) : EReal) := by
  unfold val_main_v43 val_main_v42 val_main_v41 val_main_v40 val_main_cst_12 val_main_v39 val_main_v38 val_main_cst_11 val_main_v37 val_main_cst_10
    val_main_v36 val_main_cst_9 val_main_v29 val_main_v28 val_main_cst_4
  generalize val_main_v26 (F := Ideal) X g b Y = e
  pointwise
  rw [half, width, two, Ideal.div_coe (show (2048 : ℝ) ≠ 0 by norm_num), Fin.sum_univ_one, Fin.sum_univ_one, mul_one, ← mul_assoc, ← EReal.coe_mul,
    ← EReal.coe_mul, mul_comm]
  exact congrArg (fun x : ℝ => e (ix2 i k) * (x : EReal)) (by norm_num)

open Cert.Reference31Ideal.Read in
theorem total_scale (X Y : FVec Ideal S4096x2048 .f32) (g b : FVec Ideal S1x2048 .f32) (j : S1x2048.Idx) :
    val_main_v52 (F := Ideal) X g b Y j = ∑ i : Fin 4096, val_main_v19 (F := Ideal) X (ix2 i (j 1)) * (val_main_v26 (F := Ideal) X g b Y (ix2 i (j 1)) * ((1 / 2048 : ℝ) : EReal)) := by
  have h := down X Y g b
  unfold val_main_v52 val_main_v50 val_main_cst_16 val_main_v49 val_main_v48 val_main_cst_15 val_main_v47
  generalize val_main_v43 (F := Ideal) X g b Y = e at h ⊢
  generalize val_main_v19 (F := Ideal) X = n
  pointwise
  rw [Fin.sum_univ_one]
  exact Finset.sum_congr rfl fun i _ => congrArg (fun a : EReal => n (ix2 i (j 1)) * a) (h i (j 1))

open Cert.Reference31Ideal.Read in
theorem total_shift (X Y : FVec Ideal S4096x2048 .f32) (g b : FVec Ideal S1x2048 .f32) (j : S1x2048.Idx) :
    val_main_v51 (F := Ideal) X g b Y j = ∑ i : Fin 4096, val_main_v26 (F := Ideal) X g b Y (ix2 i (j 1)) * ((1 / 2048 : ℝ) : EReal) := by
  have h := down X Y g b
  unfold val_main_v51 val_main_v46 val_main_cst_14 val_main_v45 val_main_v44 val_main_cst_13
  generalize val_main_v43 (F := Ideal) X g b Y = e at h ⊢
  pointwise
  rw [Fin.sum_univ_one]
  exact Finset.sum_congr rfl fun i _ => h i (j 1)

theorem rows_one (m : (ℓ : Loc nD τ sig) → Buf (Elt Ideal) ℓ) (c : Dev nD) (t : Fin cfg0.N) : iblk m c 1 t = m ((c : Thread nD τ).loc main_arg1) := by
  funext y
  blk_point [iblk, V, idx t]

theorem rows_two (m : (ℓ : Loc nD τ sig) → Buf (Elt Ideal) ℓ) (c : Dev nD) (t : Fin cfg0.N) : iblk m c 2 t = m ((c : Thread nD τ).loc main_arg2) := by
  funext y
  blk_point [iblk, V, idx t]

theorem block_zero (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 0 t) (ix2 r l) = m ((c : Thread nD τ).loc main_arg0) (ix2 i l) := by
  blk_point [iblk, V, idx t] <;> omega

theorem block_three (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 3 t) (ix2 r l) = m ((c : Thread nD τ).loc main_arg3) (ix2 i l) := by
  blk_point [iblk, V, idx t] <;> omega

theorem error_block (m : (ℓ : Loc nD τ sig) → Buf (Elt Ideal) ℓ) (c : Dev nD) (t : Fin cfg0.N) (r : Fin 512) (i : Fin 4096) (hi : i.val = t.val * 512 + r.val) (k : Fin 2048) :
    (k0_pay8 (F := Ideal) (iblk m c 0 t) (iblk m c 1 t) (iblk m c 2 t) (iblk m c 3 t)) (ix2 r k) = Cert.Reference31Ideal.Read.val_main_v26 (F := Ideal) (m ((c : Thread nD τ).loc main_arg0)) (m ((c : Thread nD τ).loc main_arg1)) (m ((c : Thread nD τ).loc main_arg2)) (m ((c : Thread nD τ).loc main_arg3)) (ix2 i k) := by
  rw [rows_one, rows_two]
  exact error _ _ _ _ _ _ r i k (block_zero m c t r i hi) (block_three m c t r i hi k)

theorem final_scale_first (m : (ℓ : Loc nD τ sig) → Buf (Elt Ideal) ℓ) (c : Dev nD) (t : Fin cfg0.N) (h : t.val % 8 = 0) (j : S1x2048.Idx) :
    (show FVec Ideal S1x2048 .f32 from (outsAt0 m c t.val t.isLt).2.2.2.1) j = ∑ r : Fin 512, k0_pay7 (F := Ideal) (iblk m c 0 t) (ix2 r (j 1)) * ((k0_pay8 (F := Ideal) (iblk m c 0 t) (iblk m c 1 t) (iblk m c 2 t) (iblk m c 3 t)) (ix2 r (j 1)) * ((1 / 2048 : ℝ) : EReal)) := by
  rw [outsAt0_A m c t h (by omega)]
  frame_out
  rw [step_scale, zero_scale, zero_add]

theorem final_scale_next (m : (ℓ : Loc nD τ sig) → Buf (Elt Ideal) ℓ) (c : Dev nD) (t : Fin cfg0.N) (h : ¬ t.val % 8 = 0) (j : S1x2048.Idx) :
    (show FVec Ideal S1x2048 .f32 from (outsAt0 m c t.val t.isLt).2.2.2.1) j = (show FVec Ideal S1x2048 .f32 from (outsAt0 m c (t.val - 1) (Nat.lt_of_le_of_lt (Nat.sub_le _ _) t.isLt)).2.2.2.1) j + ∑ r : Fin 512, k0_pay7 (F := Ideal) (iblk m c 0 t) (ix2 r (j 1)) * ((k0_pay8 (F := Ideal) (iblk m c 0 t) (iblk m c 1 t) (iblk m c 2 t) (iblk m c 3 t)) (ix2 r (j 1)) * ((1 / 2048 : ℝ) : EReal)) := by
  by_cases h' : t.val % 8 = 7
  · rw [outsAt0_C m c t h h']
    frame_out
    rw [step_scale]
  · rw [outsAt0_B m c t h h']
    frame_out
    rw [step_scale]

theorem final_scale_sum (m : (ℓ : Loc nD τ sig) → Buf (Elt Ideal) ℓ) (c : Dev nD) (t : Fin cfg0.N) (h7 : t.val % 8 = 7) (j : S1x2048.Idx) :
    (show FVec Ideal S1x2048 .f32 from (outsAt0 m c t.val t.isLt).2.2.2.1) j = ∑ s : Fin 8, ∑ r : Fin 512, k0_pay7 (F := Ideal) (iblk m c 0 ⟨8 * (t.val / 8) + s.val, Pipeline.run_point_lt_of_flush t h7 s⟩) (ix2 r (j 1)) * ((k0_pay8 (F := Ideal) (iblk m c 0 ⟨8 * (t.val / 8) + s.val, Pipeline.run_point_lt_of_flush t h7 s⟩) (iblk m c 1 ⟨8 * (t.val / 8) + s.val, Pipeline.run_point_lt_of_flush t h7 s⟩) (iblk m c 2 ⟨8 * (t.val / 8) + s.val, Pipeline.run_point_lt_of_flush t h7 s⟩) (iblk m c 3 ⟨8 * (t.val / 8) + s.val, Pipeline.run_point_lt_of_flush t h7 s⟩)) (ix2 r (j 1)) * ((1 / 2048 : ℝ) : EReal)) := by
  refine (Pipeline.eq_sum_fin_of_reset_step_apply_of_flush (N := cfg0.N) (fun n h => (show FVec Ideal S1x2048 .f32 from (outsAt0 m c n h).2.2.2.1)) 8 (fun _ => 0)
    (fun p j => ∑ r : Fin 512, k0_pay7 (F := Ideal) (iblk m c 0 p) (ix2 r (j 1)) * ((k0_pay8 (F := Ideal) (iblk m c 0 p) (iblk m c 1 p) (iblk m c 2 p) (iblk m c 3 p)) (ix2 r (j 1)) * ((1 / 2048 : ℝ) : EReal))) (fun t h j => ?_) (fun t h j => ?_) t h7 j).trans (zero_add _)
  · rw [zero_add]
    exact final_scale_first m c t h j
  · exact final_scale_next m c t h j

theorem final_scale (m : (ℓ : Loc nD τ sig) → Buf (Elt Ideal) ℓ) (c : Dev nD) : (dats m 0 c).arrAt 7 (cfgs 0).N = Cert.Reference31Ideal.Read.val_main_v52 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  have h7 : t.val % 8 = 7 := (flush0_7 t).mp hf
  blk_simp
  rw [after0_7]
  refine (final_scale_sum m c t h7 y).trans ?_
  rw [total_scale]
  have hy : (((View.whole main_v0_3).slice (win0_7.rect t)).emb y 1).val = (y 1).val := by blk_point [idx t]
  generalize (((View.whole main_v0_3).slice (win0_7.rect t)).emb y) = z at hy ⊢
  rw [show z 1 = y 1 from Fin.ext hy]
  refine Fin.sum_mul_add_congr fun s r hl => ?_
  have hi : (⟨s.val * 512 + r.val, hl⟩ : Fin 4096).val = (8 * (t.val / 8) + s.val) * 512 + r.val := by
    have := Nat.lt_of_lt_of_eq t.isLt N_0
    show s.val * 512 + r.val = _
    omega
  generalize (⟨s.val * 512 + r.val, hl⟩ : Fin 4096) = i at hi ⊢
  have he := error_block m c ⟨8 * (t.val / 8) + s.val, Pipeline.run_point_lt_of_flush t h7 s⟩ r i hi (y 1)
  have hx := normed (iblk m c 0 ⟨8 * (t.val / 8) + s.val, Pipeline.run_point_lt_of_flush t h7 s⟩) (m ((c : Thread nD τ).loc main_arg0)) r i (y 1) (block_zero m c ⟨8 * (t.val / 8) + s.val, Pipeline.run_point_lt_of_flush t h7 s⟩ r i hi)
  exact congrArg₂ (fun a b : EReal => a * (b * ((1 / 2048 : ℝ) : EReal))) hx he

theorem final_shift_first (m : (ℓ : Loc nD τ sig) → Buf (Elt Ideal) ℓ) (c : Dev nD) (t : Fin cfg0.N) (h : t.val % 8 = 0) (j : S1x2048.Idx) :
    (show FVec Ideal S1x2048 .f32 from (outsAt0 m c t.val t.isLt).2.2.2.2.1) j = ∑ r : Fin 512, (k0_pay8 (F := Ideal) (iblk m c 0 t) (iblk m c 1 t) (iblk m c 2 t) (iblk m c 3 t)) (ix2 r (j 1)) * ((1 / 2048 : ℝ) : EReal) := by
  rw [outsAt0_A m c t h (by omega)]
  frame_out
  rw [step_shift, zero_shift, zero_add]

theorem final_shift_next (m : (ℓ : Loc nD τ sig) → Buf (Elt Ideal) ℓ) (c : Dev nD) (t : Fin cfg0.N) (h : ¬ t.val % 8 = 0) (j : S1x2048.Idx) :
    (show FVec Ideal S1x2048 .f32 from (outsAt0 m c t.val t.isLt).2.2.2.2.1) j = (show FVec Ideal S1x2048 .f32 from (outsAt0 m c (t.val - 1) (Nat.lt_of_le_of_lt (Nat.sub_le _ _) t.isLt)).2.2.2.2.1) j + ∑ r : Fin 512, (k0_pay8 (F := Ideal) (iblk m c 0 t) (iblk m c 1 t) (iblk m c 2 t) (iblk m c 3 t)) (ix2 r (j 1)) * ((1 / 2048 : ℝ) : EReal) := by
  by_cases h' : t.val % 8 = 7
  · rw [outsAt0_C m c t h h']
    frame_out
    rw [step_shift]
  · rw [outsAt0_B m c t h h']
    frame_out
    rw [step_shift]

theorem final_shift_sum (m : (ℓ : Loc nD τ sig) → Buf (Elt Ideal) ℓ) (c : Dev nD) (t : Fin cfg0.N) (h7 : t.val % 8 = 7) (j : S1x2048.Idx) :
    (show FVec Ideal S1x2048 .f32 from (outsAt0 m c t.val t.isLt).2.2.2.2.1) j = ∑ s : Fin 8, ∑ r : Fin 512, (k0_pay8 (F := Ideal) (iblk m c 0 ⟨8 * (t.val / 8) + s.val, Pipeline.run_point_lt_of_flush t h7 s⟩) (iblk m c 1 ⟨8 * (t.val / 8) + s.val, Pipeline.run_point_lt_of_flush t h7 s⟩) (iblk m c 2 ⟨8 * (t.val / 8) + s.val, Pipeline.run_point_lt_of_flush t h7 s⟩) (iblk m c 3 ⟨8 * (t.val / 8) + s.val, Pipeline.run_point_lt_of_flush t h7 s⟩)) (ix2 r (j 1)) * ((1 / 2048 : ℝ) : EReal) := by
  refine (Pipeline.eq_sum_fin_of_reset_step_apply_of_flush (N := cfg0.N) (fun n h => (show FVec Ideal S1x2048 .f32 from (outsAt0 m c n h).2.2.2.2.1)) 8 (fun _ => 0)
    (fun p j => ∑ r : Fin 512, (k0_pay8 (F := Ideal) (iblk m c 0 p) (iblk m c 1 p) (iblk m c 2 p) (iblk m c 3 p)) (ix2 r (j 1)) * ((1 / 2048 : ℝ) : EReal)) (fun t h j => ?_) (fun t h j => ?_) t h7 j).trans (zero_add _)
  · rw [zero_add]
    exact final_shift_first m c t h j
  · exact final_shift_next m c t h j

theorem final_shift (m : (ℓ : Loc nD τ sig) → Buf (Elt Ideal) ℓ) (c : Dev nD) : (dats m 0 c).arrAt 8 (cfgs 0).N = Cert.Reference31Ideal.Read.val_main_v51 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  have h7 : t.val % 8 = 7 := (flush0_8 t).mp hf
  blk_simp
  rw [after0_8]
  refine (final_shift_sum m c t h7 y).trans ?_
  rw [total_shift]
  have hy : (((View.whole main_v0_4).slice (win0_8.rect t)).emb y 1).val = (y 1).val := by blk_point [idx t]
  generalize (((View.whole main_v0_4).slice (win0_8.rect t)).emb y) = z at hy ⊢
  rw [show z 1 = y 1 from Fin.ext hy]
  refine Fin.sum_mul_add_congr fun s r hl => ?_
  have hi : (⟨s.val * 512 + r.val, hl⟩ : Fin 4096).val = (8 * (t.val / 8) + s.val) * 512 + r.val := by
    have := Nat.lt_of_lt_of_eq t.isLt N_0
    show s.val * 512 + r.val = _
    omega
  generalize (⟨s.val * 512 + r.val, hl⟩ : Fin 4096) = i at hi ⊢
  exact congrArg (fun a : EReal => a * ((1 / 2048 : ℝ) : EReal)) (error_block m c ⟨8 * (t.val / 8) + s.val, Pipeline.run_point_lt_of_flush t h7 s⟩ r i hi (y 1))

attribute [local instance] Cert.Kernel31.Gen.facts Cert.Kernel31Ideal.Gen.facts Cert.Reference31Ideal.Gen.facts

theorem algebraic : Cert.algebraic_Kernel31Ideal_Reference31Ideal := by
  intro m g m' g' _ same
  refine ⟨fun c => (dats m 0 c).arrAt 7 cfg0.N, fun c => (dats m 0 c).arrAt 8 cfg0.N, (θ_run _ _ _).mono (fun r h c => (h c).2.2.2) (Cert.Kernel31Ideal.Value.run_blocks m g),
    (θ_run _ _ _).mono (fun r h c => ⟨(h c).1.trans ?_, (h c).2.1.trans ?_, (h c).2.2⟩) (Cert.Reference31Ideal.Value.run m' g')⟩
  all_goals obtain ⟨e0, e1, e2, e3⟩ := same c
  · refine (Cert.Reference31Ideal.Read.val_main_v52_eq m' c).trans ?_
    rw [e0, e1, e2, e3]
    exact (final_scale m c).symm
  · refine (Cert.Reference31Ideal.Read.val_main_v51_eq _ _ _ _).trans ?_
    rw [e0, e1, e2, e3]
    exact (final_shift m c).symm

theorem frame_kernel : Cert.quiescent_Kernel31 := fun m ρ _ => Cert.Kernel31.Gen.frame m ρ

theorem frame_ideal : Cert.quiescent_Kernel31Ideal := fun m ρ _ => Cert.Kernel31Ideal.Gen.frame m ρ

theorem frame_reference : Cert.quiescent_Reference31Ideal := fun m ρ _ =>
  (θ_run _ _ _).mono (fun r h => ⟨fun c => (h c).2.2, sem_eq_zero_of_no_sems (by decide) r.2⟩)
    (Cert.Reference31Ideal.Value.run m ρ)

end Cert.LossBwd

end
-- ==== Proof.CastX.lean ====
module

public import proofs.«01_k».proof.Defs
public import proofs.«01_k».proof.Proof.Gen.Kernel32
public import proofs.«01_k».proof.Proof.Gen.Kernel32Ideal.Value
public import proofs.«01_k».proof.Proof.Gen.Reference32Ideal.Read
public import Idealize.ShloMosaic.Lib.Pipeline.ValueKit
public import Idealize.ShloMosaic.Lib.Quiescent

/-! The step's input, rounded for the products. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.CastX

open Cert.Kernel32Ideal Cert.Kernel32Ideal.Gen

theorem idx : ∀ t : Fin cfg0.N, win0_0.index t = ![t.val, 0] ∧ win0_1.index t = ![t.val, 0] :=
  (by decide +kernel : ∀ t : Fin grid0.N, _)

theorem final (m : (ℓ : Loc nD τ sig) → Buf (Elt Ideal) ℓ) (c : Dev nD) : (dats m 0 c).arrAt 1 (cfgs 0).N
    = Cert.Reference32Ideal.Read.val_main_v0 (F := Ideal) (m ((c : Thread nD τ).loc main_arg0)) := by
  refine (dats m 0 c).arrAt_eq_of_covers 1 _ (by decide +kernel) fun t _ y => ?_
  blk_simp
  rw [after0_1, ← Cert.Reference32Ideal.Read.val_main_v0_eq]
  frame_out
  pointwise [k0_pay1]
  blk_point [iblk, V, idx t]

attribute [local instance] Cert.Kernel32.Gen.facts Cert.Kernel32Ideal.Gen.facts Cert.Reference32Ideal.Gen.facts

theorem algebraic : Cert.algebraic_Kernel32Ideal_Reference32Ideal := by
  intro m g m' g' _ same
  refine ⟨fun c => (dats m 0 c).arrAt 1 cfg0.N, Cert.Kernel32Ideal.Value.run_blocks m g,
    (θ_run _ _ _).mono (fun r h c => ⟨(h c).1.trans ?_, (h c).2⟩) (Cert.Reference32Ideal.Value.run m' g')⟩
  rw [same c]
  exact (final m c).symm

theorem defs_eq : @Cert.Kernel32Ideal.defs Bits _ _ = @Cert.Kernel32.defs Bits _ _ := by
  refine congrArg (Pipeline.defs Cert.Kernel32Ideal.pcfgs) (congrArg Defs.onTc (funext fun l => funext fun a => ?_))
  match l, a with
  | 0, (t, s) => rfl

theorem frame_kernel : Cert.quiescent_Kernel32 := fun m ρ _ => by
  have h := Cert.Kernel32Ideal.Gen.frame (F := Bits) m ρ
  rw [defs_eq] at h
  exact h

theorem frame_ideal : Cert.quiescent_Kernel32Ideal := fun m ρ _ => Cert.Kernel32Ideal.Gen.frame m ρ

theorem frame_reference : Cert.quiescent_Reference32Ideal := fun m ρ _ =>
  (θ_run _ _ _).mono (fun r h => ⟨fun c => (h c).2, sem_eq_zero_of_no_sems (by decide) r.2⟩)
    (Cert.Reference32Ideal.Value.run m ρ)

end Cert.CastX

end
-- ==== Proof.NormRow.lean ====
module

public import proofs.«01_k».proof.Proof.Spec

/-! One row of the layer norm over the real numbers: its gradient as the kernel writes it is the gradient as the
derivative writes it. -/

@[expose] public section

noncomputable section

open Idealize.ShloMosaic Idealize.ShloMosaic.Pointwise

namespace Cert.NormRow

theorem width : Ideal.ofBits .f32 0x45000000#32 = ((2048 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem half : Ideal.ofBits .f32 0xBF000000#32 = ((-(1 / 2) : ℝ) : EReal) := by
  simp [Ideal.ofBits, Ideal.ieee, -EReal.coe_mul]
  norm_num

/-- What the layer norm adds to the variance, as its word reads. -/
def small : ℝ := 10995116 / 2 ^ 40

theorem small_word : Ideal.ofBits .f32 0x3727C5AC#32 = (small : EReal) := by
  simp [Ideal.ofBits, Ideal.ieee, small, -EReal.coe_mul]
  norm_num

theorem small_pos : 0 < small := by
  unfold small
  norm_num

/-- The mean of a row. -/
def mean (x : Fin 2048 → ℝ) : ℝ := (∑ l, x l) / 2048

/-- A row's variance and the small number beside it. -/
def spread (x : Fin 2048 → ℝ) : ℝ := (∑ l, (x l - mean x) * (x l - mean x)) / 2048 + small

theorem spread_pos (x : Fin 2048 → ℝ) : 0 < spread x :=
  add_pos_of_nonneg_of_pos (div_nonneg (Finset.sum_nonneg fun l _ => mul_self_nonneg _) (by norm_num)) small_pos

/-- The reciprocal of its root. -/
def scale (x : Fin 2048 → ℝ) : ℝ := (Real.sqrt (spread x))⁻¹

theorem scale_sq (x : Fin 2048 → ℝ) : scale x * scale x = 1 / spread x := by
  rw [scale, ← mul_inv, Real.mul_self_sqrt (spread_pos x).le, one_div]

theorem sum_centred (x : Fin 2048 → ℝ) : ∑ l, (x l - mean x) = 0 := by
  rw [Finset.sum_sub_distrib, Finset.sum_const, Finset.card_univ, Fintype.card_fin, mean, nsmul_eq_mul]
  push_cast
  ring

theorem mean_coe (x : Fin 2048 → ℝ) : Ideal.div (∑ l, (x l : EReal)) ((2048 : ℝ) : EReal) = (mean x : EReal) := by
  rw [← Cert.Rows.coe_sum, Cert.Rows.div_coe _ _ (by norm_num), mean]

theorem rsqrt_spread (x : Fin 2048 → ℝ) : Ideal.rsqrt (spread x : EReal) = (scale x : EReal) := by
  rw [Ideal.rsqrt_coe, if_neg (not_lt.2 (spread_pos x).le), if_neg (spread_pos x).ne', scale]

/-- The gradient as the kernel writes it. -/
def by_rows (x u : Fin 2048 → ℝ) (k : Fin 2048) : ℝ :=
  scale x * (u k - mean u - (x k - mean x) * scale x * mean fun l => u l * ((x l - mean x) * scale x))

/-- The gradient as the derivative writes it. -/
def by_chain (x u : Fin 2048 → ℝ) (k : Fin 2048) : ℝ :=
  let a := (∑ l, (x l - mean x) * u l) * (-(1 / 2) * (scale x / spread x)) / 2048
  u k * scale x + a * (2 * (x k - mean x)) + ((∑ l, -(u l * scale x)) + ∑ l, -(a * (2 * (x l - mean x)))) / 2048

theorem rows_eq_chain (x u : Fin 2048 → ℝ) (k : Fin 2048) : by_rows x u k = by_chain x u k := by
  have h0 := sum_centred x
  have h1 : scale x / spread x = scale x * (scale x * scale x) := by rw [scale_sq, mul_one_div]
  have h2 : mean (fun l => u l * ((x l - mean x) * scale x)) = (∑ l, (x l - mean x) * u l) * scale x / 2048 := by
    rw [mean, Finset.sum_mul]
    congr 1
    exact Finset.sum_congr rfl fun l _ => by ring
  have h3 : ∑ l, -(u l * scale x) = -(2048 * mean u * scale x) := by
    rw [Finset.sum_neg_distrib, ← Finset.sum_mul, mean]
    ring
  have h4 : ∀ a : ℝ, ∑ l, -(a * (2 * (x l - mean x))) = 0 := fun a => by
    rw [Finset.sum_neg_distrib, ← Finset.mul_sum, ← Finset.mul_sum, h0]
    ring
  rw [by_rows, by_chain, h1, h2, h3, h4]
  ring

theorem centred_coe (x : Fin 2048 → ℝ) (l : Fin 2048) : (x l : EReal) - (mean x : EReal) = ((x l - mean x : ℝ) : EReal) := (EReal.coe_sub _ _).symm

theorem spread_coe (x : Fin 2048 → ℝ) : Ideal.div (∑ l, ((x l - mean x : ℝ) : EReal) * ((x l - mean x : ℝ) : EReal)) ((2048 : ℝ) : EReal) + (small : EReal) = (spread x : EReal) := by
  simp only [← EReal.coe_mul]
  rw [mean_coe fun l => (x l - mean x) * (x l - mean x), ← EReal.coe_add]
  rfl

end Cert.NormRow

end
-- ==== Proof.LnBwdRows.lean ====
module

public import proofs.«01_k».proof.Defs
public import proofs.«01_k».proof.Proof.Gen.Kernel33.Frame
public import proofs.«01_k».proof.Proof.Gen.Kernel33Ideal.Value
public import proofs.«01_k».proof.Proof.Gen.Reference33Ideal.Read
public import proofs.«01_k».proof.Proof.Gen.Pre_finite_rows
public import Idealize.ShloMosaic.Lib.Pipeline.ValueKit
public import Idealize.ShloMosaic.Lib.Quiescent
public import proofs.«01_k».proof.Proof.NormRow
public import proofs.«01_k».proof.Proof.Finite

/-! The gradient of a layer norm with respect to its argument, row by row, and the same rounded for the products. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.LnBwdRows

open Cert.Kernel33Ideal Cert.Kernel33Ideal.Gen Cert.NormRow

theorem kernel_row (x d : FVec Ideal S512x2048 .f32) (w : FVec Ideal S1x2048 .f32) (a b c : Fin 2048 → ℝ) (r : Fin 512)
    (hx : ∀ l, x (ix2 r l) = (a l : EReal)) (hd : ∀ l, d (ix2 r l) = (b l : EReal)) (hw : ∀ l, w (ix2 0 l) = (c l : EReal)) (k : Fin 2048) :
    k0_pay1 (F := Ideal) (k0_pay6 x) (k0_pay7 x) d w (ix2 r k) = (by_rows a (fun l => b l * c l) k : EReal) := by
  pointwise [k0_pay1, k0_pay5, k0_pay6, k0_pay7]
  simp only [hx, hd, hw, width, small_word, mean_coe, centred_coe, spread_coe, rsqrt_spread]
  simp only [← EReal.coe_mul, mean_coe, ← EReal.coe_sub]
  rfl

open Cert.Reference33Ideal.Read in
theorem shared_row (X D : FVec Ideal S4096x2048 .f32) (W : FVec Ideal S1x2048 .f32) (a b c : Fin 2048 → ℝ) (i : Fin 4096)
    (hx : ∀ l, X (ix2 i l) = (a l : EReal)) (hd : ∀ l, D (ix2 i l) = (b l : EReal)) (hw : ∀ l, W (ix2 0 l) = (c l : EReal)) :
    val_main_v43 (F := Ideal) X W D (ix2 i 0) = ((∑ l, (a l - mean a) * (b l * c l)) * (-(1 / 2) * (scale a / spread a)) / 2048 : ℝ) := by
  unfold val_main_v43 val_main_v42 val_main_cst_9 val_main_v38 val_main_v35 val_main_v34 val_main_cst_7 val_main_v33 val_main_v32 val_main_v31 val_main_v25 val_main_v22 val_main_v21 val_main_cst_6 val_main_v20 val_main_v19 val_main_v18 val_main_v17 val_main_cst_5 val_main_v16 val_main_v15 val_main_v14 val_main_v13 val_main_cst_4 val_main_v12 val_main_v11 val_main_cst_3 val_main_v8 val_main_v7 val_main_v6 val_main_v5 val_main_v4 val_main_cst_1 val_main_v3 val_main_v2 val_main_cst_0 val_main_v0
  pointwise
  simp only [hx, hd, hw, width, half, small_word, mean_coe, centred_coe, spread_coe, rsqrt_spread]
  rw [Cert.Rows.div_coe _ _ (spread_pos a).ne']
  simp only [← EReal.coe_mul, ← Cert.Rows.coe_sum]
  rw [Cert.Rows.div_coe _ _ (by norm_num)]

open Cert.Reference33Ideal.Read in
theorem direct_row (X D : FVec Ideal S4096x2048 .f32) (W : FVec Ideal S1x2048 .f32) (a b c : Fin 2048 → ℝ) (i : Fin 4096)
    (hx : ∀ l, X (ix2 i l) = (a l : EReal)) (hd : ∀ l, D (ix2 i l) = (b l : EReal)) (hw : ∀ l, W (ix2 0 l) = (c l : EReal)) (k : Fin 2048) :
    val_main_v37 (F := Ideal) X W D (ix2 i k) = ((b k * c k) * scale a : ℝ) := by
  unfold val_main_v37 val_main_v36 val_main_v32 val_main_v31 val_main_v25 val_main_v19 val_main_v18 val_main_v17 val_main_cst_5 val_main_v14 val_main_v13 val_main_cst_4 val_main_v12 val_main_v11 val_main_cst_3 val_main_v8 val_main_v7 val_main_v6 val_main_v5 val_main_v4 val_main_cst_1 val_main_v3 val_main_v2 val_main_cst_0 val_main_v0
  pointwise
  simp only [hx, hd, hw, width, small_word, mean_coe, centred_coe, spread_coe, rsqrt_spread]
  simp only [← EReal.coe_mul]

open Cert.Reference33Ideal.Read in
theorem twice_row (X : FVec Ideal S4096x2048 .f32) (a : Fin 2048 → ℝ) (i : Fin 4096)
    (hx : ∀ l, X (ix2 i l) = (a l : EReal)) (k : Fin 2048) :
    val_main_v10 (F := Ideal) X (ix2 i k) = (2 * (a k - mean a) : ℝ) := by
  unfold val_main_v10 val_main_v9 val_main_cst_2 val_main_v7 val_main_v6 val_main_v5 val_main_v4 val_main_cst_1 val_main_v3 val_main_v2 val_main_cst_0
  pointwise
  simp only [hx, width, two, mean_coe, centred_coe]
  simp only [← EReal.coe_mul]

open Cert.Reference33Ideal.Read in
theorem reference_row (X D : FVec Ideal S4096x2048 .f32) (W : FVec Ideal S1x2048 .f32) (a b c : Fin 2048 → ℝ) (i : Fin 4096)
    (hx : ∀ l, X (ix2 i l) = (a l : EReal)) (hd : ∀ l, D (ix2 i l) = (b l : EReal)) (hw : ∀ l, W (ix2 0 l) = (c l : EReal)) (k : Fin 2048) :
    val_main_v56 (F := Ideal) X W D (ix2 i k) = (by_chain a (fun l => b l * c l) k : EReal) := by
  have h1 := shared_row X D W a b c i hx hd hw
  have h2 := direct_row X D W a b c i hx hd hw
  have h3 := twice_row X a i hx
  unfold val_main_v56 val_main_v55 val_main_v54 val_main_cst_13 val_main_v53 val_main_v52 val_main_cst_12 val_main_v51 val_main_v50 val_main_v49 val_main_v48 val_main_cst_11 val_main_v47 val_main_v46 val_main_v45 val_main_v44 val_main_cst_10 val_main_v41 val_main_v40 val_main_cst_8 val_main_v39
  generalize val_main_v43 (F := Ideal) X W D = p at h1 ⊢
  generalize val_main_v37 (F := Ideal) X W D = q at h2 ⊢
  generalize val_main_v10 (F := Ideal) X = s at h3 ⊢
  pointwise
  simp only [Fin.sum_univ_one, h1, h2, h3, width]
  simp only [← EReal.coe_mul, ← EReal.coe_neg, ← Cert.Rows.coe_sum, ← EReal.coe_add]
  rw [Cert.Rows.div_coe _ _ (by norm_num), ← EReal.coe_add]
  rfl

theorem idx : ∀ t : Fin cfg0.N, win0_0.index t = ![t.val, 0] ∧ win0_1.index t = ![0, 0] ∧ win0_2.index t = ![t.val, 0]
    ∧ win0_3.index t = ![t.val, 0] ∧ win0_4.index t = ![t.val, 0] :=
  (by decide +kernel : ∀ t : Fin grid0.N, _)

theorem block_zero (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 0 t) (ix2 r l) = m ((c : Thread nD τ).loc main_arg0) (ix2 i l) := by
  blk_point [iblk, V, idx t] <;> omega

theorem block_one (m : (ℓ : Loc nD τ sig) → Buf (Elt Ideal) ℓ) (c : Dev nD) (t : Fin cfg0.N) (l : Fin 2048) :
    (show FVec Ideal S1x2048 .f32 from iblk m c 1 t) (ix2 0 l) = m ((c : Thread nD τ).loc main_arg1) (ix2 0 l) := by
  blk_point [iblk, V, idx t]

theorem block_two (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 2 t) (ix2 r l) = m ((c : Thread nD τ).loc main_arg2) (ix2 i l) := by
  blk_point [iblk, V, idx t] <;> omega

/-- The arguments hold real numbers. -/
structure Real (X D : FVec Ideal S4096x2048 .f32) (W : FVec Ideal S1x2048 .f32) : Prop where
  x : ∀ i l, X (ix2 i l) = ((X (ix2 i l)).toReal : EReal)
  d : ∀ i l, D (ix2 i l) = ((D (ix2 i l)).toReal : EReal)
  w : ∀ l, W (ix2 0 l) = ((W (ix2 0 l)).toReal : EReal)

theorem block_row (m : (ℓ : Loc nD τ sig) → Buf (Elt Ideal) ℓ) (c : Dev nD)
    (held : Real (m ((c : Thread nD τ).loc main_arg0)) (m ((c : Thread nD τ).loc main_arg2)) (m ((c : Thread nD τ).loc main_arg1)))
    (t : Fin cfg0.N) (r : Fin 512) (i : Fin 4096) (hi : i.val = t.val * 512 + r.val) (k : Fin 2048) :
    k0_pay1 (F := Ideal) (k0_pay6 (iblk m c 0 t)) (k0_pay7 (iblk m c 0 t)) (iblk m c 2 t) (iblk m c 1 t) (ix2 r k)
      = Cert.Reference33Ideal.Read.val_main_v56 (F := Ideal) (m ((c : Thread nD τ).loc main_arg0)) (m ((c : Thread nD τ).loc main_arg1)) (m ((c : Thread nD τ).loc main_arg2)) (ix2 i k) := by
  rw [kernel_row (iblk m c 0 t) (iblk m c 2 t) (iblk m c 1 t) _ _ _ r (fun l => (block_zero m c t r i hi l).trans (held.x i l))
    (fun l => (block_two m c t r i hi l).trans (held.d i l)) (fun l => (block_one m c t l).trans (held.w l)) k,
    reference_row _ _ _ _ _ _ i (held.x i) (held.d i) held.w k, rows_eq_chain]

theorem out_rows (m : (ℓ : Loc nD τ sig) → Buf (Elt Ideal) ℓ) (c : Dev nD) (t : Fin cfg0.N) :
    (show FVec Ideal S512x2048 .f32 from (outsAt0 m c t.val t.isLt).1) = k0_pay1 (F := Ideal) (k0_pay6 (iblk m c 0 t)) (k0_pay7 (iblk m c 0 t)) (iblk m c 2 t) (iblk m c 1 t) := by
  by_cases h : t.val % 8 = 0
  · rw [outsAt0_A m c t h]
    frame_out
  · rw [outsAt0_B m c t h]
    frame_out

theorem out_rounded (m : (ℓ : Loc nD τ sig) → Buf (Elt Ideal) ℓ) (c : Dev nD) (t : Fin cfg0.N) :
    (show FVec Ideal S512x2048 .bf16 from (outsAt0 m c t.val t.isLt).2.1) = k0_pay2 (F := Ideal) (k0_pay6 (iblk m c 0 t)) (k0_pay7 (iblk m c 0 t)) (iblk m c 2 t) (iblk m c 1 t) := by
  by_cases h : t.val % 8 = 0
  · rw [outsAt0_A m c t h]
    frame_out
  · rw [outsAt0_B m c t h]
    frame_out

theorem final_rows (m : (ℓ : Loc nD τ sig) → Buf (Elt Ideal) ℓ) (c : Dev nD)
    (held : Real (m ((c : Thread nD τ).loc main_arg0)) (m ((c : Thread nD τ).loc main_arg2)) (m ((c : Thread nD τ).loc main_arg1))) :
    (dats m 0 c).arrAt 3 (cfgs 0).N = Cert.Reference33Ideal.Read.val_main_v56 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (congrFun (out_rows m c t) y).trans ?_
  have h0 : (((View.whole main_v0_0).slice (win0_3.rect t)).emb y 0).val = t.val * 512 + (y 0).val := by blk_point [idx t] <;> omega
  have h1 : (((View.whole main_v0_0).slice (win0_3.rect t)).emb y 1).val = (y 1).val := by blk_point [idx t]
  generalize (((View.whole main_v0_0).slice (win0_3.rect t)).emb y) = z at h0 h1 ⊢
  rw [eq_ix2 y, eq_ix2 z, show z 1 = y 1 from Fin.ext h1]
  exact block_row m c held t (y 0) (z 0) h0 (y 1)

theorem final_rounded (m : (ℓ : Loc nD τ sig) → Buf (Elt Ideal) ℓ) (c : Dev nD)
    (held : Real (m ((c : Thread nD τ).loc main_arg0)) (m ((c : Thread nD τ).loc main_arg2)) (m ((c : Thread nD τ).loc main_arg1))) :
    (dats m 0 c).arrAt 4 (cfgs 0).N = Cert.Reference33Ideal.Read.val_main_v57 (F := Ideal) (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine (congrFun (out_rounded m c t) y).trans ?_
  have h0 : (((View.whole main_v0_1).slice (win0_4.rect t)).emb y 0).val = t.val * 512 + (y 0).val := by blk_point [idx t] <;> omega
  have h1 : (((View.whole main_v0_1).slice (win0_4.rect t)).emb y 1).val = (y 1).val := by blk_point [idx t]
  generalize (((View.whole main_v0_1).slice (win0_4.rect t)).emb y) = z at h0 h1 ⊢
  rw [eq_ix2 y, eq_ix2 z, show z 1 = y 1 from Fin.ext h1]
  exact block_row m c held t (y 0) (z 0) h0 (y 1)

attribute [local instance] Cert.Kernel33.Gen.facts Cert.Kernel33Ideal.Gen.facts Cert.Reference33Ideal.Gen.facts Cert.Pre_finite_rows.Gen.facts

theorem held_of_pre (X D : FVec Ideal S4096x2048 .f32) (W : FVec Ideal S1x2048 .f32)
    (h : Cert.Pre_finite_rows.fn (F := Ideal) X W D = fun _ => 1#1) : Real X D W := by
  have j : Cert.Pre_finite_rows.S_.Idx := fun k => k.elim0
  obtain ⟨h1, e2⟩ := IntOp.andi_eq_one.1 (congrFun h j)
  obtain ⟨e0, e1⟩ := IntOp.andi_eq_one.1 h1
  exact ⟨fun i l => Cert.Rows.real_of_all X _ _ _ _ j e0 (ix2 i l), fun i l => Cert.Rows.real_of_all D _ _ _ _ j e2 (ix2 i l), fun l => Cert.Rows.real_of_all W _ _ _ _ j e1 (ix2 0 l)⟩

theorem algebraic : Cert.algebraic_Kernel33Ideal_Reference33Ideal_pre_finite_rows := by
  intro m g m' g' pre same
  refine ⟨fun c => (dats m 0 c).arrAt 3 cfg0.N, fun c => (dats m 0 c).arrAt 4 cfg0.N, (θ_run _ _ _).mono (fun r h c => ⟨(h c).1, (h c).2.1, (h c).2.2.2.2⟩) (Cert.Kernel33Ideal.Value.run_blocks m g),
    (θ_run _ _ _).mono (fun r h c => ⟨(h c).1.trans ?_, (h c).2.1.trans ?_, (h c).2.2⟩) (Cert.Reference33Ideal.Value.run m' g')⟩
  all_goals obtain ⟨e0, e1, e2⟩ := same c
  · refine (Cert.Reference33Ideal.Read.val_main_v56_eq _ _).trans ?_
    rw [e0, e1, e2]
    exact (final_rows m c (held_of_pre _ _ _ (pre c))).symm
  · refine (Cert.Reference33Ideal.Read.val_main_v57_eq _ _).trans ?_
    rw [e0, e1, e2]
    exact (final_rounded m c (held_of_pre _ _ _ (pre c))).symm

theorem frame_kernel : Cert.quiescent_Kernel33 := fun m ρ _ => Cert.Kernel33.Gen.frame m ρ

theorem frame_ideal : Cert.quiescent_Kernel33Ideal := fun m ρ _ => Cert.Kernel33Ideal.Gen.frame m ρ

theorem frame_ideal_pre : Cert.quiescent_Kernel33Ideal_pre_finite_rows := fun m ρ _ => Cert.Kernel33Ideal.Gen.frame m ρ

theorem frame_reference : Cert.quiescent_Reference33Ideal := fun m ρ _ =>
  (θ_run _ _ _).mono (fun r h => ⟨fun c => (h c).2.2, sem_eq_zero_of_no_sems (by decide) r.2⟩)
    (Cert.Reference33Ideal.Value.run m ρ)

theorem frame_reference_pre : Cert.quiescent_Reference33Ideal_pre_finite_rows := fun m ρ _ => frame_reference m ρ trivial

end Cert.LnBwdRows

end
-- ==== Proof.LossBwdRows.lean ====
module

public import proofs.«01_k».proof.Defs
public import proofs.«01_k».proof.Proof.Gen.Kernel34.Frame
public import proofs.«01_k».proof.Proof.Gen.Kernel34Ideal.Value
public import proofs.«01_k».proof.Proof.Gen.Reference34Ideal.Read
public import proofs.«01_k».proof.Proof.Gen.Pre_finite_loss
public import Idealize.ShloMosaic.Lib.Pipeline.ValueKit
public import Idealize.ShloMosaic.Lib.Quiescent
public import proofs.«01_k».proof.Proof.NormRow
public import proofs.«01_k».proof.Proof.Finite

/-! The gradient of the loss with respect to the last layer norm's argument, row by row, and the same rounded for the
products. -/

@[expose] public section

set_option maxRecDepth 16384

noncomputable section

open Idealize.ShloMosaic Idealize.ShloMosaic.TcCoe Idealize.ShloMosaic.Pointwise Idealize.SL.Sem
open Idealize.ShloMosaic.Pipeline (Dat)

namespace Cert.LossBwdRows

open Cert.Kernel34Ideal Cert.Kernel34Ideal.Gen Cert.NormRow

/-- A row's error. -/
def error (x g b y : Fin 2048 → ℝ) (l : Fin 2048) : ℝ := (x l - mean x) * scale x * g l + b l - y l

theorem one_half : Ideal.ofBits .f32 0x3F000000#32 = ((1 / 2 : ℝ) : EReal) := by
  simp [Ideal.ofBits, Ideal.ieee, -EReal.coe_mul]
  norm_num

theorem part : Ideal.ofBits .f32 0x3A000000#32 = ((1 / 2048 : ℝ) : EReal) := by
  simp [Ideal.ofBits, Ideal.ieee, -EReal.coe_mul]
  norm_num

theorem kernel_error (x y : FVec Ideal S512x2048 .f32) (g b : FVec Ideal S1x2048 .f32) (x' g' b' y' : Fin 2048 → ℝ) (r : Fin 512)
    (hx : ∀ l, x (ix2 r l) = (x' l : EReal)) (hg : ∀ l, g (ix2 0 l) = (g' l : EReal)) (hb : ∀ l, b (ix2 0 l) = (b' l : EReal))
    (hy : ∀ l, y (ix2 r l) = (y' l : EReal)) (k : Fin 2048) :
    k0_pay8 (F := Ideal) x g b y (ix2 r k) = (error x' g' b' y' k : EReal) := by
  pointwise [k0_pay5, k0_pay6, k0_pay7, k0_pay8]
  simp only [hx, hg, hb, hy, width, small_word, mean_coe, centred_coe, spread_coe, rsqrt_spread]
  simp only [← EReal.coe_mul, ← EReal.coe_add, ← EReal.coe_sub]
  rfl

theorem kernel_row (x e : FVec Ideal S512x2048 .f32) (g : FVec Ideal S1x2048 .f32) (a d c : Fin 2048 → ℝ) (r : Fin 512)
    (hx : ∀ l, x (ix2 r l) = (a l : EReal)) (he : ∀ l, e (ix2 r l) = (d l : EReal)) (hg : ∀ l, g (ix2 0 l) = (c l : EReal)) (k : Fin 2048) :
    k0_pay13 (F := Ideal) (k0_pay6 x) (k0_pay7 x) e (Scalar.ofBits .f32 0x3A000000#32) g (ix2 r k) = (by_rows a (fun l => d l * (1 / 2048) * c l) k : EReal) := by
  pointwise [k0_pay13, k0_pay10, k0_pay5, k0_pay6, k0_pay7]
  simp only [hx, he, hg, width, part, small_word, mean_coe, centred_coe, spread_coe, rsqrt_spread]
  simp only [← EReal.coe_mul, mean_coe, ← EReal.coe_sub]
  rfl

open Cert.Reference34Ideal.Read in
theorem error_row (X Y : FVec Ideal S4096x2048 .f32) (g b : FVec Ideal S1x2048 .f32) (x' g' b' y' : Fin 2048 → ℝ) (i : Fin 4096)
    (hx : ∀ l, X (ix2 i l) = (x' l : EReal)) (hg : ∀ l, g (ix2 0 l) = (g' l : EReal)) (hb : ∀ l, b (ix2 0 l) = (b' l : EReal))
    (hy : ∀ l, Y (ix2 i l) = (y' l : EReal)) (k : Fin 2048) :
    val_main_v31 (F := Ideal) X g b Y (ix2 i k) = (error x' g' b' y' k : EReal) := by
  unfold val_main_v31 val_main_v30 val_main_v29 val_main_v28 val_main_v27 val_main_v26 val_main_v25 val_main_v24 val_main_v23 val_main_v19 val_main_v18 val_main_v17 val_main_cst_4 val_main_v16 val_main_v15 val_main_v14 val_main_v13 val_main_cst_3 val_main_v12 val_main_v11 val_main_cst_2 val_main_v8 val_main_v7 val_main_v6 val_main_v5 val_main_v4 val_main_cst_0 val_main_v3 val_main_v2 val_main_cst val_main_v1 val_main_v0
  pointwise
  simp only [hx, hg, hb, hy, width, small_word, mean_coe, centred_coe, spread_coe, rsqrt_spread]
  simp only [← EReal.coe_mul, ← EReal.coe_add, ← EReal.coe_sub]
  rfl

open Cert.Reference34Ideal.Read in
theorem scaled_row (X Y : FVec Ideal S4096x2048 .f32) (g b : FVec Ideal S1x2048 .f32) (e c : Fin 2048 → ℝ) (i : Fin 4096)
    (he : ∀ l, val_main_v31 (F := Ideal) X g b Y (ix2 i l) = (e l : EReal)) (hg : ∀ l, g (ix2 0 l) = (c l : EReal)) (k : Fin 2048) :
    val_main_v50 (F := Ideal) X g b Y (ix2 i k) = ((e k * (1 / 2048) * c k : ℝ) : EReal) := by
  unfold val_main_v50 val_main_v49 val_main_v48 val_main_v47 val_main_v46 val_main_v45 val_main_cst_14 val_main_v44 val_main_v43 val_main_cst_13 val_main_v42 val_main_cst_12 val_main_v41 val_main_cst_11 val_main_v34 val_main_v33 val_main_cst_6 val_main_v25 val_main_v0
  generalize val_main_v31 (F := Ideal) X g b Y = p at he ⊢
  pointwise
  rw [one_half, width, two, Fin.sum_univ_one, Fin.sum_univ_one, mul_one, he, hg, Cert.Rows.div_coe _ _ (by norm_num)]
  simp only [← EReal.coe_mul]
  exact congrArg (fun v : ℝ => (v : EReal)) (by ring)

open Cert.Reference34Ideal.Read in
theorem shared_row (X Y : FVec Ideal S4096x2048 .f32) (g b : FVec Ideal S1x2048 .f32) (a u : Fin 2048 → ℝ) (i : Fin 4096)
    (hx : ∀ l, X (ix2 i l) = (a l : EReal)) (hu : ∀ l, val_main_v50 (F := Ideal) X g b Y (ix2 i l) = (u l : EReal)) :
    val_main_v61 (F := Ideal) X g b Y (ix2 i 0) = ((∑ l, (a l - mean a) * u l) * (-(1 / 2) * (scale a / spread a)) / 2048 : ℝ) := by
  unfold val_main_v61 val_main_v60 val_main_cst_17 val_main_v56 val_main_v53 val_main_v52 val_main_cst_15 val_main_v51
  generalize val_main_v50 (F := Ideal) X g b Y = p at hu ⊢
  unfold val_main_v22 val_main_v21 val_main_cst_5 val_main_v20 val_main_v19 val_main_v18 val_main_v17 val_main_cst_4 val_main_v16 val_main_v15 val_main_v14 val_main_v13 val_main_cst_3 val_main_v12 val_main_v11 val_main_cst_2 val_main_v8 val_main_v7 val_main_v6 val_main_v5 val_main_v4 val_main_cst_0 val_main_v3 val_main_v2 val_main_cst
  pointwise
  simp only [hx, hu, width, half, small_word, mean_coe, centred_coe, spread_coe, rsqrt_spread]
  rw [Cert.Rows.div_coe _ _ (spread_pos a).ne']
  simp only [← EReal.coe_mul, ← Cert.Rows.coe_sum]
  rw [Cert.Rows.div_coe _ _ (by norm_num)]

open Cert.Reference34Ideal.Read in
theorem direct_row (X Y : FVec Ideal S4096x2048 .f32) (g b : FVec Ideal S1x2048 .f32) (a u : Fin 2048 → ℝ) (i : Fin 4096)
    (hx : ∀ l, X (ix2 i l) = (a l : EReal)) (hu : ∀ l, val_main_v50 (F := Ideal) X g b Y (ix2 i l) = (u l : EReal)) (k : Fin 2048) :
    val_main_v55 (F := Ideal) X g b Y (ix2 i k) = (u k * scale a : ℝ) := by
  unfold val_main_v55 val_main_v54
  generalize val_main_v50 (F := Ideal) X g b Y = p at hu ⊢
  unfold val_main_v19 val_main_v18 val_main_v17 val_main_cst_4 val_main_v14 val_main_v13 val_main_cst_3 val_main_v12 val_main_v11 val_main_cst_2 val_main_v8 val_main_v7 val_main_v6 val_main_v5 val_main_v4 val_main_cst_0 val_main_v3 val_main_v2 val_main_cst
  pointwise
  simp only [hx, hu, width, small_word, mean_coe, centred_coe, spread_coe, rsqrt_spread]
  simp only [← EReal.coe_mul]

open Cert.Reference34Ideal.Read in
theorem twice_row (X : FVec Ideal S4096x2048 .f32) (a : Fin 2048 → ℝ) (i : Fin 4096)
    (hx : ∀ l, X (ix2 i l) = (a l : EReal)) (k : Fin 2048) :
    val_main_v10 (F := Ideal) X (ix2 i k) = (2 * (a k - mean a) : ℝ) := by
  unfold val_main_v10 val_main_v9 val_main_cst_1 val_main_v7 val_main_v6 val_main_v5 val_main_v4 val_main_cst_0 val_main_v3 val_main_v2 val_main_cst
  pointwise
  simp only [hx, width, two, mean_coe, centred_coe]
  simp only [← EReal.coe_mul]

open Cert.Reference34Ideal.Read in
theorem reference_row (X Y : FVec Ideal S4096x2048 .f32) (g b : FVec Ideal S1x2048 .f32) (a u : Fin 2048 → ℝ) (i : Fin 4096)
    (hx : ∀ l, X (ix2 i l) = (a l : EReal)) (hu : ∀ l, val_main_v50 (F := Ideal) X g b Y (ix2 i l) = (u l : EReal)) (k : Fin 2048) :
    val_main_v74 (F := Ideal) X g b Y (ix2 i k) = (by_chain a u k : EReal) := by
  have h1 := shared_row X Y g b a u i hx hu
  have h2 := direct_row X Y g b a u i hx hu
  have h3 := twice_row X a i hx
  unfold val_main_v74 val_main_v73 val_main_v72 val_main_cst_21 val_main_v71 val_main_v70 val_main_cst_20 val_main_v69 val_main_v68 val_main_v67 val_main_v66 val_main_cst_19 val_main_v65 val_main_v64 val_main_v63 val_main_v62 val_main_cst_18 val_main_v59 val_main_v58 val_main_cst_16 val_main_v57
  generalize val_main_v61 (F := Ideal) X g b Y = p at h1 ⊢
  generalize val_main_v55 (F := Ideal) X g b Y = q at h2 ⊢
  generalize val_main_v10 (F := Ideal) X = s at h3 ⊢
  pointwise
  simp only [Fin.sum_univ_one, h1, h2, h3, width]
  simp only [← EReal.coe_mul, ← EReal.coe_neg, ← Cert.Rows.coe_sum, ← EReal.coe_add]
  rw [Cert.Rows.div_coe _ _ (by norm_num), ← EReal.coe_add]
  rfl

theorem idx : ∀ t : Fin cfg0.N, win0_0.index t = ![t.val, 0] ∧ win0_1.index t = ![0, 0] ∧ win0_2.index t = ![0, 0] ∧ win0_3.index t = ![t.val, 0]
    ∧ win0_5.index t = ![t.val, 0] ∧ win0_6.index t = ![t.val, 0] :=
  (by decide +kernel : ∀ t : Fin grid0.N, _)

theorem block_zero (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 0 t) (ix2 r l) = m ((c : Thread nD τ).loc main_arg0) (ix2 i l) := by
  blk_point [iblk, V, idx t] <;> omega

theorem block_one (m : (ℓ : Loc nD τ sig) → Buf (Elt Ideal) ℓ) (c : Dev nD) (t : Fin cfg0.N) (l : Fin 2048) :
    (show FVec Ideal S1x2048 .f32 from iblk m c 1 t) (ix2 0 l) = m ((c : Thread nD τ).loc main_arg1) (ix2 0 l) := by
  blk_point [iblk, V, idx t]

theorem block_two (m : (ℓ : Loc nD τ sig) → Buf (Elt Ideal) ℓ) (c : Dev nD) (t : Fin cfg0.N) (l : Fin 2048) :
    (show FVec Ideal S1x2048 .f32 from iblk m c 2 t) (ix2 0 l) = m ((c : Thread nD τ).loc main_arg2) (ix2 0 l) := by
  blk_point [iblk, V, idx t]

theorem block_three (m : (ℓ : Loc nD τ sig) → Buf (Elt Ideal) ℓ) (c : Dev nD) (t : Fin cfg0.N) (r : Fin 512) (i : Fin 4096) (hi : i.val = t.val * 512 + r.val) (l : Fin 2048) :
    (show FVec Ideal S512x2048 .f32 from iblk m c 3 t) (ix2 r l) = m ((c : Thread nD τ).loc main_arg3) (ix2 i l) := by
  blk_point [iblk, V, idx t] <;> omega

/-- The arguments hold real numbers. -/
structure Real (X Y : FVec Ideal S4096x2048 .f32) (g b : FVec Ideal S1x2048 .f32) : Prop where
  x : ∀ i l, X (ix2 i l) = ((X (ix2 i l)).toReal : EReal)
  y : ∀ i l, Y (ix2 i l) = ((Y (ix2 i l)).toReal : EReal)
  g : ∀ l, g (ix2 0 l) = ((g (ix2 0 l)).toReal : EReal)
  b : ∀ l, b (ix2 0 l) = ((b (ix2 0 l)).toReal : EReal)

/-- That, of the arguments that a device's memory holds. -/
abbrev Held (m : (ℓ : Loc nD τ sig) → Buf (Elt Ideal) ℓ) (c : Dev nD) : Prop :=
  Real (m ((c : Thread nD τ).loc main_arg0)) (m ((c : Thread nD τ).loc main_arg3)) (m ((c : Thread nD τ).loc main_arg1)) (m ((c : Thread nD τ).loc main_arg2))

theorem block_row (m : (ℓ : Loc nD τ sig) → Buf (Elt Ideal) ℓ) (c : Dev nD) (held : Held m c)
    (t : Fin cfg0.N) (r : Fin 512) (i : Fin 4096) (hi : i.val = t.val * 512 + r.val) (k : Fin 2048) :
    k0_pay13 (F := Ideal) (k0_pay6 (iblk m c 0 t)) (k0_pay7 (iblk m c 0 t)) (k0_pay8 (iblk m c 0 t) (iblk m c 1 t) (iblk m c 2 t) (iblk m c 3 t)) (Scalar.ofBits .f32 0x3A000000#32) (iblk m c 1 t) (ix2 r k)
      = Cert.Reference34Ideal.Read.val_main_v74 (F := Ideal) (m ((c : Thread nD τ).loc main_arg0)) (m ((c : Thread nD τ).loc main_arg1)) (m ((c : Thread nD τ).loc main_arg2)) (m ((c : Thread nD τ).loc main_arg3)) (ix2 i k) := by
  have hx := fun l => (block_zero m c t r i hi l).trans (held.x i l)
  have hg := fun l => (block_one m c t l).trans (held.g l)
  have hb := fun l => (block_two m c t l).trans (held.b l)
  have hy := fun l => (block_three m c t r i hi l).trans (held.y i l)
  rw [kernel_row (iblk m c 0 t) _ (iblk m c 1 t) _ _ _ r hx (kernel_error (iblk m c 0 t) (iblk m c 3 t) (iblk m c 1 t) (iblk m c 2 t) _ _ _ _ r hx hg hb hy) hg k,
    reference_row _ _ _ _ _ _ i (held.x i) (scaled_row _ _ _ _ _ _ i (error_row _ _ _ _ _ _ _ _ i (held.x i) held.g held.b (held.y i)) held.g) k, rows_eq_chain]

theorem out_rows (m : (ℓ : Loc nD τ sig) → Buf (Elt Ideal) ℓ) (c : Dev nD) (t : Fin cfg0.N) :
    (show FVec Ideal S512x2048 .f32 from (outsAt0 m c t.val t.isLt).2.1) = k0_pay13 (F := Ideal) (k0_pay6 (iblk m c 0 t)) (k0_pay7 (iblk m c 0 t)) (k0_pay8 (iblk m c 0 t) (iblk m c 1 t) (iblk m c 2 t) (iblk m c 3 t)) (Scalar.ofBits .f32 0x3A000000#32) (iblk m c 1 t) := by
  by_cases h : t.val % 8 = 0
  · rw [outsAt0_A m c t h (by omega)]
    frame_out
  by_cases h' : t.val % 8 = 7
  · rw [outsAt0_C m c t h h']
    frame_out
  · rw [outsAt0_B m c t h h']
    frame_out

theorem out_rounded (m : (ℓ : Loc nD τ sig) → Buf (Elt Ideal) ℓ) (c : Dev nD) (t : Fin cfg0.N) :
    (show FVec Ideal S512x2048 .bf16 from (outsAt0 m c t.val t.isLt).2.2.1) = k0_pay14 (F := Ideal) (k0_pay6 (iblk m c 0 t)) (k0_pay7 (iblk m c 0 t)) (k0_pay8 (iblk m c 0 t) (iblk m c 1 t) (iblk m c 2 t) (iblk m c 3 t)) (Scalar.ofBits .f32 0x3A000000#32) (iblk m c 1 t) := by
  by_cases h : t.val % 8 = 0
  · rw [outsAt0_A m c t h (by omega)]
    frame_out
  by_cases h' : t.val % 8 = 7
  · rw [outsAt0_C m c t h h']
    frame_out
  · rw [outsAt0_B m c t h h']
    frame_out

theorem final_rows (m : (ℓ : Loc nD τ sig) → Buf (Elt Ideal) ℓ) (c : Dev nD) (held : Held m c) :
    (dats m 0 c).arrAt 5 (cfgs 0).N = Cert.Reference34Ideal.Read.val_main_v74 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  refine (congrFun (out_rows m c t) y).trans ?_
  have h0 : (((View.whole main_v0_1).slice (win0_5.rect t)).emb y 0).val = t.val * 512 + (y 0).val := by blk_point [idx t] <;> omega
  have h1 : (((View.whole main_v0_1).slice (win0_5.rect t)).emb y 1).val = (y 1).val := by blk_point [idx t]
  generalize (((View.whole main_v0_1).slice (win0_5.rect t)).emb y) = z at h0 h1 ⊢
  rw [eq_ix2 y, eq_ix2 z, show z 1 = y 1 from Fin.ext h1]
  exact block_row m c held t (y 0) (z 0) h0 (y 1)

theorem final_rounded (m : (ℓ : Loc nD τ sig) → Buf (Elt Ideal) ℓ) (c : Dev nD) (held : Held m c) :
    (dats m 0 c).arrAt 6 (cfgs 0).N = Cert.Reference34Ideal.Read.val_main_v75 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]
  refine (congrFun (out_rounded m c t) y).trans ?_
  have h0 : (((View.whole main_v0_2).slice (win0_6.rect t)).emb y 0).val = t.val * 512 + (y 0).val := by blk_point [idx t] <;> omega
  have h1 : (((View.whole main_v0_2).slice (win0_6.rect t)).emb y 1).val = (y 1).val := by blk_point [idx t]
  generalize (((View.whole main_v0_2).slice (win0_6.rect t)).emb y) = z at h0 h1 ⊢
  rw [eq_ix2 y, eq_ix2 z, show z 1 = y 1 from Fin.ext h1]
  exact block_row m c held t (y 0) (z 0) h0 (y 1)

attribute [local instance] Cert.Kernel34.Gen.facts Cert.Kernel34Ideal.Gen.facts Cert.Reference34Ideal.Gen.facts Cert.Pre_finite_loss.Gen.facts

theorem held_of_pre (X Y : FVec Ideal S4096x2048 .f32) (g b : FVec Ideal S1x2048 .f32)
    (h : Cert.Pre_finite_loss.fn (F := Ideal) X g b Y = fun _ => 1#1) : Real X Y g b := by
  have j : Cert.Pre_finite_loss.S_.Idx := fun k => k.elim0
  obtain ⟨h1, e2⟩ := IntOp.andi_eq_one.1 (congrFun h j)
  obtain ⟨h0, e3⟩ := IntOp.andi_eq_one.1 h1
  obtain ⟨e0, e1⟩ := IntOp.andi_eq_one.1 h0
  exact ⟨fun i l => Cert.Rows.real_of_all X _ _ _ _ j e0 (ix2 i l), fun i l => Cert.Rows.real_of_all Y _ _ _ _ j e3 (ix2 i l),
    fun l => Cert.Rows.real_of_all g _ _ _ _ j e1 (ix2 0 l), fun l => Cert.Rows.real_of_all b _ _ _ _ j e2 (ix2 0 l)⟩

theorem algebraic : Cert.algebraic_Kernel34Ideal_Reference34Ideal_pre_finite_loss := by
  intro m g m' g' pre same
  refine ⟨fun c => (dats m 0 c).arrAt 5 cfg0.N, fun c => (dats m 0 c).arrAt 6 cfg0.N, (θ_run _ _ _).mono (fun r h c => ⟨(h c).2.1, (h c).2.2.1, (h c).2.2.2.2.2⟩) (Cert.Kernel34Ideal.Value.run_blocks m g),
    (θ_run _ _ _).mono (fun r h c => ⟨(h c).1.trans ?_, (h c).2.1.trans ?_, (h c).2.2⟩) (Cert.Reference34Ideal.Value.run m' g')⟩
  all_goals obtain ⟨e0, e1, e2, e3⟩ := same c
  · refine (Cert.Reference34Ideal.Read.val_main_v74_eq _ _).trans ?_
    rw [e0, e1, e2, e3]
    exact (final_rows m c (held_of_pre _ _ _ _ (pre c))).symm
  · refine (Cert.Reference34Ideal.Read.val_main_v75_eq _ _).trans ?_
    rw [e0, e1, e2, e3]
    exact (final_rounded m c (held_of_pre _ _ _ _ (pre c))).symm

theorem frame_kernel : Cert.quiescent_Kernel34 := fun m ρ _ => Cert.Kernel34.Gen.frame m ρ

theorem frame_ideal : Cert.quiescent_Kernel34Ideal := fun m ρ _ => Cert.Kernel34Ideal.Gen.frame m ρ

theorem frame_ideal_pre : Cert.quiescent_Kernel34Ideal_pre_finite_loss := fun m ρ _ => Cert.Kernel34Ideal.Gen.frame m ρ

theorem frame_reference : Cert.quiescent_Reference34Ideal := fun m ρ _ =>
  (θ_run _ _ _).mono (fun r h => ⟨fun c => (h c).2.2, sem_eq_zero_of_no_sems (by decide) r.2⟩)
    (Cert.Reference34Ideal.Value.run m ρ)

theorem frame_reference_pre : Cert.quiescent_Reference34Ideal_pre_finite_loss := fun m ρ _ => frame_reference m ρ trivial

end Cert.LossBwdRows

end
-- ==== Proof.lean ====
module

public import proofs.«01_k».proof.Defs
public import proofs.«01_k».proof.Proof.Gen.Kernel.Frame
public import proofs.«01_k».proof.Proof.Gates
public import proofs.«01_k».proof.Proof.DownDw
public import proofs.«01_k».proof.Proof.DownDx
public import proofs.«01_k».proof.Proof.UpDw
public import proofs.«01_k».proof.Proof.UpDx
public import proofs.«01_k».proof.Proof.OutDw
public import proofs.«01_k».proof.Proof.OutDx
public import proofs.«01_k».proof.Proof.OdInDw
public import proofs.«01_k».proof.Proof.OdInDx
public import proofs.«01_k».proof.Proof.EvInDw
public import proofs.«01_k».proof.Proof.EvInDx
public import proofs.«01_k».proof.Proof.UpFwd
public import proofs.«01_k».proof.Proof.OutStep
public import proofs.«01_k».proof.Proof.OdInStep
public import proofs.«01_k».proof.Proof.EvInStep
public import proofs.«01_k».proof.Proof.FfnDownStep1
public import proofs.«01_k».proof.Proof.FfnDownStep0
public import proofs.«01_k».proof.Proof.SmallStep
public import proofs.«01_k».proof.Proof.SumReplicated
public import proofs.«01_k».proof.Proof.SumSharded
public import proofs.«01_k».proof.Proof.FfnUpStep1
public import proofs.«01_k».proof.Proof.FfnUpStep0
public import proofs.«01_k».proof.Proof.Loss
public import proofs.«01_k».proof.Proof.EvInFwd
public import proofs.«01_k».proof.Proof.OdInFwd
public import proofs.«01_k».proof.Proof.EvOutFwd
public import proofs.«01_k».proof.Proof.DownFwd
public import proofs.«01_k».proof.Proof.OdOutFwd
public import proofs.«01_k».proof.Proof.LnFwd
public import proofs.«01_k».proof.Proof.LnBwd
public import proofs.«01_k».proof.Proof.LossBwd
public import proofs.«01_k».proof.Proof.CastX
public import proofs.«01_k».proof.Proof.LnBwdRows
public import proofs.«01_k».proof.Proof.LossBwdRows
public import Idealize.ShloMosaic.Lib.Quiescent

@[expose] public section

set_option maxRecDepth 16384

noncomputable section

open Idealize.ShloMosaic Idealize.SL.Sem

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Pre_finite.Gen.facts, Cert.Pre_finite_rows.Gen.facts, Cert.Pre_finite_loss.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2, sem_eq_zero_of_no_sems (by decide) r.2⟩) (Cert.ReferenceIdeal.Value.run m ρ),
  fun m ρ _ => (θ_run _ _ _).mono (fun r h => ⟨fun c => (h c).2.2, sem_eq_zero_of_no_sems (by decide) r.2⟩) (Cert.ReferenceIdeal.Value.run m ρ),
  Cert.DownDw.frame_kernel, Cert.DownDw.frame_ideal, Cert.DownDw.frame_reference,
  Cert.DownDx.frame_kernel, Cert.DownDx.frame_ideal, Cert.DownDx.frame_reference,
  Cert.UpDw.frame_kernel, Cert.UpDw.frame_ideal, Cert.UpDw.frame_reference,
  Cert.UpDx.frame_kernel, Cert.UpDx.frame_ideal, Cert.UpDx.frame_reference,
  Cert.OutDw.frame_kernel, Cert.OutDw.frame_ideal, Cert.OutDw.frame_reference,
  Cert.OutDx.frame_kernel, Cert.OutDx.frame_ideal, Cert.OutDx.frame_reference,
  Cert.OdInDw.frame_kernel, Cert.OdInDw.frame_ideal, Cert.OdInDw.frame_reference,
  Cert.OdInDx.frame_kernel, Cert.OdInDx.frame_ideal, Cert.OdInDx.frame_reference,
  Cert.EvInDw.frame_kernel, Cert.EvInDw.frame_ideal, Cert.EvInDw.frame_reference,
  Cert.EvInDx.frame_kernel, Cert.EvInDx.frame_ideal, Cert.EvInDx.frame_reference,
  Cert.UpFwd.frame_kernel, Cert.UpFwd.frame_ideal, Cert.UpFwd.frame_reference,
  Cert.OutStep.frame_kernel, Cert.OutStep.frame_ideal, Cert.OutStep.frame_reference,
  Cert.OdInStep.frame_kernel, Cert.OdInStep.frame_ideal, Cert.OdInStep.frame_reference,
  Cert.EvInStep.frame_kernel, Cert.EvInStep.frame_ideal, Cert.EvInStep.frame_reference,
  Cert.FfnDownStep1.frame_kernel, Cert.FfnDownStep1.frame_ideal, Cert.FfnDownStep1.frame_reference,
  Cert.FfnDownStep0.frame_kernel, Cert.FfnDownStep0.frame_ideal, Cert.FfnDownStep0.frame_reference,
  Cert.SmallStep.frame_kernel, Cert.SmallStep.frame_ideal, Cert.SmallStep.frame_reference,
  Cert.SumReplicated.frame_kernel, Cert.SumReplicated.frame_ideal, Cert.SumReplicated.frame_reference,
  Cert.SumSharded.frame_kernel, Cert.SumSharded.frame_ideal, Cert.SumSharded.frame_reference,
  Cert.FfnUpStep1.frame_kernel, Cert.FfnUpStep1.frame_ideal, Cert.FfnUpStep1.frame_reference,
  Cert.FfnUpStep0.frame_kernel, Cert.FfnUpStep0.frame_ideal, Cert.FfnUpStep0.frame_reference,
  Cert.Loss.frame_kernel, Cert.Loss.frame_ideal, Cert.Loss.frame_reference,
  Cert.EvInFwd.frame_kernel, Cert.EvInFwd.frame_ideal, Cert.EvInFwd.frame_reference,
  Cert.OdInFwd.frame_kernel, Cert.OdInFwd.frame_ideal, Cert.OdInFwd.frame_reference,
  Cert.EvOutFwd.frame_kernel, Cert.EvOutFwd.frame_ideal, Cert.EvOutFwd.frame_reference,
  Cert.DownFwd.frame_kernel, Cert.DownFwd.frame_ideal, Cert.DownFwd.frame_reference,
  Cert.OdOutFwd.frame_kernel, Cert.OdOutFwd.frame_ideal, Cert.OdOutFwd.frame_reference,
  Cert.LnFwd.frame_kernel, Cert.LnFwd.frame_ideal, Cert.LnFwd.frame_reference,
  Cert.LnBwd.frame_kernel, Cert.LnBwd.frame_ideal, Cert.LnBwd.frame_reference,
  Cert.LossBwd.frame_kernel, Cert.LossBwd.frame_ideal, Cert.LossBwd.frame_reference,
  Cert.CastX.frame_kernel, Cert.CastX.frame_ideal, Cert.CastX.frame_reference,
  Cert.LnBwdRows.frame_kernel, Cert.LnBwdRows.frame_ideal, Cert.LnBwdRows.frame_ideal_pre, Cert.LnBwdRows.frame_reference, Cert.LnBwdRows.frame_reference_pre,
  Cert.LossBwdRows.frame_kernel, Cert.LossBwdRows.frame_ideal, Cert.LossBwdRows.frame_ideal_pre, Cert.LossBwdRows.frame_reference, Cert.LossBwdRows.frame_reference_pre,
  trivial, Cert.Rows.algebraic,
  trivial, Cert.DownDw.algebraic,
  trivial, Cert.DownDx.algebraic,
  trivial, Cert.UpDw.algebraic,
  trivial, Cert.UpDx.algebraic,
  trivial, Cert.OutDw.algebraic,
  trivial, Cert.OutDx.algebraic,
  trivial, Cert.OdInDw.algebraic,
  trivial, Cert.OdInDx.algebraic,
  trivial, Cert.EvInDw.algebraic,
  trivial, Cert.EvInDx.algebraic,
  trivial, Cert.UpFwd.algebraic,
  trivial, Cert.OutStep.algebraic,
  trivial, Cert.OdInStep.algebraic,
  trivial, Cert.EvInStep.algebraic,
  trivial, Cert.FfnDownStep1.algebraic,
  trivial, Cert.FfnDownStep0.algebraic,
  trivial, Cert.SmallStep.algebraic,
  trivial, Cert.SumReplicated.algebraic,
  trivial, Cert.SumSharded.algebraic,
  trivial, Cert.FfnUpStep1.algebraic,
  trivial, Cert.FfnUpStep0.algebraic,
  trivial, Cert.Loss.algebraic,
  trivial, Cert.EvInFwd.algebraic,
  trivial, Cert.OdInFwd.algebraic,
  trivial, Cert.EvOutFwd.algebraic,
  trivial, Cert.DownFwd.algebraic,
  trivial, Cert.OdOutFwd.algebraic,
  trivial, Cert.LnFwd.algebraic,
  trivial, Cert.LnBwd.algebraic,
  trivial, Cert.LossBwd.algebraic,
  trivial, Cert.CastX.algebraic,
  trivial, Cert.LnBwdRows.algebraic,
  trivial, Cert.LossBwdRows.algebraic⟩

end Cert.Proof

end
